-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_340" .f32 0x3B40C0C1#32 ((340⁻¹ : ℝ) : EReal)
  ∧ IdealRules.named_const.Statement Cert.KernelIdeal.κ "inv_5" .f32 0x3E4CCCCD#32 ((5⁻¹ : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_14) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S64x4096 : Shape := ⟨2, ![64, 4096]⟩
abbrev S64x1024 : Shape := ⟨2, ![64, 1024]⟩
abbrev S64x256 : Shape := ⟨2, ![64, 256]⟩
abbrev S64x2 : Shape := ⟨2, ![64, 2]⟩
abbrev S_ : Shape := ⟨0, ![]⟩
abbrev S64x1 : Shape := ⟨2, ![64, 1]⟩
abbrev S64 : Shape := ⟨1, ![64]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64x256 : S_.BroadcastsInDim S64x256 (![] : Fin 0 → Fin S64x256.rank)
  reducesTo_S64x256_S_d0_1 : S64x256.ReducesTo [0, 1] S_
  bcast_S_S64x2 : S_.BroadcastsInDim S64x2 (![] : Fin 0 → Fin S64x2.rank)
  reducesTo_S64x2_S_d0_1 : S64x2.ReducesTo [0, 1] S_
  slices_S64x2_S64x1_0_0 : S64x2.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  slices_S64x2_S64x1_0_1 : S64x2.Slices ![0, 1] S64x1

variable [Facts]

def fn_part3 {F : FTy → Type} [FloatOps F] (main_v50 : IVec S_ 1) (main_v52 : FVec F S64 .f32) : IVec S_ 1 :=
  let main_cst_17 : FVec F S_ .f32 := constant S_ .f32 0x3F000000#32
  let main_v53 : FVec F S64 .f32 := broadcastInDim S64 ![] bcast_S_S64 main_cst_17
  let main_v54 : FVec F S64 .f32 := addf main_v52 main_v53
  let main_cst_18 : FVec F S_ .f32 := constant S_ .f32 0x00000000#32
  let main_v55 : FVec F S64 .f32 := broadcastInDim S64 ![] bcast_S_S64 main_cst_18
  let main_v56 : IVec S64 1 := cmpf .une main_v54 main_v55
  let main_c_19 : IVec S_ 1 := constantI S_ 1 1#1
  let main_v57 : IVec S_ 1 := (fun x v => Host.reduce IntOp.andi x v reducesTo_S64_S_d0 h_S_) main_v56 main_c_19
  let main_v58 : IVec S_ 1 := andi main_v50 main_v57
  main_v58

def fn_part2 {F : FTy → Type} [FloatOps F] (main_arg11 : FVec F S64x2 .f32) (main_arg12 : FVec F S64x2 .f32) (main_v28 : IVec S_ 1) (main_v33 : IVec S64 1) (main_c_11 : IVec S_ 1) : IVec S_ 1 :=
  let main_v34 : IVec S_ 1 := (fun x v => Host.reduce IntOp.andi x v reducesTo_S64_S_d0 h_S_) main_v33 main_c_11
  let main_v35 : IVec S_ 1 := andi main_v28 main_v34
  let main_v36 : FVec F S64x1 .f32 := (extractStridedSlice S64x1 ![0, 0] · slices_S64x2_S64x1_0_0) main_arg12
  let main_v37 : FVec F S64 .f32 := shapeCast S64 main_v36 shapeCasts_S64x1_S64
  let main_v38 : FVec F S64 .f32 := Host.absf main_v37
  let main_cst_12 : FVec F S_ .f32 := constant S_ .f32 0x7F800000#32
  let main_v39 : FVec F S64 .f32 := broadcastInDim S64 ![] bcast_S_S64 main_cst_12
  let main_v40 : IVec S64 1 := cmpf .olt main_v38 main_v39
  let main_c_13 : IVec S_ 1 := constantI S_ 1 1#1
  let main_v41 : IVec S_ 1 := (fun x v => Host.reduce IntOp.andi x v reducesTo_S64_S_d0 h_S_) main_v40 main_c_13
  let main_v42 : IVec S_ 1 := andi main_v35 main_v41
  let main_v43 : FVec F S64x1 .f32 := (extractStridedSlice S64x1 ![0, 1] · slices_S64x2_S64x1_0_1) main_arg11
  let main_v44 : FVec F S64 .f32 := shapeCast S64 main_v43 shapeCasts_S64x1_S64
  let main_cst_14 : FVec F S_ .f32 := constant S_ .f32 0x3F000000#32
  let main_v45 : FVec F S64 .f32 := broadcastInDim S64 ![] bcast_S_S64 main_cst_14
  let main_v46 : FVec F S64 .f32 := addf main_v44 main_v45
  let main_cst_15 : FVec F S_ .f32 := constant S_ .f32 0x00000000#32
  let main_v47 : FVec F S64 .f32 := broadcastInDim S64 ![] bcast_S_S64 main_cst_15
  let main_v48 : IVec S64 1 := cmpf .une main_v46 main_v47
  let main_c_16 : IVec S_ 1 := constantI S_ 1 1#1
  let main_v49 : IVec S_ 1 := (fun x v => Host.reduce IntOp.andi x v reducesTo_S64_S_d0 h_S_) main_v48 main_c_16
  let main_v50 : IVec S_ 1 := andi main_v42 main_v49
  let main_v51 : FVec F S64x1 .f32 := (extractStridedSlice S64x1 ![0, 1] · slices_S64x2_S64x1_0_1) main_arg12
  let main_v52 : FVec F S64 .f32 := shapeCast S64 main_v51 shapeCasts_S64x1_S64
  fn_part3 (F := F) main_v50 main_v52

def fn_part1 {F : FTy → Type} [FloatOps F] (main_arg8 : FVec F S64x256 .f32) (main_arg10 : FVec F S64x2 .f32) (main_arg11 : FVec F S64x2 .f32) (main_arg12 : FVec F S64x2 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg8
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x2 .f32 := Host.absf main_arg10
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S64x1 .f32 := (extractStridedSlice S64x1 ![0, 0] · slices_S64x2_S64x1_0_0) main_arg11
  let main_v30 : FVec F S64 .f32 := shapeCast S64 main_v29 shapeCasts_S64x1_S64
  let main_v31 : FVec F S64 .f32 := Host.absf main_v30
  let main_cst_10 : FVec F S_ .f32 := constant S_ .f32 0x7F800000#32
  let main_v32 : FVec F S64 .f32 := broadcastInDim S64 ![] bcast_S_S64 main_cst_10
  let main_v33 : IVec S64 1 := cmpf .olt main_v31 main_v32
  let main_c_11 : IVec S_ 1 := constantI S_ 1 1#1
  fn_part2 (F := F) main_arg11 main_arg12 main_v28 main_v33 main_c_11

def fn {F : FTy → Type} [FloatOps F] (main_arg0 : FVec F S64x4096 .f32) (main_arg1 : FVec F S64x4096 .f32) (main_arg2 : FVec F S64x1024 .f32) (main_arg3 : FVec F S64x1024 .f32) (main_arg4 : FVec F S64x1024 .f32) (main_arg5 : FVec F S64x1024 .f32) (main_arg6 : FVec F S64x256 .f32) (main_arg7 : FVec F S64x256 .f32) (main_arg8 : FVec F S64x256 .f32) (main_arg9 : FVec F S64x256 .f32) (main_arg10 : FVec F S64x2 .f32) (main_arg11 : FVec F S64x2 .f32) (main_arg12 : FVec F S64x2 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x1024 .f32 := Host.absf main_arg2
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg4
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x256 .f32 := Host.absf main_arg6
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg8 main_arg10 main_arg11 main_arg12 main_v13 main_v16
-- ==== Kernel.lean ====
abbrev S64x4096 : Shape := ⟨2, ![64, 4096]⟩
abbrev S64x1024 : Shape := ⟨2, ![64, 1024]⟩
abbrev S64x256 : Shape := ⟨2, ![64, 256]⟩
abbrev S64x2 : Shape := ⟨2, ![64, 2]⟩
abbrev S64x6 : Shape := ⟨2, ![64, 6]⟩
abbrev S64x6x16 : Shape := ⟨3, ![64, 6, 16]⟩
abbrev S64x96 : Shape := ⟨2, ![64, 96]⟩
abbrev S4096 : Shape := ⟨1, ![4096]⟩
abbrev S1024 : Shape := ⟨1, ![1024]⟩
abbrev S256 : Shape := ⟨1, ![256]⟩
abbrev S96 : Shape := ⟨1, ![96]⟩
abbrev S_ : Shape := ⟨0, ![]⟩
abbrev S1x4096 : Shape := ⟨2, ![1, 4096]⟩
abbrev S1x1024 : Shape := ⟨2, ![1, 1024]⟩
abbrev S1x256 : Shape := ⟨2, ![1, 256]⟩
abbrev S1x96 : Shape := ⟨2, ![1, 96]⟩
abbrev S16 : Shape := ⟨1, ![16]⟩

abbrev nBuf : Table → Nat
  | .hbm => 18
  | .local .scVector .vmem => 26
  | _ => 0

abbrev bufTy : (tb : Table) → Fin (nBuf tb) → BufTy
  | .hbm, ⟨0, _⟩ => ⟨S64x4096, .f32⟩
  | .hbm, ⟨1, _⟩ => ⟨S64x4096, .f32⟩
  | .hbm, ⟨2, _⟩ => ⟨S64x1024, .f32⟩
  | .hbm, ⟨3, _⟩ => ⟨S64x1024, .f32⟩
  | .hbm, ⟨4, _⟩ => ⟨S64x1024, .f32⟩
  | .hbm, ⟨5, _⟩ => ⟨S64x1024, .f32⟩
  | .hbm, ⟨6, _⟩ => ⟨S64x256, .f32⟩
  | .hbm, ⟨7, _⟩ => ⟨S64x256, .f32⟩
  | .hbm, ⟨8, _⟩ => ⟨S64x256, .f32⟩
  | .hbm, ⟨9, _⟩ => ⟨S64x256, .f32⟩
  | .hbm, ⟨10, _⟩ => ⟨S64x2, .f32⟩
  | .hbm, ⟨11, _⟩ => ⟨S64x2, .f32⟩
  | .hbm, ⟨12, _⟩ => ⟨S64x2, .f32⟩
  | .hbm, ⟨13, _⟩ => ⟨S64x6, .f32⟩
  | .hbm, ⟨14, _⟩ => ⟨S64x6x16, .f32⟩
  | .hbm, ⟨15, _⟩ => ⟨S64x96, .f32⟩
  | .hbm, ⟨16, _⟩ => ⟨S64x4096, .f32⟩
  | .hbm, ⟨17, _⟩ => ⟨S64x4096, .f32⟩
  | .local .scVector .vmem, ⟨0, _⟩ => ⟨S4096, .f32⟩
  | .local .scVector .vmem, ⟨1, _⟩ => ⟨S4096, .f32⟩
  | .local .scVector .vmem, ⟨2, _⟩ => ⟨S1024, .f32⟩
  | .local .scVector .vmem, ⟨3, _⟩ => ⟨S1024, .f32⟩
  | .local .scVector .vmem, ⟨4, _⟩ => ⟨S1024, .f32⟩
  | .local .scVector .vmem, ⟨5, _⟩ => ⟨S1024, .f32⟩
  | .local .scVector .vmem, ⟨6, _⟩ => ⟨S256, .f32⟩
  | .local .scVector .vmem, ⟨7, _⟩ => ⟨S256, .f32⟩
  | .local .scVector .vmem, ⟨8, _⟩ => ⟨S256, .f32⟩
  | .local .scVector .vmem, ⟨9, _⟩ => ⟨S256, .f32⟩
  | .local .scVector .vmem, ⟨10, _⟩ => ⟨S96, .f32⟩
  | .local .scVector .vmem, ⟨11, _⟩ => ⟨S4096, .f32⟩
  | .local .scVector .vmem, ⟨12, _⟩ => ⟨S4096, .f32⟩
  | .local .scVector .vmem, ⟨13, _⟩ => ⟨S1024, .f32⟩
  | .local .scVector .vmem, ⟨14, _⟩ => ⟨S1024, .f32⟩
  | .local .scVector .vmem, ⟨15, _⟩ => ⟨S1024, .f32⟩
  | .local .scVector .vmem, ⟨16, _⟩ => ⟨S1024, .f32⟩
  | .local .scVector .vmem, ⟨17, _⟩ => ⟨S256, .f32⟩
  | .local .scVector .vmem, ⟨18, _⟩ => ⟨S256, .f32⟩
  | .local .scVector .vmem, ⟨19, _⟩ => ⟨S256, .f32⟩
  | .local .scVector .vmem, ⟨20, _⟩ => ⟨S256, .f32⟩
  | .local .scVector .vmem, ⟨21, _⟩ => ⟨S96, .f32⟩
  | .local .scVector .vmem, ⟨22, _⟩ => ⟨S4096, .f32⟩
  | .local .scVector .vmem, ⟨23, _⟩ => ⟨S4096, .f32⟩
  | .local .scVector .vmem, ⟨24, _⟩ => ⟨S4096, .f32⟩
  | .local .scVector .vmem, ⟨25, _⟩ => ⟨S4096, .f32⟩
  | _, _ => ⟨S64x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_arg7_scv : Ref sig .scVector := ⟨.hbm, 7, rfl⟩
abbrev main_arg8_scv : Ref sig .scVector := ⟨.hbm, 8, rfl⟩
abbrev main_arg9_scv : Ref sig .scVector := ⟨.hbm, 9, rfl⟩
abbrev main_v2_scv : Ref sig .scVector := ⟨.hbm, 15, rfl⟩
abbrev main_v3_0_scv : Ref sig .scVector := ⟨.hbm, 16, rfl⟩
abbrev main_v3_1_scv : Ref sig .scVector := ⟨.hbm, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev cc0_scratch19 : Ref sig .scVector := ⟨.vmem, 19, rfl⟩
abbrev cc0_scratch20 : Ref sig .scVector := ⟨.vmem, 20, rfl⟩
abbrev cc0_scratch21 : Ref sig .scVector := ⟨.vmem, 21, rfl⟩
abbrev cc0_scratch22 : Ref sig .scVector := ⟨.vmem, 22, rfl⟩
abbrev cc0_scratch23 : Ref sig .scVector := ⟨.vmem, 23, rfl⟩
abbrev cc0_scratch24 : Ref sig .scVector := ⟨.vmem, 24, rfl⟩
abbrev cc0_scratch25 : Ref sig .scVector := ⟨.vmem, 25, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_4 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_12 : BitVec 32 := 0#32
  ![v2.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_20 : BitVec 32 := 0#32
  ![v2.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_22 : BitVec 32 := 0#32
  ![v3.toNat, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_26 : BitVec 32 := 0#32
  ![v3.toNat, 0]
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_34 : BitVec 32 := 0#32
  ![v3.toNat, 0]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c1_i32 : BitVec 32 := 1#32
  let v3 : BitVec 32 := Scalar.addi v2 c1_i32
  let c0_i32_42 : BitVec 32 := 0#32
  ![v3.toNat, 0]
@[reducible] def k0_t1_loop : Scf.Loop 32 :=
  let c0_i32_81 : BitVec 32 := 0#32
  let c16_i32 : BitVec 32 := 16#32
  let v182 : BitVec 32 := Scalar.addi c0_i32_81 c16_i32
  let c1_i32_82 : BitVec 32 := 1#32
  ⟨c0_i32_81, v182, c1_i32_82⟩

def k0_chk1 (v318 : IVec S16 32) : Prop :=
  (∀ a x, ((![v318] : Fin 1 → IVec S16 32) a x).toNat < S4096.size a)
theorem k0_idx1_inb : ∀ (v318 : IVec S16 32) (k0_hw1 : k0_chk1 v318), ∀ a x, ((![v318] : Fin 1 → IVec S16 32) a x).toNat < S4096.size a := fun v318 k0_hw1 => k0_hw1

def k0_chk2 (v321 : IVec S16 32) : Prop :=
  (∀ a x, ((![v321] : Fin 1 → IVec S16 32) a x).toNat < S4096.size a)
theorem k0_idx2_inb : ∀ (v321 : IVec S16 32) (k0_hw2 : k0_chk2 v321), ∀ a x, ((![v321] : Fin 1 → IVec S16 32) a x).toNat < S4096.size a := fun v321 k0_hw2 => k0_hw2

def k0_chk3 (v324 : IVec S16 32) : Prop :=
  (∀ a x, ((![v324] : Fin 1 → IVec S16 32) a x).toNat < S4096.size a)
theorem k0_idx3_inb : ∀ (v324 : IVec S16 32) (k0_hw3 : k0_chk3 v324), ∀ a x, ((![v324] : Fin 1 → IVec S16 32) a x).toNat < S4096.size a := fun v324 k0_hw3 => k0_hw3

def k0_chk4 (v327 : IVec S16 32) : Prop :=
  (∀ a x, ((![v327] : Fin 1 → IVec S16 32) a x).toNat < S4096.size a)
theorem k0_idx4_inb : ∀ (v327 : IVec S16 32) (k0_hw4 : k0_chk4 v327), ∀ a x, ((![v327] : Fin 1 → IVec S16 32) a x).toNat < S4096.size a := fun v327 k0_hw4 => k0_hw4

def k0_chk5 (v330 : IVec S16 32) : Prop :=
  (∀ a x, ((![v330] : Fin 1 → IVec S16 32) a x).toNat < S4096.size a)
theorem k0_idx5_inb : ∀ (v330 : IVec S16 32) (k0_hw5 : k0_chk5 v330), ∀ a x, ((![v330] : Fin 1 → IVec S16 32) a x).toNat < S4096.size a := fun v330 k0_hw5 => k0_hw5

def k0_chk6 (v333 : IVec S16 32) : Prop :=
  (∀ a x, ((![v333] : Fin 1 → IVec S16 32) a x).toNat < S4096.size a)
theorem k0_idx6_inb : ∀ (v333 : IVec S16 32) (k0_hw6 : k0_chk6 v333), ∀ a x, ((![v333] : Fin 1 → IVec S16 32) a x).toNat < S4096.size a := fun v333 k0_hw6 => k0_hw6

def k0_chk7 (v336 : IVec S16 32) : Prop :=
  (∀ a x, ((![v336] : Fin 1 → IVec S16 32) a x).toNat < S4096.size a)
theorem k0_idx7_inb : ∀ (v336 : IVec S16 32) (k0_hw7 : k0_chk7 v336), ∀ a x, ((![v336] : Fin 1 → IVec S16 32) a x).toNat < S4096.size a := fun v336 k0_hw7 => k0_hw7

def k0_chk8 (v339 : IVec S16 32) : Prop :=
  (∀ a x, ((![v339] : Fin 1 → IVec S16 32) a x).toNat < S4096.size a)
theorem k0_idx8_inb : ∀ (v339 : IVec S16 32) (k0_hw8 : k0_chk8 v339), ∀ a x, ((![v339] : Fin 1 → IVec S16 32) a x).toNat < S4096.size a := fun v339 k0_hw8 => k0_hw8

def k0_chk9 (v342 : IVec S16 32) : Prop :=
  (∀ a x, ((![v342] : Fin 1 → IVec S16 32) a x).toNat < S4096.size a)
theorem k0_idx9_inb : ∀ (v342 : IVec S16 32) (k0_hw9 : k0_chk9 v342), ∀ a x, ((![v342] : Fin 1 → IVec S16 32) a x).toNat < S4096.size a := fun v342 k0_hw9 => k0_hw9

def k0_chk10 (v345 : IVec S16 32) : Prop :=
  (∀ a x, ((![v345] : Fin 1 → IVec S16 32) a x).toNat < S4096.size a)
theorem k0_idx10_inb : ∀ (v345 : IVec S16 32) (k0_hw10 : k0_chk10 v345), ∀ a x, ((![v345] : Fin 1 → IVec S16 32) a x).toNat < S4096.size a := fun v345 k0_hw10 => k0_hw10

def k0_chk11 (v348 : IVec S16 32) : Prop :=
  (∀ a x, ((![v348] : Fin 1 → IVec S16 32) a x).toNat < S4096.size a)
theorem k0_idx11_inb : ∀ (v348 : IVec S16 32) (k0_hw11 : k0_chk11 v348), ∀ a x, ((![v348] : Fin 1 → IVec S16 32) a x).toNat < S4096.size a := fun v348 k0_hw11 => k0_hw11

def k0_chk12 (v351 : IVec S16 32) : Prop :=
  (∀ a x, ((![v351] : Fin 1 → IVec S16 32) a x).toNat < S4096.size a)
theorem k0_idx12_inb : ∀ (v351 : IVec S16 32) (k0_hw12 : k0_chk12 v351), ∀ a x, ((![v351] : Fin 1 → IVec S16 32) a x).toNat < S4096.size a := fun v351 k0_hw12 => k0_hw12

def k0_chk13 (v354 : IVec S16 32) : Prop :=
  (∀ a x, ((![v354] : Fin 1 → IVec S16 32) a x).toNat < S4096.size a)
theorem k0_idx13_inb : ∀ (v354 : IVec S16 32) (k0_hw13 : k0_chk13 v354), ∀ a x, ((![v354] : Fin 1 → IVec S16 32) a x).toNat < S4096.size a := fun v354 k0_hw13 => k0_hw13

def k0_chk14 (v357 : IVec S16 32) : Prop :=
  (∀ a x, ((![v357] : Fin 1 → IVec S16 32) a x).toNat < S4096.size a)
theorem k0_idx14_inb : ∀ (v357 : IVec S16 32) (k0_hw14 : k0_chk14 v357), ∀ a x, ((![v357] : Fin 1 → IVec S16 32) a x).toNat < S4096.size a := fun v357 k0_hw14 => k0_hw14

def k0_chk15 (v360 : IVec S16 32) : Prop :=
  (∀ a x, ((![v360] : Fin 1 → IVec S16 32) a x).toNat < S4096.size a)
theorem k0_idx15_inb : ∀ (v360 : IVec S16 32) (k0_hw15 : k0_chk15 v360), ∀ a x, ((![v360] : Fin 1 → IVec S16 32) a x).toNat < S4096.size a := fun v360 k0_hw15 => k0_hw15

def k0_chk16 (v363 : IVec S16 32) : Prop :=
  (∀ a x, ((![v363] : Fin 1 → IVec S16 32) a x).toNat < S4096.size a)
theorem k0_idx16_inb : ∀ (v363 : IVec S16 32) (k0_hw16 : k0_chk16 v363), ∀ a x, ((![v363] : Fin 1 → IVec S16 32) a x).toNat < S4096.size a := fun v363 k0_hw16 => k0_hw16

def k0_chk17 (v366 : IVec S16 32) : Prop :=
  (∀ a x, ((![v366] : Fin 1 → IVec S16 32) a x).toNat < S4096.size a)
theorem k0_idx17_inb : ∀ (v366 : IVec S16 32) (k0_hw17 : k0_chk17 v366), ∀ a x, ((![v366] : Fin 1 → IVec S16 32) a x).toNat < S4096.size a := fun v366 k0_hw17 => k0_hw17

def k0_chk18 (v372 : IVec S16 32) : Prop :=
  (∀ a x, ((![v372] : Fin 1 → IVec S16 32) a x).toNat < S4096.size a)
theorem k0_idx18_inb : ∀ (v372 : IVec S16 32) (k0_hw18 : k0_chk18 v372), ∀ a x, ((![v372] : Fin 1 → IVec S16 32) a x).toNat < S4096.size a := fun v372 k0_hw18 => k0_hw18

def k0_chk19 (v379 : IVec S16 32) : Prop :=
  (∀ a x, ((![v379] : Fin 1 → IVec S16 32) a x).toNat < S4096.size a)
theorem k0_idx19_inb : ∀ (v379 : IVec S16 32) (k0_hw19 : k0_chk19 v379), ∀ a x, ((![v379] : Fin 1 → IVec S16 32) a x).toNat < S4096.size a := fun v379 k0_hw19 => k0_hw19

def k0_chk20 (v385 : IVec S16 32) : Prop :=
  (∀ a x, ((![v385] : Fin 1 → IVec S16 32) a x).toNat < S4096.size a)
theorem k0_idx20_inb : ∀ (v385 : IVec S16 32) (k0_hw20 : k0_chk20 v385), ∀ a x, ((![v385] : Fin 1 → IVec S16 32) a x).toNat < S4096.size a := fun v385 k0_hw20 => k0_hw20

def k0_chk21 (v392 : IVec S16 32) : Prop :=
  (∀ a x, ((![v392] : Fin 1 → IVec S16 32) a x).toNat < S4096.size a)
theorem k0_idx21_inb : ∀ (v392 : IVec S16 32) (k0_hw21 : k0_chk21 v392), ∀ a x, ((![v392] : Fin 1 → IVec S16 32) a x).toNat < S4096.size a := fun v392 k0_hw21 => k0_hw21

def k0_chk22 (v398 : IVec S16 32) : Prop :=
  (∀ a x, ((![v398] : Fin 1 → IVec S16 32) a x).toNat < S4096.size a)
theorem k0_idx22_inb : ∀ (v398 : IVec S16 32) (k0_hw22 : k0_chk22 v398), ∀ a x, ((![v398] : Fin 1 → IVec S16 32) a x).toNat < S4096.size a := fun v398 k0_hw22 => k0_hw22

def k0_chk23 (v405 : IVec S16 32) : Prop :=
  (∀ a x, ((![v405] : Fin 1 → IVec S16 32) a x).toNat < S4096.size a)
theorem k0_idx23_inb : ∀ (v405 : IVec S16 32) (k0_hw23 : k0_chk23 v405), ∀ a x, ((![v405] : Fin 1 → IVec S16 32) a x).toNat < S4096.size a := fun v405 k0_hw23 => k0_hw23

def k0_chk24 (v411 : IVec S16 32) : Prop :=
  (∀ a x, ((![v411] : Fin 1 → IVec S16 32) a x).toNat < S4096.size a)
theorem k0_idx24_inb : ∀ (v411 : IVec S16 32) (k0_hw24 : k0_chk24 v411), ∀ a x, ((![v411] : Fin 1 → IVec S16 32) a x).toNat < S4096.size a := fun v411 k0_hw24 => k0_hw24

def k0_chk25 (v418 : IVec S16 32) : Prop :=
  (∀ a x, ((![v418] : Fin 1 → IVec S16 32) a x).toNat < S4096.size a)
theorem k0_idx25_inb : ∀ (v418 : IVec S16 32) (k0_hw25 : k0_chk25 v418), ∀ a x, ((![v418] : Fin 1 → IVec S16 32) a x).toNat < S4096.size a := fun v418 k0_hw25 => k0_hw25

def k0_chk26 (v424 : IVec S16 32) : Prop :=
  (∀ a x, ((![v424] : Fin 1 → IVec S16 32) a x).toNat < S4096.size a)
theorem k0_idx26_inb : ∀ (v424 : IVec S16 32) (k0_hw26 : k0_chk26 v424), ∀ a x, ((![v424] : Fin 1 → IVec S16 32) a x).toNat < S4096.size a := fun v424 k0_hw26 => k0_hw26

def k0_chk27 (v431 : IVec S16 32) : Prop :=
  (∀ a x, ((![v431] : Fin 1 → IVec S16 32) a x).toNat < S4096.size a)
theorem k0_idx27_inb : ∀ (v431 : IVec S16 32) (k0_hw27 : k0_chk27 v431), ∀ a x, ((![v431] : Fin 1 → IVec S16 32) a x).toNat < S4096.size a := fun v431 k0_hw27 => k0_hw27

def k0_chk28 (v437 : IVec S16 32) : Prop :=
  (∀ a x, ((![v437] : Fin 1 → IVec S16 32) a x).toNat < S4096.size a)
theorem k0_idx28_inb : ∀ (v437 : IVec S16 32) (k0_hw28 : k0_chk28 v437), ∀ a x, ((![v437] : Fin 1 → IVec S16 32) a x).toNat < S4096.size a := fun v437 k0_hw28 => k0_hw28

def k0_chk29 (v444 : IVec S16 32) : Prop :=
  (∀ a x, ((![v444] : Fin 1 → IVec S16 32) a x).toNat < S4096.size a)
theorem k0_idx29_inb : ∀ (v444 : IVec S16 32) (k0_hw29 : k0_chk29 v444), ∀ a x, ((![v444] : Fin 1 → IVec S16 32) a x).toNat < S4096.size a := fun v444 k0_hw29 => k0_hw29

def k0_chk30 (v450 : IVec S16 32) : Prop :=
  (∀ a x, ((![v450] : Fin 1 → IVec S16 32) a x).toNat < S4096.size a)
theorem k0_idx30_inb : ∀ (v450 : IVec S16 32) (k0_hw30 : k0_chk30 v450), ∀ a x, ((![v450] : Fin 1 → IVec S16 32) a x).toNat < S4096.size a := fun v450 k0_hw30 => k0_hw30

def k0_chk31 (v457 : IVec S16 32) : Prop :=
  (∀ a x, ((![v457] : Fin 1 → IVec S16 32) a x).toNat < S4096.size a)
theorem k0_idx31_inb : ∀ (v457 : IVec S16 32) (k0_hw31 : k0_chk31 v457), ∀ a x, ((![v457] : Fin 1 → IVec S16 32) a x).toNat < S4096.size a := fun v457 k0_hw31 => k0_hw31

def k0_chk32 (v463 : IVec S16 32) : Prop :=
  (∀ a x, ((![v463] : Fin 1 → IVec S16 32) a x).toNat < S4096.size a)
theorem k0_idx32_inb : ∀ (v463 : IVec S16 32) (k0_hw32 : k0_chk32 v463), ∀ a x, ((![v463] : Fin 1 → IVec S16 32) a x).toNat < S4096.size a := fun v463 k0_hw32 => k0_hw32

def k0_chk33 (v470 : IVec S16 32) : Prop :=
  (∀ a x, ((![v470] : Fin 1 → IVec S16 32) a x).toNat < S4096.size a)
theorem k0_idx33_inb : ∀ (v470 : IVec S16 32) (k0_hw33 : k0_chk33 v470), ∀ a x, ((![v470] : Fin 1 → IVec S16 32) a x).toNat < S4096.size a := fun v470 k0_hw33 => k0_hw33

def k0_chk34 (v476 : IVec S16 32) : Prop :=
  (∀ a x, ((![v476] : Fin 1 → IVec S16 32) a x).toNat < S4096.size a)
theorem k0_idx34_inb : ∀ (v476 : IVec S16 32) (k0_hw34 : k0_chk34 v476), ∀ a x, ((![v476] : Fin 1 → IVec S16 32) a x).toNat < S4096.size a := fun v476 k0_hw34 => k0_hw34

def k0_chk35 (v483 : IVec S16 32) : Prop :=
  (∀ a x, ((![v483] : Fin 1 → IVec S16 32) a x).toNat < S4096.size a)
theorem k0_idx35_inb : ∀ (v483 : IVec S16 32) (k0_hw35 : k0_chk35 v483), ∀ a x, ((![v483] : Fin 1 → IVec S16 32) a x).toNat < S4096.size a := fun v483 k0_hw35 => k0_hw35

def k0_chk36 (v489 : IVec S16 32) : Prop :=
  (∀ a x, ((![v489] : Fin 1 → IVec S16 32) a x).toNat < S4096.size a)
theorem k0_idx36_inb : ∀ (v489 : IVec S16 32) (k0_hw36 : k0_chk36 v489), ∀ a x, ((![v489] : Fin 1 → IVec S16 32) a x).toNat < S4096.size a := fun v489 k0_hw36 => k0_hw36

def k0_chk37 (v496 : IVec S16 32) : Prop :=
  (∀ a x, ((![v496] : Fin 1 → IVec S16 32) a x).toNat < S4096.size a)
theorem k0_idx37_inb : ∀ (v496 : IVec S16 32) (k0_hw37 : k0_chk37 v496), ∀ a x, ((![v496] : Fin 1 → IVec S16 32) a x).toNat < S4096.size a := fun v496 k0_hw37 => k0_hw37

def k0_chk38 (v502 : IVec S16 32) : Prop :=
  (∀ a x, ((![v502] : Fin 1 → IVec S16 32) a x).toNat < S4096.size a)
theorem k0_idx38_inb : ∀ (v502 : IVec S16 32) (k0_hw38 : k0_chk38 v502), ∀ a x, ((![v502] : Fin 1 → IVec S16 32) a x).toNat < S4096.size a := fun v502 k0_hw38 => k0_hw38

def k0_chk39 (v509 : IVec S16 32) : Prop :=
  (∀ a x, ((![v509] : Fin 1 → IVec S16 32) a x).toNat < S4096.size a)
theorem k0_idx39_inb : ∀ (v509 : IVec S16 32) (k0_hw39 : k0_chk39 v509), ∀ a x, ((![v509] : Fin 1 → IVec S16 32) a x).toNat < S4096.size a := fun v509 k0_hw39 => k0_hw39

def k0_chk40 (v515 : IVec S16 32) : Prop :=
  (∀ a x, ((![v515] : Fin 1 → IVec S16 32) a x).toNat < S4096.size a)
theorem k0_idx40_inb : ∀ (v515 : IVec S16 32) (k0_hw40 : k0_chk40 v515), ∀ a x, ((![v515] : Fin 1 → IVec S16 32) a x).toNat < S4096.size a := fun v515 k0_hw40 => k0_hw40

def k0_chk41 (v522 : IVec S16 32) : Prop :=
  (∀ a x, ((![v522] : Fin 1 → IVec S16 32) a x).toNat < S4096.size a)
theorem k0_idx41_inb : ∀ (v522 : IVec S16 32) (k0_hw41 : k0_chk41 v522), ∀ a x, ((![v522] : Fin 1 → IVec S16 32) a x).toNat < S4096.size a := fun v522 k0_hw41 => k0_hw41

def k0_chk42 (v528 : IVec S16 32) : Prop :=
  (∀ a x, ((![v528] : Fin 1 → IVec S16 32) a x).toNat < S4096.size a)
theorem k0_idx42_inb : ∀ (v528 : IVec S16 32) (k0_hw42 : k0_chk42 v528), ∀ a x, ((![v528] : Fin 1 → IVec S16 32) a x).toNat < S4096.size a := fun v528 k0_hw42 => k0_hw42

def k0_chk43 (v535 : IVec S16 32) : Prop :=
  (∀ a x, ((![v535] : Fin 1 → IVec S16 32) a x).toNat < S4096.size a)
theorem k0_idx43_inb : ∀ (v535 : IVec S16 32) (k0_hw43 : k0_chk43 v535), ∀ a x, ((![v535] : Fin 1 → IVec S16 32) a x).toNat < S4096.size a := fun v535 k0_hw43 => k0_hw43

def k0_chk44 (v541 : IVec S16 32) : Prop :=
  (∀ a x, ((![v541] : Fin 1 → IVec S16 32) a x).toNat < S4096.size a)
theorem k0_idx44_inb : ∀ (v541 : IVec S16 32) (k0_hw44 : k0_chk44 v541), ∀ a x, ((![v541] : Fin 1 → IVec S16 32) a x).toNat < S4096.size a := fun v541 k0_hw44 => k0_hw44

def k0_chk45 (v548 : IVec S16 32) : Prop :=
  (∀ a x, ((![v548] : Fin 1 → IVec S16 32) a x).toNat < S4096.size a)
theorem k0_idx45_inb : ∀ (v548 : IVec S16 32) (k0_hw45 : k0_chk45 v548), ∀ a x, ((![v548] : Fin 1 → IVec S16 32) a x).toNat < S4096.size a := fun v548 k0_hw45 => k0_hw45

def k0_chk46 (v554 : IVec S16 32) : Prop :=
  (∀ a x, ((![v554] : Fin 1 → IVec S16 32) a x).toNat < S4096.size a)
theorem k0_idx46_inb : ∀ (v554 : IVec S16 32) (k0_hw46 : k0_chk46 v554), ∀ a x, ((![v554] : Fin 1 → IVec S16 32) a x).toNat < S4096.size a := fun v554 k0_hw46 => k0_hw46

def k0_chk47 (v561 : IVec S16 32) : Prop :=
  (∀ a x, ((![v561] : Fin 1 → IVec S16 32) a x).toNat < S4096.size a)
theorem k0_idx47_inb : ∀ (v561 : IVec S16 32) (k0_hw47 : k0_chk47 v561), ∀ a x, ((![v561] : Fin 1 → IVec S16 32) a x).toNat < S4096.size a := fun v561 k0_hw47 => k0_hw47

def k0_chk48 (v567 : IVec S16 32) : Prop :=
  (∀ a x, ((![v567] : Fin 1 → IVec S16 32) a x).toNat < S4096.size a)
theorem k0_idx48_inb : ∀ (v567 : IVec S16 32) (k0_hw48 : k0_chk48 v567), ∀ a x, ((![v567] : Fin 1 → IVec S16 32) a x).toNat < S4096.size a := fun v567 k0_hw48 => k0_hw48
def k0_off9 (k0_t1 : Fin k0_t1_loop.trips) : Fin 1 → Nat :=
  let c0_i32_81 : BitVec 32 := 0#32
  let c1_i32_82 : BitVec 32 := 1#32
  let arg51 : BitVec 32 := Scf.iv c0_i32_81 c1_i32_82 k0_t1
  let c16_i32_245 : BitVec 32 := 16#32
  let v631 : BitVec 32 := Scalar.muli arg51 c16_i32_245
  let v632 : Index := Scalar.indexCast v631
  ![v632.toNat]

def k0_chk49 (v672 : IVec S16 32) : Prop :=
  (∀ a x, ((![v672] : Fin 1 → IVec S16 32) a x).toNat < S1024.size a)
theorem k0_idx49_inb : ∀ (v672 : IVec S16 32) (k0_hw49 : k0_chk49 v672), ∀ a x, ((![v672] : Fin 1 → IVec S16 32) a x).toNat < S1024.size a := fun v672 k0_hw49 => k0_hw49

def k0_chk50 (v681 : IVec S16 32) : Prop :=
  (∀ a x, ((![v681] : Fin 1 → IVec S16 32) a x).toNat < S1024.size a)
theorem k0_idx50_inb : ∀ (v681 : IVec S16 32) (k0_hw50 : k0_chk50 v681), ∀ a x, ((![v681] : Fin 1 → IVec S16 32) a x).toNat < S1024.size a := fun v681 k0_hw50 => k0_hw50

def k0_chk51 (v692 : IVec S16 32) : Prop :=
  (∀ a x, ((![v692] : Fin 1 → IVec S16 32) a x).toNat < S1024.size a)
theorem k0_idx51_inb : ∀ (v692 : IVec S16 32) (k0_hw51 : k0_chk51 v692), ∀ a x, ((![v692] : Fin 1 → IVec S16 32) a x).toNat < S1024.size a := fun v692 k0_hw51 => k0_hw51

def k0_chk52 (v701 : IVec S16 32) : Prop :=
  (∀ a x, ((![v701] : Fin 1 → IVec S16 32) a x).toNat < S1024.size a)
theorem k0_idx52_inb : ∀ (v701 : IVec S16 32) (k0_hw52 : k0_chk52 v701), ∀ a x, ((![v701] : Fin 1 → IVec S16 32) a x).toNat < S1024.size a := fun v701 k0_hw52 => k0_hw52

def k0_chk53 (v717 : IVec S16 32) : Prop :=
  (∀ a x, ((![v717] : Fin 1 → IVec S16 32) a x).toNat < S1024.size a)
theorem k0_idx53_inb : ∀ (v717 : IVec S16 32) (k0_hw53 : k0_chk53 v717), ∀ a x, ((![v717] : Fin 1 → IVec S16 32) a x).toNat < S1024.size a := fun v717 k0_hw53 => k0_hw53

def k0_chk54 (v726 : IVec S16 32) : Prop :=
  (∀ a x, ((![v726] : Fin 1 → IVec S16 32) a x).toNat < S1024.size a)
theorem k0_idx54_inb : ∀ (v726 : IVec S16 32) (k0_hw54 : k0_chk54 v726), ∀ a x, ((![v726] : Fin 1 → IVec S16 32) a x).toNat < S1024.size a := fun v726 k0_hw54 => k0_hw54

def k0_chk55 (v737 : IVec S16 32) : Prop :=
  (∀ a x, ((![v737] : Fin 1 → IVec S16 32) a x).toNat < S1024.size a)
theorem k0_idx55_inb : ∀ (v737 : IVec S16 32) (k0_hw55 : k0_chk55 v737), ∀ a x, ((![v737] : Fin 1 → IVec S16 32) a x).toNat < S1024.size a := fun v737 k0_hw55 => k0_hw55

def k0_chk56 (v746 : IVec S16 32) : Prop :=
  (∀ a x, ((![v746] : Fin 1 → IVec S16 32) a x).toNat < S1024.size a)
theorem k0_idx56_inb : ∀ (v746 : IVec S16 32) (k0_hw56 : k0_chk56 v746), ∀ a x, ((![v746] : Fin 1 → IVec S16 32) a x).toNat < S1024.size a := fun v746 k0_hw56 => k0_hw56

def k0_chk57 (v762 : IVec S16 32) : Prop :=
  (∀ a x, ((![v762] : Fin 1 → IVec S16 32) a x).toNat < S1024.size a)
theorem k0_idx57_inb : ∀ (v762 : IVec S16 32) (k0_hw57 : k0_chk57 v762), ∀ a x, ((![v762] : Fin 1 → IVec S16 32) a x).toNat < S1024.size a := fun v762 k0_hw57 => k0_hw57

def k0_chk58 (v771 : IVec S16 32) : Prop :=
  (∀ a x, ((![v771] : Fin 1 → IVec S16 32) a x).toNat < S1024.size a)
theorem k0_idx58_inb : ∀ (v771 : IVec S16 32) (k0_hw58 : k0_chk58 v771), ∀ a x, ((![v771] : Fin 1 → IVec S16 32) a x).toNat < S1024.size a := fun v771 k0_hw58 => k0_hw58

def k0_chk59 (v782 : IVec S16 32) : Prop :=
  (∀ a x, ((![v782] : Fin 1 → IVec S16 32) a x).toNat < S1024.size a)
theorem k0_idx59_inb : ∀ (v782 : IVec S16 32) (k0_hw59 : k0_chk59 v782), ∀ a x, ((![v782] : Fin 1 → IVec S16 32) a x).toNat < S1024.size a := fun v782 k0_hw59 => k0_hw59

def k0_chk60 (v791 : IVec S16 32) : Prop :=
  (∀ a x, ((![v791] : Fin 1 → IVec S16 32) a x).toNat < S1024.size a)
theorem k0_idx60_inb : ∀ (v791 : IVec S16 32) (k0_hw60 : k0_chk60 v791), ∀ a x, ((![v791] : Fin 1 → IVec S16 32) a x).toNat < S1024.size a := fun v791 k0_hw60 => k0_hw60

def k0_chk61 (v807 : IVec S16 32) : Prop :=
  (∀ a x, ((![v807] : Fin 1 → IVec S16 32) a x).toNat < S1024.size a)
theorem k0_idx61_inb : ∀ (v807 : IVec S16 32) (k0_hw61 : k0_chk61 v807), ∀ a x, ((![v807] : Fin 1 → IVec S16 32) a x).toNat < S1024.size a := fun v807 k0_hw61 => k0_hw61

def k0_chk62 (v816 : IVec S16 32) : Prop :=
  (∀ a x, ((![v816] : Fin 1 → IVec S16 32) a x).toNat < S1024.size a)
theorem k0_idx62_inb : ∀ (v816 : IVec S16 32) (k0_hw62 : k0_chk62 v816), ∀ a x, ((![v816] : Fin 1 → IVec S16 32) a x).toNat < S1024.size a := fun v816 k0_hw62 => k0_hw62

def k0_chk63 (v827 : IVec S16 32) : Prop :=
  (∀ a x, ((![v827] : Fin 1 → IVec S16 32) a x).toNat < S1024.size a)
theorem k0_idx63_inb : ∀ (v827 : IVec S16 32) (k0_hw63 : k0_chk63 v827), ∀ a x, ((![v827] : Fin 1 → IVec S16 32) a x).toNat < S1024.size a := fun v827 k0_hw63 => k0_hw63

def k0_chk64 (v836 : IVec S16 32) : Prop :=
  (∀ a x, ((![v836] : Fin 1 → IVec S16 32) a x).toNat < S1024.size a)
theorem k0_idx64_inb : ∀ (v836 : IVec S16 32) (k0_hw64 : k0_chk64 v836), ∀ a x, ((![v836] : Fin 1 → IVec S16 32) a x).toNat < S1024.size a := fun v836 k0_hw64 => k0_hw64
@[reducible] def k0_t2_loop : Scf.Loop 32 :=
  let c0_i32_290 : BitVec 32 := 0#32
  let c10_i32_291 : BitVec 32 := 10#32
  let v852 : BitVec 32 := Scalar.addi c0_i32_290 c10_i32_291
  let c1_i32_292 : BitVec 32 := 1#32
  ⟨c0_i32_290, v852, c1_i32_292⟩

def k0_chk65 (v855 : IVec S16 32) : Prop :=
  (∀ a x, ((![v855] : Fin 1 → IVec S16 32) a x).toNat < S4096.size a)
theorem k0_idx65_inb : ∀ (v855 : IVec S16 32) (k0_hw65 : k0_chk65 v855), ∀ a x, ((![v855] : Fin 1 → IVec S16 32) a x).toNat < S4096.size a := fun v855 k0_hw65 => k0_hw65

def k0_chk66 (v858 : IVec S16 32) : Prop :=
  (∀ a x, ((![v858] : Fin 1 → IVec S16 32) a x).toNat < S4096.size a)
theorem k0_idx66_inb : ∀ (v858 : IVec S16 32) (k0_hw66 : k0_chk66 v858), ∀ a x, ((![v858] : Fin 1 → IVec S16 32) a x).toNat < S4096.size a := fun v858 k0_hw66 => k0_hw66

def k0_chk67 (v861 : IVec S16 32) : Prop :=
  (∀ a x, ((![v861] : Fin 1 → IVec S16 32) a x).toNat < S4096.size a)
theorem k0_idx67_inb : ∀ (v861 : IVec S16 32) (k0_hw67 : k0_chk67 v861), ∀ a x, ((![v861] : Fin 1 → IVec S16 32) a x).toNat < S4096.size a := fun v861 k0_hw67 => k0_hw67

def k0_chk68 (v864 : IVec S16 32) : Prop :=
  (∀ a x, ((![v864] : Fin 1 → IVec S16 32) a x).toNat < S4096.size a)
theorem k0_idx68_inb : ∀ (v864 : IVec S16 32) (k0_hw68 : k0_chk68 v864), ∀ a x, ((![v864] : Fin 1 → IVec S16 32) a x).toNat < S4096.size a := fun v864 k0_hw68 => k0_hw68

def k0_chk69 (v867 : IVec S16 32) : Prop :=
  (∀ a x, ((![v867] : Fin 1 → IVec S16 32) a x).toNat < S4096.size a)
theorem k0_idx69_inb : ∀ (v867 : IVec S16 32) (k0_hw69 : k0_chk69 v867), ∀ a x, ((![v867] : Fin 1 → IVec S16 32) a x).toNat < S4096.size a := fun v867 k0_hw69 => k0_hw69

def k0_chk70 (v870 : IVec S16 32) : Prop :=
  (∀ a x, ((![v870] : Fin 1 → IVec S16 32) a x).toNat < S4096.size a)
theorem k0_idx70_inb : ∀ (v870 : IVec S16 32) (k0_hw70 : k0_chk70 v870), ∀ a x, ((![v870] : Fin 1 → IVec S16 32) a x).toNat < S4096.size a := fun v870 k0_hw70 => k0_hw70

def k0_chk71 (v873 : IVec S16 32) : Prop :=
  (∀ a x, ((![v873] : Fin 1 → IVec S16 32) a x).toNat < S4096.size a)
theorem k0_idx71_inb : ∀ (v873 : IVec S16 32) (k0_hw71 : k0_chk71 v873), ∀ a x, ((![v873] : Fin 1 → IVec S16 32) a x).toNat < S4096.size a := fun v873 k0_hw71 => k0_hw71

def k0_chk72 (v876 : IVec S16 32) : Prop :=
  (∀ a x, ((![v876] : Fin 1 → IVec S16 32) a x).toNat < S4096.size a)
theorem k0_idx72_inb : ∀ (v876 : IVec S16 32) (k0_hw72 : k0_chk72 v876), ∀ a x, ((![v876] : Fin 1 → IVec S16 32) a x).toNat < S4096.size a := fun v876 k0_hw72 => k0_hw72

def k0_chk73 (v879 : IVec S16 32) : Prop :=
  (∀ a x, ((![v879] : Fin 1 → IVec S16 32) a x).toNat < S4096.size a)
theorem k0_idx73_inb : ∀ (v879 : IVec S16 32) (k0_hw73 : k0_chk73 v879), ∀ a x, ((![v879] : Fin 1 → IVec S16 32) a x).toNat < S4096.size a := fun v879 k0_hw73 => k0_hw73

def k0_chk74 (v882 : IVec S16 32) : Prop :=
  (∀ a x, ((![v882] : Fin 1 → IVec S16 32) a x).toNat < S4096.size a)
theorem k0_idx74_inb : ∀ (v882 : IVec S16 32) (k0_hw74 : k0_chk74 v882), ∀ a x, ((![v882] : Fin 1 → IVec S16 32) a x).toNat < S4096.size a := fun v882 k0_hw74 => k0_hw74

def k0_chk75 (v885 : IVec S16 32) : Prop :=
  (∀ a x, ((![v885] : Fin 1 → IVec S16 32) a x).toNat < S4096.size a)
theorem k0_idx75_inb : ∀ (v885 : IVec S16 32) (k0_hw75 : k0_chk75 v885), ∀ a x, ((![v885] : Fin 1 → IVec S16 32) a x).toNat < S4096.size a := fun v885 k0_hw75 => k0_hw75

def k0_chk76 (v888 : IVec S16 32) : Prop :=
  (∀ a x, ((![v888] : Fin 1 → IVec S16 32) a x).toNat < S4096.size a)
theorem k0_idx76_inb : ∀ (v888 : IVec S16 32) (k0_hw76 : k0_chk76 v888), ∀ a x, ((![v888] : Fin 1 → IVec S16 32) a x).toNat < S4096.size a := fun v888 k0_hw76 => k0_hw76

def k0_chk77 (v891 : IVec S16 32) : Prop :=
  (∀ a x, ((![v891] : Fin 1 → IVec S16 32) a x).toNat < S4096.size a)
theorem k0_idx77_inb : ∀ (v891 : IVec S16 32) (k0_hw77 : k0_chk77 v891), ∀ a x, ((![v891] : Fin 1 → IVec S16 32) a x).toNat < S4096.size a := fun v891 k0_hw77 => k0_hw77

def k0_chk78 (v894 : IVec S16 32) : Prop :=
  (∀ a x, ((![v894] : Fin 1 → IVec S16 32) a x).toNat < S4096.size a)
theorem k0_idx78_inb : ∀ (v894 : IVec S16 32) (k0_hw78 : k0_chk78 v894), ∀ a x, ((![v894] : Fin 1 → IVec S16 32) a x).toNat < S4096.size a := fun v894 k0_hw78 => k0_hw78

def k0_chk79 (v897 : IVec S16 32) : Prop :=
  (∀ a x, ((![v897] : Fin 1 → IVec S16 32) a x).toNat < S4096.size a)
theorem k0_idx79_inb : ∀ (v897 : IVec S16 32) (k0_hw79 : k0_chk79 v897), ∀ a x, ((![v897] : Fin 1 → IVec S16 32) a x).toNat < S4096.size a := fun v897 k0_hw79 => k0_hw79

def k0_chk80 (v900 : IVec S16 32) : Prop :=
  (∀ a x, ((![v900] : Fin 1 → IVec S16 32) a x).toNat < S4096.size a)
theorem k0_idx80_inb : ∀ (v900 : IVec S16 32) (k0_hw80 : k0_chk80 v900), ∀ a x, ((![v900] : Fin 1 → IVec S16 32) a x).toNat < S4096.size a := fun v900 k0_hw80 => k0_hw80
@[reducible] def k0_t3_loop : Scf.Loop 32 :=
  let c0_i32_132 : BitVec 32 := 0#32
  let c16_i32_133 : BitVec 32 := 16#32
  let v281 : BitVec 32 := Scalar.addi c0_i32_132 c16_i32_133
  let c1_i32_134 : BitVec 32 := 1#32
  ⟨c0_i32_132, v281, c1_i32_134⟩

def k0_chk81 (v318 : IVec S16 32) : Prop :=
  (∀ a x, ((![v318] : Fin 1 → IVec S16 32) a x).toNat < S4096.size a)
theorem k0_idx81_inb : ∀ (v318 : IVec S16 32) (k0_hw81 : k0_chk81 v318), ∀ a x, ((![v318] : Fin 1 → IVec S16 32) a x).toNat < S4096.size a := fun v318 k0_hw81 => k0_hw81

def k0_chk82 (v321 : IVec S16 32) : Prop :=
  (∀ a x, ((![v321] : Fin 1 → IVec S16 32) a x).toNat < S4096.size a)
theorem k0_idx82_inb : ∀ (v321 : IVec S16 32) (k0_hw82 : k0_chk82 v321), ∀ a x, ((![v321] : Fin 1 → IVec S16 32) a x).toNat < S4096.size a := fun v321 k0_hw82 => k0_hw82

def k0_chk83 (v324 : IVec S16 32) : Prop :=
  (∀ a x, ((![v324] : Fin 1 → IVec S16 32) a x).toNat < S4096.size a)
theorem k0_idx83_inb : ∀ (v324 : IVec S16 32) (k0_hw83 : k0_chk83 v324), ∀ a x, ((![v324] : Fin 1 → IVec S16 32) a x).toNat < S4096.size a := fun v324 k0_hw83 => k0_hw83

def k0_chk84 (v327 : IVec S16 32) : Prop :=
  (∀ a x, ((![v327] : Fin 1 → IVec S16 32) a x).toNat < S4096.size a)
theorem k0_idx84_inb : ∀ (v327 : IVec S16 32) (k0_hw84 : k0_chk84 v327), ∀ a x, ((![v327] : Fin 1 → IVec S16 32) a x).toNat < S4096.size a := fun v327 k0_hw84 => k0_hw84

def k0_chk85 (v330 : IVec S16 32) : Prop :=
  (∀ a x, ((![v330] : Fin 1 → IVec S16 32) a x).toNat < S4096.size a)
theorem k0_idx85_inb : ∀ (v330 : IVec S16 32) (k0_hw85 : k0_chk85 v330), ∀ a x, ((![v330] : Fin 1 → IVec S16 32) a x).toNat < S4096.size a := fun v330 k0_hw85 => k0_hw85

def k0_chk86 (v333 : IVec S16 32) : Prop :=
  (∀ a x, ((![v333] : Fin 1 → IVec S16 32) a x).toNat < S4096.size a)
theorem k0_idx86_inb : ∀ (v333 : IVec S16 32) (k0_hw86 : k0_chk86 v333), ∀ a x, ((![v333] : Fin 1 → IVec S16 32) a x).toNat < S4096.size a := fun v333 k0_hw86 => k0_hw86

def k0_chk87 (v336 : IVec S16 32) : Prop :=
  (∀ a x, ((![v336] : Fin 1 → IVec S16 32) a x).toNat < S4096.size a)
theorem k0_idx87_inb : ∀ (v336 : IVec S16 32) (k0_hw87 : k0_chk87 v336), ∀ a x, ((![v336] : Fin 1 → IVec S16 32) a x).toNat < S4096.size a := fun v336 k0_hw87 => k0_hw87

def k0_chk88 (v339 : IVec S16 32) : Prop :=
  (∀ a x, ((![v339] : Fin 1 → IVec S16 32) a x).toNat < S4096.size a)
theorem k0_idx88_inb : ∀ (v339 : IVec S16 32) (k0_hw88 : k0_chk88 v339), ∀ a x, ((![v339] : Fin 1 → IVec S16 32) a x).toNat < S4096.size a := fun v339 k0_hw88 => k0_hw88

def k0_chk89 (v342 : IVec S16 32) : Prop :=
  (∀ a x, ((![v342] : Fin 1 → IVec S16 32) a x).toNat < S4096.size a)
theorem k0_idx89_inb : ∀ (v342 : IVec S16 32) (k0_hw89 : k0_chk89 v342), ∀ a x, ((![v342] : Fin 1 → IVec S16 32) a x).toNat < S4096.size a := fun v342 k0_hw89 => k0_hw89

def k0_chk90 (v345 : IVec S16 32) : Prop :=
  (∀ a x, ((![v345] : Fin 1 → IVec S16 32) a x).toNat < S4096.size a)
theorem k0_idx90_inb : ∀ (v345 : IVec S16 32) (k0_hw90 : k0_chk90 v345), ∀ a x, ((![v345] : Fin 1 → IVec S16 32) a x).toNat < S4096.size a := fun v345 k0_hw90 => k0_hw90

def k0_chk91 (v348 : IVec S16 32) : Prop :=
  (∀ a x, ((![v348] : Fin 1 → IVec S16 32) a x).toNat < S4096.size a)
theorem k0_idx91_inb : ∀ (v348 : IVec S16 32) (k0_hw91 : k0_chk91 v348), ∀ a x, ((![v348] : Fin 1 → IVec S16 32) a x).toNat < S4096.size a := fun v348 k0_hw91 => k0_hw91

def k0_chk92 (v351 : IVec S16 32) : Prop :=
  (∀ a x, ((![v351] : Fin 1 → IVec S16 32) a x).toNat < S4096.size a)
theorem k0_idx92_inb : ∀ (v351 : IVec S16 32) (k0_hw92 : k0_chk92 v351), ∀ a x, ((![v351] : Fin 1 → IVec S16 32) a x).toNat < S4096.size a := fun v351 k0_hw92 => k0_hw92

def k0_chk93 (v354 : IVec S16 32) : Prop :=
  (∀ a x, ((![v354] : Fin 1 → IVec S16 32) a x).toNat < S4096.size a)
theorem k0_idx93_inb : ∀ (v354 : IVec S16 32) (k0_hw93 : k0_chk93 v354), ∀ a x, ((![v354] : Fin 1 → IVec S16 32) a x).toNat < S4096.size a := fun v354 k0_hw93 => k0_hw93

def k0_chk94 (v357 : IVec S16 32) : Prop :=
  (∀ a x, ((![v357] : Fin 1 → IVec S16 32) a x).toNat < S4096.size a)
theorem k0_idx94_inb : ∀ (v357 : IVec S16 32) (k0_hw94 : k0_chk94 v357), ∀ a x, ((![v357] : Fin 1 → IVec S16 32) a x).toNat < S4096.size a := fun v357 k0_hw94 => k0_hw94

def k0_chk95 (v360 : IVec S16 32) : Prop :=
  (∀ a x, ((![v360] : Fin 1 → IVec S16 32) a x).toNat < S4096.size a)
theorem k0_idx95_inb : ∀ (v360 : IVec S16 32) (k0_hw95 : k0_chk95 v360), ∀ a x, ((![v360] : Fin 1 → IVec S16 32) a x).toNat < S4096.size a := fun v360 k0_hw95 => k0_hw95

def k0_chk96 (v363 : IVec S16 32) : Prop :=
  (∀ a x, ((![v363] : Fin 1 → IVec S16 32) a x).toNat < S4096.size a)
theorem k0_idx96_inb : ∀ (v363 : IVec S16 32) (k0_hw96 : k0_chk96 v363), ∀ a x, ((![v363] : Fin 1 → IVec S16 32) a x).toNat < S4096.size a := fun v363 k0_hw96 => k0_hw96

def k0_chk97 (v366 : IVec S16 32) : Prop :=
  (∀ a x, ((![v366] : Fin 1 → IVec S16 32) a x).toNat < S4096.size a)
theorem k0_idx97_inb : ∀ (v366 : IVec S16 32) (k0_hw97 : k0_chk97 v366), ∀ a x, ((![v366] : Fin 1 → IVec S16 32) a x).toNat < S4096.size a := fun v366 k0_hw97 => k0_hw97

def k0_chk98 (v372 : IVec S16 32) : Prop :=
  (∀ a x, ((![v372] : Fin 1 → IVec S16 32) a x).toNat < S4096.size a)
theorem k0_idx98_inb : ∀ (v372 : IVec S16 32) (k0_hw98 : k0_chk98 v372), ∀ a x, ((![v372] : Fin 1 → IVec S16 32) a x).toNat < S4096.size a := fun v372 k0_hw98 => k0_hw98

def k0_chk99 (v379 : IVec S16 32) : Prop :=
  (∀ a x, ((![v379] : Fin 1 → IVec S16 32) a x).toNat < S4096.size a)
theorem k0_idx99_inb : ∀ (v379 : IVec S16 32) (k0_hw99 : k0_chk99 v379), ∀ a x, ((![v379] : Fin 1 → IVec S16 32) a x).toNat < S4096.size a := fun v379 k0_hw99 => k0_hw99

def k0_chk100 (v385 : IVec S16 32) : Prop :=
  (∀ a x, ((![v385] : Fin 1 → IVec S16 32) a x).toNat < S4096.size a)
theorem k0_idx100_inb : ∀ (v385 : IVec S16 32) (k0_hw100 : k0_chk100 v385), ∀ a x, ((![v385] : Fin 1 → IVec S16 32) a x).toNat < S4096.size a := fun v385 k0_hw100 => k0_hw100

def k0_chk101 (v392 : IVec S16 32) : Prop :=
  (∀ a x, ((![v392] : Fin 1 → IVec S16 32) a x).toNat < S4096.size a)
theorem k0_idx101_inb : ∀ (v392 : IVec S16 32) (k0_hw101 : k0_chk101 v392), ∀ a x, ((![v392] : Fin 1 → IVec S16 32) a x).toNat < S4096.size a := fun v392 k0_hw101 => k0_hw101

def k0_chk102 (v398 : IVec S16 32) : Prop :=
  (∀ a x, ((![v398] : Fin 1 → IVec S16 32) a x).toNat < S4096.size a)
theorem k0_idx102_inb : ∀ (v398 : IVec S16 32) (k0_hw102 : k0_chk102 v398), ∀ a x, ((![v398] : Fin 1 → IVec S16 32) a x).toNat < S4096.size a := fun v398 k0_hw102 => k0_hw102

def k0_chk103 (v405 : IVec S16 32) : Prop :=
  (∀ a x, ((![v405] : Fin 1 → IVec S16 32) a x).toNat < S4096.size a)
theorem k0_idx103_inb : ∀ (v405 : IVec S16 32) (k0_hw103 : k0_chk103 v405), ∀ a x, ((![v405] : Fin 1 → IVec S16 32) a x).toNat < S4096.size a := fun v405 k0_hw103 => k0_hw103

def k0_chk104 (v411 : IVec S16 32) : Prop :=
  (∀ a x, ((![v411] : Fin 1 → IVec S16 32) a x).toNat < S4096.size a)
theorem k0_idx104_inb : ∀ (v411 : IVec S16 32) (k0_hw104 : k0_chk104 v411), ∀ a x, ((![v411] : Fin 1 → IVec S16 32) a x).toNat < S4096.size a := fun v411 k0_hw104 => k0_hw104

def k0_chk105 (v418 : IVec S16 32) : Prop :=
  (∀ a x, ((![v418] : Fin 1 → IVec S16 32) a x).toNat < S4096.size a)
theorem k0_idx105_inb : ∀ (v418 : IVec S16 32) (k0_hw105 : k0_chk105 v418), ∀ a x, ((![v418] : Fin 1 → IVec S16 32) a x).toNat < S4096.size a := fun v418 k0_hw105 => k0_hw105

def k0_chk106 (v424 : IVec S16 32) : Prop :=
  (∀ a x, ((![v424] : Fin 1 → IVec S16 32) a x).toNat < S4096.size a)
theorem k0_idx106_inb : ∀ (v424 : IVec S16 32) (k0_hw106 : k0_chk106 v424), ∀ a x, ((![v424] : Fin 1 → IVec S16 32) a x).toNat < S4096.size a := fun v424 k0_hw106 => k0_hw106

def k0_chk107 (v431 : IVec S16 32) : Prop :=
  (∀ a x, ((![v431] : Fin 1 → IVec S16 32) a x).toNat < S4096.size a)
theorem k0_idx107_inb : ∀ (v431 : IVec S16 32) (k0_hw107 : k0_chk107 v431), ∀ a x, ((![v431] : Fin 1 → IVec S16 32) a x).toNat < S4096.size a := fun v431 k0_hw107 => k0_hw107

def k0_chk108 (v437 : IVec S16 32) : Prop :=
  (∀ a x, ((![v437] : Fin 1 → IVec S16 32) a x).toNat < S4096.size a)
theorem k0_idx108_inb : ∀ (v437 : IVec S16 32) (k0_hw108 : k0_chk108 v437), ∀ a x, ((![v437] : Fin 1 → IVec S16 32) a x).toNat < S4096.size a := fun v437 k0_hw108 => k0_hw108

def k0_chk109 (v444 : IVec S16 32) : Prop :=
  (∀ a x, ((![v444] : Fin 1 → IVec S16 32) a x).toNat < S4096.size a)
theorem k0_idx109_inb : ∀ (v444 : IVec S16 32) (k0_hw109 : k0_chk109 v444), ∀ a x, ((![v444] : Fin 1 → IVec S16 32) a x).toNat < S4096.size a := fun v444 k0_hw109 => k0_hw109

def k0_chk110 (v450 : IVec S16 32) : Prop :=
  (∀ a x, ((![v450] : Fin 1 → IVec S16 32) a x).toNat < S4096.size a)
theorem k0_idx110_inb : ∀ (v450 : IVec S16 32) (k0_hw110 : k0_chk110 v450), ∀ a x, ((![v450] : Fin 1 → IVec S16 32) a x).toNat < S4096.size a := fun v450 k0_hw110 => k0_hw110

def k0_chk111 (v457 : IVec S16 32) : Prop :=
  (∀ a x, ((![v457] : Fin 1 → IVec S16 32) a x).toNat < S4096.size a)
theorem k0_idx111_inb : ∀ (v457 : IVec S16 32) (k0_hw111 : k0_chk111 v457), ∀ a x, ((![v457] : Fin 1 → IVec S16 32) a x).toNat < S4096.size a := fun v457 k0_hw111 => k0_hw111

def k0_chk112 (v463 : IVec S16 32) : Prop :=
  (∀ a x, ((![v463] : Fin 1 → IVec S16 32) a x).toNat < S4096.size a)
theorem k0_idx112_inb : ∀ (v463 : IVec S16 32) (k0_hw112 : k0_chk112 v463), ∀ a x, ((![v463] : Fin 1 → IVec S16 32) a x).toNat < S4096.size a := fun v463 k0_hw112 => k0_hw112

def k0_chk113 (v470 : IVec S16 32) : Prop :=
  (∀ a x, ((![v470] : Fin 1 → IVec S16 32) a x).toNat < S4096.size a)
theorem k0_idx113_inb : ∀ (v470 : IVec S16 32) (k0_hw113 : k0_chk113 v470), ∀ a x, ((![v470] : Fin 1 → IVec S16 32) a x).toNat < S4096.size a := fun v470 k0_hw113 => k0_hw113

def k0_chk114 (v476 : IVec S16 32) : Prop :=
  (∀ a x, ((![v476] : Fin 1 → IVec S16 32) a x).toNat < S4096.size a)
theorem k0_idx114_inb : ∀ (v476 : IVec S16 32) (k0_hw114 : k0_chk114 v476), ∀ a x, ((![v476] : Fin 1 → IVec S16 32) a x).toNat < S4096.size a := fun v476 k0_hw114 => k0_hw114

def k0_chk115 (v483 : IVec S16 32) : Prop :=
  (∀ a x, ((![v483] : Fin 1 → IVec S16 32) a x).toNat < S4096.size a)
theorem k0_idx115_inb : ∀ (v483 : IVec S16 32) (k0_hw115 : k0_chk115 v483), ∀ a x, ((![v483] : Fin 1 → IVec S16 32) a x).toNat < S4096.size a := fun v483 k0_hw115 => k0_hw115

def k0_chk116 (v489 : IVec S16 32) : Prop :=
  (∀ a x, ((![v489] : Fin 1 → IVec S16 32) a x).toNat < S4096.size a)
theorem k0_idx116_inb : ∀ (v489 : IVec S16 32) (k0_hw116 : k0_chk116 v489), ∀ a x, ((![v489] : Fin 1 → IVec S16 32) a x).toNat < S4096.size a := fun v489 k0_hw116 => k0_hw116

def k0_chk117 (v496 : IVec S16 32) : Prop :=
  (∀ a x, ((![v496] : Fin 1 → IVec S16 32) a x).toNat < S4096.size a)
theorem k0_idx117_inb : ∀ (v496 : IVec S16 32) (k0_hw117 : k0_chk117 v496), ∀ a x, ((![v496] : Fin 1 → IVec S16 32) a x).toNat < S4096.size a := fun v496 k0_hw117 => k0_hw117

def k0_chk118 (v502 : IVec S16 32) : Prop :=
  (∀ a x, ((![v502] : Fin 1 → IVec S16 32) a x).toNat < S4096.size a)
theorem k0_idx118_inb : ∀ (v502 : IVec S16 32) (k0_hw118 : k0_chk118 v502), ∀ a x, ((![v502] : Fin 1 → IVec S16 32) a x).toNat < S4096.size a := fun v502 k0_hw118 => k0_hw118

def k0_chk119 (v509 : IVec S16 32) : Prop :=
  (∀ a x, ((![v509] : Fin 1 → IVec S16 32) a x).toNat < S4096.size a)
theorem k0_idx119_inb : ∀ (v509 : IVec S16 32) (k0_hw119 : k0_chk119 v509), ∀ a x, ((![v509] : Fin 1 → IVec S16 32) a x).toNat < S4096.size a := fun v509 k0_hw119 => k0_hw119

def k0_chk120 (v515 : IVec S16 32) : Prop :=
  (∀ a x, ((![v515] : Fin 1 → IVec S16 32) a x).toNat < S4096.size a)
theorem k0_idx120_inb : ∀ (v515 : IVec S16 32) (k0_hw120 : k0_chk120 v515), ∀ a x, ((![v515] : Fin 1 → IVec S16 32) a x).toNat < S4096.size a := fun v515 k0_hw120 => k0_hw120

def k0_chk121 (v522 : IVec S16 32) : Prop :=
  (∀ a x, ((![v522] : Fin 1 → IVec S16 32) a x).toNat < S4096.size a)
theorem k0_idx121_inb : ∀ (v522 : IVec S16 32) (k0_hw121 : k0_chk121 v522), ∀ a x, ((![v522] : Fin 1 → IVec S16 32) a x).toNat < S4096.size a := fun v522 k0_hw121 => k0_hw121

def k0_chk122 (v528 : IVec S16 32) : Prop :=
  (∀ a x, ((![v528] : Fin 1 → IVec S16 32) a x).toNat < S4096.size a)
theorem k0_idx122_inb : ∀ (v528 : IVec S16 32) (k0_hw122 : k0_chk122 v528), ∀ a x, ((![v528] : Fin 1 → IVec S16 32) a x).toNat < S4096.size a := fun v528 k0_hw122 => k0_hw122

def k0_chk123 (v535 : IVec S16 32) : Prop :=
  (∀ a x, ((![v535] : Fin 1 → IVec S16 32) a x).toNat < S4096.size a)
theorem k0_idx123_inb : ∀ (v535 : IVec S16 32) (k0_hw123 : k0_chk123 v535), ∀ a x, ((![v535] : Fin 1 → IVec S16 32) a x).toNat < S4096.size a := fun v535 k0_hw123 => k0_hw123

def k0_chk124 (v541 : IVec S16 32) : Prop :=
  (∀ a x, ((![v541] : Fin 1 → IVec S16 32) a x).toNat < S4096.size a)
theorem k0_idx124_inb : ∀ (v541 : IVec S16 32) (k0_hw124 : k0_chk124 v541), ∀ a x, ((![v541] : Fin 1 → IVec S16 32) a x).toNat < S4096.size a := fun v541 k0_hw124 => k0_hw124

def k0_chk125 (v548 : IVec S16 32) : Prop :=
  (∀ a x, ((![v548] : Fin 1 → IVec S16 32) a x).toNat < S4096.size a)
theorem k0_idx125_inb : ∀ (v548 : IVec S16 32) (k0_hw125 : k0_chk125 v548), ∀ a x, ((![v548] : Fin 1 → IVec S16 32) a x).toNat < S4096.size a := fun v548 k0_hw125 => k0_hw125

def k0_chk126 (v554 : IVec S16 32) : Prop :=
  (∀ a x, ((![v554] : Fin 1 → IVec S16 32) a x).toNat < S4096.size a)
theorem k0_idx126_inb : ∀ (v554 : IVec S16 32) (k0_hw126 : k0_chk126 v554), ∀ a x, ((![v554] : Fin 1 → IVec S16 32) a x).toNat < S4096.size a := fun v554 k0_hw126 => k0_hw126

def k0_chk127 (v561 : IVec S16 32) : Prop :=
  (∀ a x, ((![v561] : Fin 1 → IVec S16 32) a x).toNat < S4096.size a)
theorem k0_idx127_inb : ∀ (v561 : IVec S16 32) (k0_hw127 : k0_chk127 v561), ∀ a x, ((![v561] : Fin 1 → IVec S16 32) a x).toNat < S4096.size a := fun v561 k0_hw127 => k0_hw127

def k0_chk128 (v567 : IVec S16 32) : Prop :=
  (∀ a x, ((![v567] : Fin 1 → IVec S16 32) a x).toNat < S4096.size a)
theorem k0_idx128_inb : ∀ (v567 : IVec S16 32) (k0_hw128 : k0_chk128 v567), ∀ a x, ((![v567] : Fin 1 → IVec S16 32) a x).toNat < S4096.size a := fun v567 k0_hw128 => k0_hw128
def k0_off10 (k0_t3 : Fin k0_t3_loop.trips) : Fin 1 → Nat :=
  let c0_i32_132 : BitVec 32 := 0#32
  let c1_i32_134 : BitVec 32 := 1#32
  let arg51 : BitVec 32 := Scf.iv c0_i32_132 c1_i32_134 k0_t3
  let c16_i32_245 : BitVec 32 := 16#32
  let v631 : BitVec 32 := Scalar.muli arg51 c16_i32_245
  let v632 : Index := Scalar.indexCast v631
  ![v632.toNat]

def k0_chk129 (v672 : IVec S16 32) : Prop :=
  (∀ a x, ((![v672] : Fin 1 → IVec S16 32) a x).toNat < S1024.size a)
theorem k0_idx129_inb : ∀ (v672 : IVec S16 32) (k0_hw129 : k0_chk129 v672), ∀ a x, ((![v672] : Fin 1 → IVec S16 32) a x).toNat < S1024.size a := fun v672 k0_hw129 => k0_hw129

def k0_chk130 (v681 : IVec S16 32) : Prop :=
  (∀ a x, ((![v681] : Fin 1 → IVec S16 32) a x).toNat < S1024.size a)
theorem k0_idx130_inb : ∀ (v681 : IVec S16 32) (k0_hw130 : k0_chk130 v681), ∀ a x, ((![v681] : Fin 1 → IVec S16 32) a x).toNat < S1024.size a := fun v681 k0_hw130 => k0_hw130

def k0_chk131 (v692 : IVec S16 32) : Prop :=
  (∀ a x, ((![v692] : Fin 1 → IVec S16 32) a x).toNat < S1024.size a)
theorem k0_idx131_inb : ∀ (v692 : IVec S16 32) (k0_hw131 : k0_chk131 v692), ∀ a x, ((![v692] : Fin 1 → IVec S16 32) a x).toNat < S1024.size a := fun v692 k0_hw131 => k0_hw131

def k0_chk132 (v701 : IVec S16 32) : Prop :=
  (∀ a x, ((![v701] : Fin 1 → IVec S16 32) a x).toNat < S1024.size a)
theorem k0_idx132_inb : ∀ (v701 : IVec S16 32) (k0_hw132 : k0_chk132 v701), ∀ a x, ((![v701] : Fin 1 → IVec S16 32) a x).toNat < S1024.size a := fun v701 k0_hw132 => k0_hw132

def k0_chk133 (v717 : IVec S16 32) : Prop :=
  (∀ a x, ((![v717] : Fin 1 → IVec S16 32) a x).toNat < S1024.size a)
theorem k0_idx133_inb : ∀ (v717 : IVec S16 32) (k0_hw133 : k0_chk133 v717), ∀ a x, ((![v717] : Fin 1 → IVec S16 32) a x).toNat < S1024.size a := fun v717 k0_hw133 => k0_hw133

def k0_chk134 (v726 : IVec S16 32) : Prop :=
  (∀ a x, ((![v726] : Fin 1 → IVec S16 32) a x).toNat < S1024.size a)
theorem k0_idx134_inb : ∀ (v726 : IVec S16 32) (k0_hw134 : k0_chk134 v726), ∀ a x, ((![v726] : Fin 1 → IVec S16 32) a x).toNat < S1024.size a := fun v726 k0_hw134 => k0_hw134

def k0_chk135 (v737 : IVec S16 32) : Prop :=
  (∀ a x, ((![v737] : Fin 1 → IVec S16 32) a x).toNat < S1024.size a)
theorem k0_idx135_inb : ∀ (v737 : IVec S16 32) (k0_hw135 : k0_chk135 v737), ∀ a x, ((![v737] : Fin 1 → IVec S16 32) a x).toNat < S1024.size a := fun v737 k0_hw135 => k0_hw135

def k0_chk136 (v746 : IVec S16 32) : Prop :=
  (∀ a x, ((![v746] : Fin 1 → IVec S16 32) a x).toNat < S1024.size a)
theorem k0_idx136_inb : ∀ (v746 : IVec S16 32) (k0_hw136 : k0_chk136 v746), ∀ a x, ((![v746] : Fin 1 → IVec S16 32) a x).toNat < S1024.size a := fun v746 k0_hw136 => k0_hw136

def k0_chk137 (v762 : IVec S16 32) : Prop :=
  (∀ a x, ((![v762] : Fin 1 → IVec S16 32) a x).toNat < S1024.size a)
theorem k0_idx137_inb : ∀ (v762 : IVec S16 32) (k0_hw137 : k0_chk137 v762), ∀ a x, ((![v762] : Fin 1 → IVec S16 32) a x).toNat < S1024.size a := fun v762 k0_hw137 => k0_hw137

def k0_chk138 (v771 : IVec S16 32) : Prop :=
  (∀ a x, ((![v771] : Fin 1 → IVec S16 32) a x).toNat < S1024.size a)
theorem k0_idx138_inb : ∀ (v771 : IVec S16 32) (k0_hw138 : k0_chk138 v771), ∀ a x, ((![v771] : Fin 1 → IVec S16 32) a x).toNat < S1024.size a := fun v771 k0_hw138 => k0_hw138

def k0_chk139 (v782 : IVec S16 32) : Prop :=
  (∀ a x, ((![v782] : Fin 1 → IVec S16 32) a x).toNat < S1024.size a)
theorem k0_idx139_inb : ∀ (v782 : IVec S16 32) (k0_hw139 : k0_chk139 v782), ∀ a x, ((![v782] : Fin 1 → IVec S16 32) a x).toNat < S1024.size a := fun v782 k0_hw139 => k0_hw139

def k0_chk140 (v791 : IVec S16 32) : Prop :=
  (∀ a x, ((![v791] : Fin 1 → IVec S16 32) a x).toNat < S1024.size a)
theorem k0_idx140_inb : ∀ (v791 : IVec S16 32) (k0_hw140 : k0_chk140 v791), ∀ a x, ((![v791] : Fin 1 → IVec S16 32) a x).toNat < S1024.size a := fun v791 k0_hw140 => k0_hw140

def k0_chk141 (v807 : IVec S16 32) : Prop :=
  (∀ a x, ((![v807] : Fin 1 → IVec S16 32) a x).toNat < S1024.size a)
theorem k0_idx141_inb : ∀ (v807 : IVec S16 32) (k0_hw141 : k0_chk141 v807), ∀ a x, ((![v807] : Fin 1 → IVec S16 32) a x).toNat < S1024.size a := fun v807 k0_hw141 => k0_hw141

def k0_chk142 (v816 : IVec S16 32) : Prop :=
  (∀ a x, ((![v816] : Fin 1 → IVec S16 32) a x).toNat < S1024.size a)
theorem k0_idx142_inb : ∀ (v816 : IVec S16 32) (k0_hw142 : k0_chk142 v816), ∀ a x, ((![v816] : Fin 1 → IVec S16 32) a x).toNat < S1024.size a := fun v816 k0_hw142 => k0_hw142

def k0_chk143 (v827 : IVec S16 32) : Prop :=
  (∀ a x, ((![v827] : Fin 1 → IVec S16 32) a x).toNat < S1024.size a)
theorem k0_idx143_inb : ∀ (v827 : IVec S16 32) (k0_hw143 : k0_chk143 v827), ∀ a x, ((![v827] : Fin 1 → IVec S16 32) a x).toNat < S1024.size a := fun v827 k0_hw143 => k0_hw143

def k0_chk144 (v836 : IVec S16 32) : Prop :=
  (∀ a x, ((![v836] : Fin 1 → IVec S16 32) a x).toNat < S1024.size a)
theorem k0_idx144_inb : ∀ (v836 : IVec S16 32) (k0_hw144 : k0_chk144 v836), ∀ a x, ((![v836] : Fin 1 → IVec S16 32) a x).toNat < S1024.size a := fun v836 k0_hw144 => k0_hw144
@[reducible] def k0_t4_loop : Scf.Loop 32 :=
  let c0_i32_290 : BitVec 32 := 0#32
  let c10_i32_291 : BitVec 32 := 10#32
  let v852 : BitVec 32 := Scalar.addi c0_i32_290 c10_i32_291
  let c1_i32_292 : BitVec 32 := 1#32
  ⟨c0_i32_290, v852, c1_i32_292⟩

def k0_chk145 (v855 : IVec S16 32) : Prop :=
  (∀ a x, ((![v855] : Fin 1 → IVec S16 32) a x).toNat < S4096.size a)
theorem k0_idx145_inb : ∀ (v855 : IVec S16 32) (k0_hw145 : k0_chk145 v855), ∀ a x, ((![v855] : Fin 1 → IVec S16 32) a x).toNat < S4096.size a := fun v855 k0_hw145 => k0_hw145

def k0_chk146 (v858 : IVec S16 32) : Prop :=
  (∀ a x, ((![v858] : Fin 1 → IVec S16 32) a x).toNat < S4096.size a)
theorem k0_idx146_inb : ∀ (v858 : IVec S16 32) (k0_hw146 : k0_chk146 v858), ∀ a x, ((![v858] : Fin 1 → IVec S16 32) a x).toNat < S4096.size a := fun v858 k0_hw146 => k0_hw146

def k0_chk147 (v861 : IVec S16 32) : Prop :=
  (∀ a x, ((![v861] : Fin 1 → IVec S16 32) a x).toNat < S4096.size a)
theorem k0_idx147_inb : ∀ (v861 : IVec S16 32) (k0_hw147 : k0_chk147 v861), ∀ a x, ((![v861] : Fin 1 → IVec S16 32) a x).toNat < S4096.size a := fun v861 k0_hw147 => k0_hw147

def k0_chk148 (v864 : IVec S16 32) : Prop :=
  (∀ a x, ((![v864] : Fin 1 → IVec S16 32) a x).toNat < S4096.size a)
theorem k0_idx148_inb : ∀ (v864 : IVec S16 32) (k0_hw148 : k0_chk148 v864), ∀ a x, ((![v864] : Fin 1 → IVec S16 32) a x).toNat < S4096.size a := fun v864 k0_hw148 => k0_hw148

def k0_chk149 (v867 : IVec S16 32) : Prop :=
  (∀ a x, ((![v867] : Fin 1 → IVec S16 32) a x).toNat < S4096.size a)
theorem k0_idx149_inb : ∀ (v867 : IVec S16 32) (k0_hw149 : k0_chk149 v867), ∀ a x, ((![v867] : Fin 1 → IVec S16 32) a x).toNat < S4096.size a := fun v867 k0_hw149 => k0_hw149

def k0_chk150 (v870 : IVec S16 32) : Prop :=
  (∀ a x, ((![v870] : Fin 1 → IVec S16 32) a x).toNat < S4096.size a)
theorem k0_idx150_inb : ∀ (v870 : IVec S16 32) (k0_hw150 : k0_chk150 v870), ∀ a x, ((![v870] : Fin 1 → IVec S16 32) a x).toNat < S4096.size a := fun v870 k0_hw150 => k0_hw150

def k0_chk151 (v873 : IVec S16 32) : Prop :=
  (∀ a x, ((![v873] : Fin 1 → IVec S16 32) a x).toNat < S4096.size a)
theorem k0_idx151_inb : ∀ (v873 : IVec S16 32) (k0_hw151 : k0_chk151 v873), ∀ a x, ((![v873] : Fin 1 → IVec S16 32) a x).toNat < S4096.size a := fun v873 k0_hw151 => k0_hw151

def k0_chk152 (v876 : IVec S16 32) : Prop :=
  (∀ a x, ((![v876] : Fin 1 → IVec S16 32) a x).toNat < S4096.size a)
theorem k0_idx152_inb : ∀ (v876 : IVec S16 32) (k0_hw152 : k0_chk152 v876), ∀ a x, ((![v876] : Fin 1 → IVec S16 32) a x).toNat < S4096.size a := fun v876 k0_hw152 => k0_hw152

def k0_chk153 (v879 : IVec S16 32) : Prop :=
  (∀ a x, ((![v879] : Fin 1 → IVec S16 32) a x).toNat < S4096.size a)
theorem k0_idx153_inb : ∀ (v879 : IVec S16 32) (k0_hw153 : k0_chk153 v879), ∀ a x, ((![v879] : Fin 1 → IVec S16 32) a x).toNat < S4096.size a := fun v879 k0_hw153 => k0_hw153

def k0_chk154 (v882 : IVec S16 32) : Prop :=
  (∀ a x, ((![v882] : Fin 1 → IVec S16 32) a x).toNat < S4096.size a)
theorem k0_idx154_inb : ∀ (v882 : IVec S16 32) (k0_hw154 : k0_chk154 v882), ∀ a x, ((![v882] : Fin 1 → IVec S16 32) a x).toNat < S4096.size a := fun v882 k0_hw154 => k0_hw154

def k0_chk155 (v885 : IVec S16 32) : Prop :=
  (∀ a x, ((![v885] : Fin 1 → IVec S16 32) a x).toNat < S4096.size a)
theorem k0_idx155_inb : ∀ (v885 : IVec S16 32) (k0_hw155 : k0_chk155 v885), ∀ a x, ((![v885] : Fin 1 → IVec S16 32) a x).toNat < S4096.size a := fun v885 k0_hw155 => k0_hw155

def k0_chk156 (v888 : IVec S16 32) : Prop :=
  (∀ a x, ((![v888] : Fin 1 → IVec S16 32) a x).toNat < S4096.size a)
theorem k0_idx156_inb : ∀ (v888 : IVec S16 32) (k0_hw156 : k0_chk156 v888), ∀ a x, ((![v888] : Fin 1 → IVec S16 32) a x).toNat < S4096.size a := fun v888 k0_hw156 => k0_hw156

def k0_chk157 (v891 : IVec S16 32) : Prop :=
  (∀ a x, ((![v891] : Fin 1 → IVec S16 32) a x).toNat < S4096.size a)
theorem k0_idx157_inb : ∀ (v891 : IVec S16 32) (k0_hw157 : k0_chk157 v891), ∀ a x, ((![v891] : Fin 1 → IVec S16 32) a x).toNat < S4096.size a := fun v891 k0_hw157 => k0_hw157

def k0_chk158 (v894 : IVec S16 32) : Prop :=
  (∀ a x, ((![v894] : Fin 1 → IVec S16 32) a x).toNat < S4096.size a)
theorem k0_idx158_inb : ∀ (v894 : IVec S16 32) (k0_hw158 : k0_chk158 v894), ∀ a x, ((![v894] : Fin 1 → IVec S16 32) a x).toNat < S4096.size a := fun v894 k0_hw158 => k0_hw158

def k0_chk159 (v897 : IVec S16 32) : Prop :=
  (∀ a x, ((![v897] : Fin 1 → IVec S16 32) a x).toNat < S4096.size a)
theorem k0_idx159_inb : ∀ (v897 : IVec S16 32) (k0_hw159 : k0_chk159 v897), ∀ a x, ((![v897] : Fin 1 → IVec S16 32) a x).toNat < S4096.size a := fun v897 k0_hw159 => k0_hw159

def k0_chk160 (v900 : IVec S16 32) : Prop :=
  (∀ a x, ((![v900] : Fin 1 → IVec S16 32) a x).toNat < S4096.size a)
theorem k0_idx160_inb : ∀ (v900 : IVec S16 32) (k0_hw160 : k0_chk160 v900), ∀ a x, ((![v900] : Fin 1 → IVec S16 32) a x).toNat < S4096.size a := fun v900 k0_hw160 => k0_hw160
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_340" => some ((340⁻¹ : ℝ) : EReal)
  | "inv_5" => some ((5⁻¹ : ℝ) : EReal)
  | _ => none
-- ==== ReferenceIdeal.lean ====
abbrev S64x4096 : Shape := ⟨2, ![64, 4096]⟩
abbrev S64x1024 : Shape := ⟨2, ![64, 1024]⟩
abbrev S64x256 : Shape := ⟨2, ![64, 256]⟩
abbrev S64x2 : Shape := ⟨2, ![64, 2]⟩
abbrev S_ : Shape := ⟨0, ![]⟩
abbrev S64x1 : Shape := ⟨2, ![64, 1]⟩
abbrev S64x1024x4 : Shape := ⟨3, ![64, 1024, 4]⟩
abbrev S4 : Shape := ⟨1, ![4]⟩
abbrev S64x1024x1 : Shape := ⟨3, ![64, 1024, 1]⟩
abbrev S1x1x4 : Shape := ⟨3, ![1, 1, 4]⟩
abbrev S64x256x16 : Shape := ⟨3, ![64, 256, 16]⟩
abbrev S16 : Shape := ⟨1, ![16]⟩
abbrev S64x256x1 : Shape := ⟨3, ![64, 256, 1]⟩
abbrev S1x1x16 : Shape := ⟨3, ![1, 1, 16]⟩

abbrev nBuf : Space → Nat
  | .hbm => 381
  | .vmem => 0
  | .smem => 0
  | _ => 0

abbrev hbmTy0_0 (i : Nat) : BufTy := match i % 128 with
  | 0 => ⟨S64x4096, .f32⟩
  | 1 => ⟨S64x4096, .f32⟩
  | 2 => ⟨S64x1024, .f32⟩
  | 3 => ⟨S64x1024, .f32⟩
  | 4 => ⟨S64x1024, .f32⟩
  | 5 => ⟨S64x1024, .f32⟩
  | 6 => ⟨S64x256, .f32⟩
  | 7 => ⟨S64x256, .f32⟩
  | 8 => ⟨S64x256, .f32⟩
  | 9 => ⟨S64x256, .f32⟩
  | 10 => ⟨S64x2, .f32⟩
  | 11 => ⟨S64x2, .f32⟩
  | 12 => ⟨S64x2, .f32⟩
  | 13 => ⟨S_, .i32⟩
  | 14 => ⟨S64x4096, .f32⟩
  | 15 => ⟨S64x4096, .f32⟩
  | 16 => ⟨S64x2, .f32⟩
  | 17 => ⟨S64x2, .f32⟩
  | 18 => ⟨S64x1024, .f32⟩
  | 19 => ⟨S64x1024, .f32⟩
  | 20 => ⟨S64x1024, .f32⟩
  | 21 => ⟨S64x1024, .f32⟩
  | 22 => ⟨S64x2, .f32⟩
  | 23 => ⟨S64x256, .f32⟩
  | 24 => ⟨S64x256, .f32⟩
  | 25 => ⟨S64x256, .f32⟩
  | 26 => ⟨S64x256, .f32⟩
  | 27 => ⟨S_, .i32⟩
  | 28 => ⟨S64x4096, .f32⟩
  | 29 => ⟨S_, .i32⟩
  | 30 => ⟨S_, .i1⟩
  | 31 => ⟨S64x4096, .f32⟩
  | 32 => ⟨S_, .f32⟩
  | 33 => ⟨S64x4096, .f32⟩
  | 34 => ⟨S64x4096, .f32⟩
  | 35 => ⟨S_, .f32⟩
  | 36 => ⟨S_, .f32⟩
  | 37 => ⟨S_, .f32⟩
  | 38 => ⟨S64x4096, .f32⟩
  | 39 => ⟨S64x4096, .f32⟩
  | 40 => ⟨S_, .f32⟩
  | 41 => ⟨S64x4096, .f32⟩
  | 42 => ⟨S64x4096, .f32⟩
  | 43 => ⟨S64x4096, .f32⟩
  | 44 => ⟨S64x4096, .f32⟩
  | 45 => ⟨S64x4096, .f32⟩
  | 46 => ⟨S_, .f32⟩
  | 47 => ⟨S64x4096, .f32⟩
  | 48 => ⟨S64x4096, .f32⟩
  | 49 => ⟨S64x4096, .f32⟩
  | 50 => ⟨S_, .f32⟩
  | 51 => ⟨S64x4096, .f32⟩
  | 52 => ⟨S64x4096, .f32⟩
  | 53 => ⟨S64x4096, .f32⟩
  | 54 => ⟨S64x4096, .f32⟩
  | 55 => ⟨S_, .f32⟩
  | 56 => ⟨S_, .f32⟩
  | 57 => ⟨S_, .f32⟩
  | 58 => ⟨S64x1, .f32⟩
  | 59 => ⟨S_, .f32⟩
  | 60 => ⟨S64x1, .f32⟩
  | 61 => ⟨S64x1, .f32⟩
  | 62 => ⟨S64x4096, .f32⟩
  | 63 => ⟨S64x4096, .f32⟩
  | 64 => ⟨S64x1, .f32⟩
  | 65 => ⟨S64x4096, .f32⟩
  | 66 => ⟨S64x4096, .f32⟩
  | 67 => ⟨S64x1024x4, .f32⟩
  | 68 => ⟨S4, .f32⟩
  | 69 => ⟨S_, .f32⟩
  | 70 => ⟨S_, .f32⟩
  | 71 => ⟨S_, .f32⟩
  | 72 => ⟨S_, .f32⟩
  | 73 => ⟨S_, .f32⟩
  | 74 => ⟨S64x1024, .f32⟩
  | 75 => ⟨S64x1024x1, .f32⟩
  | 76 => ⟨S_, .f32⟩
  | 77 => ⟨S64x1024x1, .f32⟩
  | 78 => ⟨S64x1024x1, .f32⟩
  | 79 => ⟨S4, .f32⟩
  | 80 => ⟨S4, .f32⟩
  | 81 => ⟨S1x1x4, .f32⟩
  | 82 => ⟨S64x1024x4, .f32⟩
  | 83 => ⟨S64x1024x4, .f32⟩
  | 84 => ⟨S64x1024x4, .f32⟩
  | 85 => ⟨S64x1024x4, .f32⟩
  | 86 => ⟨S_, .f32⟩
  | 87 => ⟨S64x1024, .f32⟩
  | 88 => ⟨S4, .f32⟩
  | 89 => ⟨S4, .f32⟩
  | 90 => ⟨S4, .f32⟩
  | 91 => ⟨S_, .f32⟩
  | 92 => ⟨S_, .f32⟩
  | 93 => ⟨S64x1024, .f32⟩
  | 94 => ⟨S64x1024, .f32⟩
  | 95 => ⟨S64x1, .f32⟩
  | 96 => ⟨S64x1024, .f32⟩
  | 97 => ⟨S64x1024, .f32⟩
  | 98 => ⟨S64x1, .f32⟩
  | 99 => ⟨S_, .f32⟩
  | 100 => ⟨S64x1, .f32⟩
  | 101 => ⟨S64x1, .f32⟩
  | 102 => ⟨S64x1024, .f32⟩
  | 103 => ⟨S64x1024, .f32⟩
  | 104 => ⟨S64x1024, .f32⟩
  | 105 => ⟨S_, .f32⟩
  | 106 => ⟨S64x1024, .f32⟩
  | 107 => ⟨S64x1024, .f32⟩
  | 108 => ⟨S_, .f32⟩
  | 109 => ⟨S_, .f32⟩
  | 110 => ⟨S_, .f32⟩
  | 111 => ⟨S64x1024, .f32⟩
  | 112 => ⟨S64x1024, .f32⟩
  | 113 => ⟨S_, .f32⟩
  | 114 => ⟨S64x1024, .f32⟩
  | 115 => ⟨S64x1024, .f32⟩
  | 116 => ⟨S64x1024, .f32⟩
  | 117 => ⟨S64x1024, .f32⟩
  | 118 => ⟨S64x1024, .f32⟩
  | 119 => ⟨S_, .f32⟩
  | 120 => ⟨S64x1024, .f32⟩
  | 121 => ⟨S64x1024, .f32⟩
  | 122 => ⟨S64x1024, .f32⟩
  | 123 => ⟨S_, .f32⟩
  | 124 => ⟨S64x1024, .f32⟩
  | 125 => ⟨S64x1024, .f32⟩
  | 126 => ⟨S64x1024, .f32⟩
  | 127 => ⟨S64x1024, .f32⟩
  | _ => ⟨S64x4096, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S64x1024x4, .f32⟩
  | 5 => ⟨S_, .f32⟩
  | 6 => ⟨S64x1024, .f32⟩
  | 7 => ⟨S_, .f32⟩
  | 8 => ⟨S64x1024, .f32⟩
  | 9 => ⟨S64x1024, .f32⟩
  | 10 => ⟨S64x1, .f32⟩
  | 11 => ⟨S64x1024, .f32⟩
  | 12 => ⟨S64x1024, .f32⟩
  | 13 => ⟨S64x1, .f32⟩
  | 14 => ⟨S_, .f32⟩
  | 15 => ⟨S64x1, .f32⟩
  | 16 => ⟨S64x1, .f32⟩
  | 17 => ⟨S64x1024, .f32⟩
  | 18 => ⟨S64x1024, .f32⟩
  | 19 => ⟨S64x1024, .f32⟩
  | 20 => ⟨S_, .f32⟩
  | 21 => ⟨S64x1024, .f32⟩
  | 22 => ⟨S64x1024, .f32⟩
  | 23 => ⟨S_, .f32⟩
  | 24 => ⟨S_, .f32⟩
  | 25 => ⟨S_, .f32⟩
  | 26 => ⟨S64x1024, .f32⟩
  | 27 => ⟨S64x1024, .f32⟩
  | 28 => ⟨S_, .f32⟩
  | 29 => ⟨S64x1024, .f32⟩
  | 30 => ⟨S64x1024, .f32⟩
  | 31 => ⟨S64x1024, .f32⟩
  | 32 => ⟨S64x1024, .f32⟩
  | 33 => ⟨S64x1024, .f32⟩
  | 34 => ⟨S_, .f32⟩
  | 35 => ⟨S64x1024, .f32⟩
  | 36 => ⟨S64x1024, .f32⟩
  | 37 => ⟨S64x1024, .f32⟩
  | 38 => ⟨S_, .f32⟩
  | 39 => ⟨S64x1024, .f32⟩
  | 40 => ⟨S64x1024, .f32⟩
  | 41 => ⟨S64x1024, .f32⟩
  | 42 => ⟨S64x1024, .f32⟩
  | 43 => ⟨S_, .f32⟩
  | 44 => ⟨S_, .f32⟩
  | 45 => ⟨S_, .f32⟩
  | 46 => ⟨S_, .f32⟩
  | 47 => ⟨S64x256x16, .f32⟩
  | 48 => ⟨S16, .f32⟩
  | 49 => ⟨S_, .f32⟩
  | 50 => ⟨S_, .f32⟩
  | 51 => ⟨S_, .f32⟩
  | 52 => ⟨S_, .f32⟩
  | 53 => ⟨S_, .f32⟩
  | 54 => ⟨S64x256, .f32⟩
  | 55 => ⟨S64x256x1, .f32⟩
  | 56 => ⟨S_, .f32⟩
  | 57 => ⟨S64x256x1, .f32⟩
  | 58 => ⟨S64x256x1, .f32⟩
  | 59 => ⟨S16, .f32⟩
  | 60 => ⟨S16, .f32⟩
  | 61 => ⟨S1x1x16, .f32⟩
  | 62 => ⟨S64x256x16, .f32⟩
  | 63 => ⟨S64x256x16, .f32⟩
  | 64 => ⟨S64x256x16, .f32⟩
  | 65 => ⟨S64x256x16, .f32⟩
  | 66 => ⟨S_, .f32⟩
  | 67 => ⟨S64x256, .f32⟩
  | 68 => ⟨S16, .f32⟩
  | 69 => ⟨S16, .f32⟩
  | 70 => ⟨S16, .f32⟩
  | 71 => ⟨S_, .f32⟩
  | 72 => ⟨S_, .f32⟩
  | 73 => ⟨S64x256, .f32⟩
  | 74 => ⟨S64x256, .f32⟩
  | 75 => ⟨S64x1, .f32⟩
  | 76 => ⟨S64x256, .f32⟩
  | 77 => ⟨S64x256, .f32⟩
  | 78 => ⟨S64x1, .f32⟩
  | 79 => ⟨S_, .f32⟩
  | 80 => ⟨S64x1, .f32⟩
  | 81 => ⟨S64x1, .f32⟩
  | 82 => ⟨S64x256, .f32⟩
  | 83 => ⟨S64x256, .f32⟩
  | 84 => ⟨S64x256, .f32⟩
  | 85 => ⟨S_, .f32⟩
  | 86 => ⟨S64x256, .f32⟩
  | 87 => ⟨S64x256, .f32⟩
  | 88 => ⟨S_, .f32⟩
  | 89 => ⟨S_, .f32⟩
  | 90 => ⟨S_, .f32⟩
  | 91 => ⟨S64x256, .f32⟩
  | 92 => ⟨S64x256, .f32⟩
  | 93 => ⟨S_, .f32⟩
  | 94 => ⟨S64x256, .f32⟩
  | 95 => ⟨S64x256, .f32⟩
  | 96 => ⟨S64x256, .f32⟩
  | 97 => ⟨S64x256, .f32⟩
  | 98 => ⟨S64x256, .f32⟩
  | 99 => ⟨S_, .f32⟩
  | 100 => ⟨S64x256, .f32⟩
  | 101 => ⟨S64x256, .f32⟩
  | 102 => ⟨S64x256, .f32⟩
  | 103 => ⟨S_, .f32⟩
  | 104 => ⟨S64x256, .f32⟩
  | 105 => ⟨S64x256, .f32⟩
  | 106 => ⟨S64x256, .f32⟩
  | 107 => ⟨S64x256, .f32⟩
  | 108 => ⟨S_, .f32⟩
  | 109 => ⟨S_, .f32⟩
  | 110 => ⟨S_, .f32⟩
  | 111 => ⟨S_, .f32⟩
  | 112 => ⟨S64x256x16, .f32⟩
  | 113 => ⟨S_, .f32⟩
  | 114 => ⟨S64x256, .f32⟩
  | 115 => ⟨S_, .f32⟩
  | 116 => ⟨S64x256, .f32⟩
  | 117 => ⟨S64x256, .f32⟩
  | 118 => ⟨S64x1, .f32⟩
  | 119 => ⟨S64x256, .f32⟩
  | 120 => ⟨S64x256, .f32⟩
  | 121 => ⟨S64x1, .f32⟩
  | 122 => ⟨S_, .f32⟩
  | 123 => ⟨S64x1, .f32⟩
  | 124 => ⟨S64x1, .f32⟩
  | 125 => ⟨S64x256, .f32⟩
  | 126 => ⟨S64x256, .f32⟩
  | 127 => ⟨S64x256, .f32⟩
  | _ => ⟨S64x4096, .f32⟩

abbrev hbmTy0_2 (i : Nat) : BufTy := match i % 128 with
  | 0 => ⟨S_, .f32⟩
  | 1 => ⟨S64x256, .f32⟩
  | 2 => ⟨S64x256, .f32⟩
  | 3 => ⟨S_, .f32⟩
  | 4 => ⟨S_, .f32⟩
  | 5 => ⟨S_, .f32⟩
  | 6 => ⟨S64x256, .f32⟩
  | 7 => ⟨S64x256, .f32⟩
  | 8 => ⟨S_, .f32⟩
  | 9 => ⟨S64x256, .f32⟩
  | 10 => ⟨S64x256, .f32⟩
  | 11 => ⟨S64x256, .f32⟩
  | 12 => ⟨S64x256, .f32⟩
  | 13 => ⟨S64x256, .f32⟩
  | 14 => ⟨S_, .f32⟩
  | 15 => ⟨S64x256, .f32⟩
  | 16 => ⟨S64x256, .f32⟩
  | 17 => ⟨S64x256, .f32⟩
  | 18 => ⟨S_, .f32⟩
  | 19 => ⟨S64x256, .f32⟩
  | 20 => ⟨S64x256, .f32⟩
  | 21 => ⟨S64x256, .f32⟩
  | 22 => ⟨S64x256, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S64x256, .f32⟩
  | 30 => ⟨S64x256, .f32⟩
  | 31 => ⟨S64x256, .f32⟩
  | 32 => ⟨S64x256, .f32⟩
  | 33 => ⟨S64x256, .f32⟩
  | 34 => ⟨S64x256, .f32⟩
  | 35 => ⟨S_, .f32⟩
  | 36 => ⟨S64x256, .f32⟩
  | 37 => ⟨S64x256, .f32⟩
  | 38 => ⟨S64x256x16, .f32⟩
  | 39 => ⟨S64x4096, .f32⟩
  | 40 => ⟨S_, .f32⟩
  | 41 => ⟨S_, .f32⟩
  | 42 => ⟨S64x256, .f32⟩
  | 43 => ⟨S64x256, .f32⟩
  | 44 => ⟨S64x256, .f32⟩
  | 45 => ⟨S64x256, .f32⟩
  | 46 => ⟨S64x256, .f32⟩
  | 47 => ⟨S64x256, .f32⟩
  | 48 => ⟨S64x256, .f32⟩
  | 49 => ⟨S64x256, .f32⟩
  | 50 => ⟨S64x256x16, .f32⟩
  | 51 => ⟨S64x256x16, .f32⟩
  | 52 => ⟨S64x256x16, .f32⟩
  | 53 => ⟨S64x256x16, .f32⟩
  | 54 => ⟨S_, .f32⟩
  | 55 => ⟨S64x256, .f32⟩
  | 56 => ⟨S64x256x1, .f32⟩
  | 57 => ⟨S_, .f32⟩
  | 58 => ⟨S64x256x1, .f32⟩
  | 59 => ⟨S64x256x1, .f32⟩
  | 60 => ⟨S_, .f32⟩
  | 61 => ⟨S64x256, .f32⟩
  | 62 => ⟨S64x256x16, .f32⟩
  | 63 => ⟨S64x256x16, .f32⟩
  | 64 => ⟨S64x4096, .f32⟩
  | 65 => ⟨S64x4096, .f32⟩
  | 66 => ⟨S_, .f32⟩
  | 67 => ⟨S_, .f32⟩
  | 68 => ⟨S64x1024, .f32⟩
  | 69 => ⟨S64x1024, .f32⟩
  | 70 => ⟨S64x1024, .f32⟩
  | 71 => ⟨S64x1024, .f32⟩
  | 72 => ⟨S64x1024, .f32⟩
  | 73 => ⟨S64x1024, .f32⟩
  | 74 => ⟨S_, .f32⟩
  | 75 => ⟨S64x1024, .f32⟩
  | 76 => ⟨S64x1024, .f32⟩
  | 77 => ⟨S64x1024x4, .f32⟩
  | 78 => ⟨S64x4096, .f32⟩
  | 79 => ⟨S64x4096, .f32⟩
  | 80 => ⟨S_, .f32⟩
  | 81 => ⟨S_, .f32⟩
  | 82 => ⟨S64x1024, .f32⟩
  | 83 => ⟨S64x1024, .f32⟩
  | 84 => ⟨S64x1024, .f32⟩
  | 85 => ⟨S64x1024, .f32⟩
  | 86 => ⟨S64x1024, .f32⟩
  | 87 => ⟨S64x1024, .f32⟩
  | 88 => ⟨S64x1024, .f32⟩
  | 89 => ⟨S64x1024, .f32⟩
  | 90 => ⟨S64x1024x4, .f32⟩
  | 91 => ⟨S64x1024x4, .f32⟩
  | 92 => ⟨S64x1024x4, .f32⟩
  | 93 => ⟨S64x1024x4, .f32⟩
  | 94 => ⟨S_, .f32⟩
  | 95 => ⟨S64x1024, .f32⟩
  | 96 => ⟨S64x1024x1, .f32⟩
  | 97 => ⟨S_, .f32⟩
  | 98 => ⟨S64x1024x1, .f32⟩
  | 99 => ⟨S64x1024x1, .f32⟩
  | 100 => ⟨S_, .f32⟩
  | 101 => ⟨S64x1024, .f32⟩
  | 102 => ⟨S64x1024x4, .f32⟩
  | 103 => ⟨S64x1024x4, .f32⟩
  | 104 => ⟨S64x4096, .f32⟩
  | 105 => ⟨S64x4096, .f32⟩
  | 106 => ⟨S64x4096, .f32⟩
  | 107 => ⟨S64x4096, .f32⟩
  | 108 => ⟨S_, .f32⟩
  | 109 => ⟨S_, .f32⟩
  | 110 => ⟨S64x4096, .f32⟩
  | 111 => ⟨S64x4096, .f32⟩
  | 112 => ⟨S64x4096, .f32⟩
  | 113 => ⟨S64x4096, .f32⟩
  | 114 => ⟨S64x4096, .f32⟩
  | 115 => ⟨S_, .f32⟩
  | 116 => ⟨S64x4096, .f32⟩
  | 117 => ⟨S64x4096, .f32⟩
  | 118 => ⟨S64x4096, .f32⟩
  | 119 => ⟨S_, .i32⟩
  | 120 => ⟨S_, .i32⟩
  | 121 => ⟨S64x4096, .f32⟩
  | 122 => ⟨S_, .f32⟩
  | 123 => ⟨S64x4096, .f32⟩
  | 124 => ⟨S64x4096, .f32⟩
  | _ => ⟨S64x4096, .f32⟩

abbrev hbmTy (i : Nat) : BufTy := match i / 128 with
  | 0 => hbmTy0_0 i
  | 1 => hbmTy0_1 i
  | 2 => hbmTy0_2 i
  | _ => ⟨S64x4096, .f32⟩

abbrev bufTy : (tb : Table) → Fin (tcTables nBuf tb) → BufTy
  | .hbm, ⟨i, _⟩ => hbmTy i
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev main_v0_6 : Ref sig .tc := ⟨.hbm, 20, rfl⟩
abbrev main_v0_7 : Ref sig .tc := ⟨.hbm, 21, rfl⟩
abbrev main_v0_8 : Ref sig .tc := ⟨.hbm, 22, rfl⟩
abbrev main_v0_9 : Ref sig .tc := ⟨.hbm, 23, rfl⟩
abbrev main_v0_10 : Ref sig .tc := ⟨.hbm, 24, rfl⟩
abbrev main_v0_11 : Ref sig .tc := ⟨.hbm, 25, rfl⟩
abbrev main_v0_12 : Ref sig .tc := ⟨.hbm, 26, rfl⟩
abbrev main_v0_13 : Ref sig .tc := ⟨.hbm, 27, rfl⟩
abbrev main_v0_14 : Ref sig .tc := ⟨.hbm, 28, rfl⟩
abbrev main_while0c_c_14 : Ref sig .tc := ⟨.hbm, 29, rfl⟩
abbrev main_while0c_v4 : Ref sig .tc := ⟨.hbm, 30, rfl⟩
abbrev main_while0b_v4 : Ref sig .tc := ⟨.hbm, 31, rfl⟩
abbrev main_while0b_cst_14 : Ref sig .tc := ⟨.hbm, 32, rfl⟩
abbrev main_while0b_v5 : Ref sig .tc := ⟨.hbm, 33, rfl⟩
abbrev main_while0b_v6 : Ref sig .tc := ⟨.hbm, 34, rfl⟩
abbrev main_while0b_cst_15 : Ref sig .tc := ⟨.hbm, 35, rfl⟩
abbrev main_while0b_v7 : Ref sig .tc := ⟨.hbm, 36, rfl⟩
abbrev main_while0b_v8 : Ref sig .tc := ⟨.hbm, 37, rfl⟩
abbrev main_while0b_v9 : Ref sig .tc := ⟨.hbm, 38, rfl⟩
abbrev main_while0b_v10 : Ref sig .tc := ⟨.hbm, 39, rfl⟩
abbrev main_while0b_cst_16 : Ref sig .tc := ⟨.hbm, 40, rfl⟩
abbrev main_while0b_v11 : Ref sig .tc := ⟨.hbm, 41, rfl⟩
abbrev main_while0b_v12 : Ref sig .tc := ⟨.hbm, 42, rfl⟩
abbrev main_while0b_v13 : Ref sig .tc := ⟨.hbm, 43, rfl⟩
abbrev main_while0b_v14 : Ref sig .tc := ⟨.hbm, 44, rfl⟩
abbrev main_while0b_v15 : Ref sig .tc := ⟨.hbm, 45, rfl⟩
abbrev main_while0b_cst_17 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_cst_18 : Ref sig .tc := ⟨.hbm, 50, rfl⟩
abbrev main_while0b_v19 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_cst_19 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_cst_20 : Ref sig .tc := ⟨.hbm, 59, rfl⟩
abbrev main_while0b_v26 : Ref sig .tc := ⟨.hbm, 60, rfl⟩
abbrev main_while0b_v27 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_v32 : Ref sig .tc := ⟨.hbm, 66, rfl⟩
abbrev main_while0b_v33 : Ref sig .tc := ⟨.hbm, 67, rfl⟩
abbrev main_while0b_v34 : Ref sig .tc := ⟨.hbm, 68, rfl⟩
abbrev main_while0b_cst_21 : Ref sig .tc := ⟨.hbm, 69, rfl⟩
abbrev main_while0b_v35 : Ref sig .tc := ⟨.hbm, 70, rfl⟩
abbrev main_while0b_cst_22 : Ref sig .tc := ⟨.hbm, 71, rfl⟩
abbrev main_while0b_v36 : Ref sig .tc := ⟨.hbm, 72, rfl⟩
abbrev main_while0b_cst_23 : Ref sig .tc := ⟨.hbm, 73, rfl⟩
abbrev main_while0b_v37 : Ref sig .tc := ⟨.hbm, 74, rfl⟩
abbrev main_while0b_v38 : Ref sig .tc := ⟨.hbm, 75, rfl⟩
abbrev main_while0b_cst_24 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_cst_25 : Ref sig .tc := ⟨.hbm, 86, rfl⟩
abbrev main_while0b_v48 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_cst_26 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_cst_27 : Ref sig .tc := ⟨.hbm, 99, rfl⟩
abbrev main_while0b_v59 : Ref sig .tc := ⟨.hbm, 100, rfl⟩
abbrev main_while0b_v60 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_cst_28 : Ref sig .tc := ⟨.hbm, 105, rfl⟩
abbrev main_while0b_v64 : Ref sig .tc := ⟨.hbm, 106, rfl⟩
abbrev main_while0b_v65 : Ref sig .tc := ⟨.hbm, 107, rfl⟩
abbrev main_while0b_cst_29 : Ref sig .tc := ⟨.hbm, 108, rfl⟩
abbrev main_while0b_v66 : Ref sig .tc := ⟨.hbm, 109, rfl⟩
abbrev main_while0b_v67 : Ref sig .tc := ⟨.hbm, 110, rfl⟩
abbrev main_while0b_v68 : Ref sig .tc := ⟨.hbm, 111, rfl⟩
abbrev main_while0b_v69 : Ref sig .tc := ⟨.hbm, 112, rfl⟩
abbrev main_while0b_cst_30 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_cst_31 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_cst_32 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_cst_33 : Ref sig .tc := ⟨.hbm, 128, rfl⟩
abbrev main_while0b_v82 : Ref sig .tc := ⟨.hbm, 129, rfl⟩
abbrev main_while0b_v83 : Ref sig .tc := ⟨.hbm, 130, rfl⟩
abbrev main_while0b_v84 : Ref sig .tc := ⟨.hbm, 131, rfl⟩
abbrev main_while0b_v85 : Ref sig .tc := ⟨.hbm, 132, rfl⟩
abbrev main_while0b_cst_34 : Ref sig .tc := ⟨.hbm, 133, rfl⟩
abbrev main_while0b_v86 : Ref sig .tc := ⟨.hbm, 134, rfl⟩
abbrev main_while0b_cst_35 : Ref sig .tc := ⟨.hbm, 135, rfl⟩
abbrev main_while0b_v87 : Ref sig .tc := ⟨.hbm, 136, rfl⟩
abbrev main_while0b_v88 : Ref sig .tc := ⟨.hbm, 137, rfl⟩
abbrev main_while0b_v89 : Ref sig .tc := ⟨.hbm, 138, rfl⟩
abbrev main_while0b_v90 : Ref sig .tc := ⟨.hbm, 139, rfl⟩
abbrev main_while0b_v91 : Ref sig .tc := ⟨.hbm, 140, rfl⟩
abbrev main_while0b_v92 : Ref sig .tc := ⟨.hbm, 141, rfl⟩
abbrev main_while0b_cst_36 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_cst_37 : Ref sig .tc := ⟨.hbm, 148, rfl⟩
abbrev main_while0b_v98 : Ref sig .tc := ⟨.hbm, 149, rfl⟩
abbrev main_while0b_v99 : Ref sig .tc := ⟨.hbm, 150, rfl⟩
abbrev main_while0b_cst_38 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_cst_39 : Ref sig .tc := ⟨.hbm, 156, rfl⟩
abbrev main_while0b_v104 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_v108 : Ref sig .tc := ⟨.hbm, 161, rfl⟩
abbrev main_while0b_cst_40 : Ref sig .tc := ⟨.hbm, 162, rfl⟩
abbrev main_while0b_v109 : Ref sig .tc := ⟨.hbm, 163, rfl⟩
abbrev main_while0b_v110 : Ref sig .tc := ⟨.hbm, 164, rfl⟩
abbrev main_while0b_v111 : Ref sig .tc := ⟨.hbm, 165, rfl⟩
abbrev main_while0b_cst_41 : Ref sig .tc := ⟨.hbm, 166, rfl⟩
abbrev main_while0b_v112 : Ref sig .tc := ⟨.hbm, 167, rfl⟩
abbrev main_while0b_v113 : Ref sig .tc := ⟨.hbm, 168, rfl⟩
abbrev main_while0b_v114 : Ref sig .tc := ⟨.hbm, 169, rfl⟩
abbrev main_while0b_v115 : Ref sig .tc := ⟨.hbm, 170, rfl⟩
abbrev main_while0b_cst_42 : Ref sig .tc := ⟨.hbm, 171, rfl⟩
abbrev main_while0b_v116 : Ref sig .tc := ⟨.hbm, 172, rfl⟩
abbrev main_while0b_v117 : Ref sig .tc := ⟨.hbm, 173, rfl⟩
abbrev main_while0b_v118 : Ref sig .tc := ⟨.hbm, 174, rfl⟩
abbrev main_while0b_v119 : Ref sig .tc := ⟨.hbm, 175, rfl⟩
abbrev main_while0b_v120 : Ref sig .tc := ⟨.hbm, 176, rfl⟩
abbrev main_while0b_cst_43 : Ref sig .tc := ⟨.hbm, 177, rfl⟩
abbrev main_while0b_v121 : Ref sig .tc := ⟨.hbm, 178, rfl⟩
abbrev main_while0b_cst_44 : Ref sig .tc := ⟨.hbm, 179, rfl⟩
abbrev main_while0b_v122 : Ref sig .tc := ⟨.hbm, 180, rfl⟩
abbrev main_while0b_cst_45 : Ref sig .tc := ⟨.hbm, 181, rfl⟩
abbrev main_while0b_v123 : Ref sig .tc := ⟨.hbm, 182, rfl⟩
abbrev main_while0b_v124 : Ref sig .tc := ⟨.hbm, 183, rfl⟩
abbrev main_while0b_cst_46 : Ref sig .tc := ⟨.hbm, 184, rfl⟩
abbrev main_while0b_v125 : Ref sig .tc := ⟨.hbm, 185, rfl⟩
abbrev main_while0b_v126 : Ref sig .tc := ⟨.hbm, 186, rfl⟩
abbrev main_while0b_v127 : Ref sig .tc := ⟨.hbm, 187, rfl⟩
abbrev main_while0b_v128 : Ref sig .tc := ⟨.hbm, 188, rfl⟩
abbrev main_while0b_v129 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_cst_47 : Ref sig .tc := ⟨.hbm, 194, rfl⟩
abbrev main_while0b_v134 : Ref sig .tc := ⟨.hbm, 195, rfl⟩
abbrev main_while0b_v135 : Ref sig .tc := ⟨.hbm, 196, rfl⟩
abbrev main_while0b_v136 : Ref sig .tc := ⟨.hbm, 197, rfl⟩
abbrev main_while0b_v137 : Ref sig .tc := ⟨.hbm, 198, rfl⟩
abbrev main_while0b_cst_48 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_cst_49 : Ref sig .tc := ⟨.hbm, 207, rfl⟩
abbrev main_while0b_v145 : Ref sig .tc := ⟨.hbm, 208, rfl⟩
abbrev main_while0b_v146 : Ref sig .tc := ⟨.hbm, 209, rfl⟩
abbrev main_while0b_v147 : Ref sig .tc := ⟨.hbm, 210, rfl⟩
abbrev main_while0b_v148 : Ref sig .tc := ⟨.hbm, 211, rfl⟩
abbrev main_while0b_v149 : Ref sig .tc := ⟨.hbm, 212, rfl⟩
abbrev main_while0b_cst_50 : Ref sig .tc := ⟨.hbm, 213, rfl⟩
abbrev main_while0b_v150 : Ref sig .tc := ⟨.hbm, 214, rfl⟩
abbrev main_while0b_v151 : Ref sig .tc := ⟨.hbm, 215, rfl⟩
abbrev main_while0b_cst_51 : Ref sig .tc := ⟨.hbm, 216, rfl⟩
abbrev main_while0b_v152 : Ref sig .tc := ⟨.hbm, 217, rfl⟩
abbrev main_while0b_v153 : Ref sig .tc := ⟨.hbm, 218, rfl⟩
abbrev main_while0b_v154 : Ref sig .tc := ⟨.hbm, 219, rfl⟩
abbrev main_while0b_v155 : Ref sig .tc := ⟨.hbm, 220, rfl⟩
abbrev main_while0b_cst_52 : Ref sig .tc := ⟨.hbm, 221, rfl⟩
abbrev main_while0b_v156 : Ref sig .tc := ⟨.hbm, 222, rfl⟩
abbrev main_while0b_v157 : Ref sig .tc := ⟨.hbm, 223, rfl⟩
abbrev main_while0b_v158 : Ref sig .tc := ⟨.hbm, 224, rfl⟩
abbrev main_while0b_v159 : Ref sig .tc := ⟨.hbm, 225, rfl⟩
abbrev main_while0b_v160 : Ref sig .tc := ⟨.hbm, 226, rfl⟩
abbrev main_while0b_cst_53 : Ref sig .tc := ⟨.hbm, 227, rfl⟩
abbrev main_while0b_v161 : Ref sig .tc := ⟨.hbm, 228, rfl⟩
abbrev main_while0b_v162 : Ref sig .tc := ⟨.hbm, 229, rfl⟩
abbrev main_while0b_v163 : Ref sig .tc := ⟨.hbm, 230, rfl⟩
abbrev main_while0b_cst_54 : Ref sig .tc := ⟨.hbm, 231, rfl⟩
abbrev main_while0b_v164 : Ref sig .tc := ⟨.hbm, 232, rfl⟩
abbrev main_while0b_v165 : Ref sig .tc := ⟨.hbm, 233, rfl⟩
abbrev main_while0b_v166 : Ref sig .tc := ⟨.hbm, 234, rfl⟩
abbrev main_while0b_v167 : Ref sig .tc := ⟨.hbm, 235, rfl⟩
abbrev main_while0b_cst_55 : Ref sig .tc := ⟨.hbm, 236, rfl⟩
abbrev main_while0b_v168 : Ref sig .tc := ⟨.hbm, 237, rfl⟩
abbrev main_while0b_v169 : Ref sig .tc := ⟨.hbm, 238, rfl⟩
abbrev main_while0b_v170 : Ref sig .tc := ⟨.hbm, 239, rfl⟩
abbrev main_while0b_v171 : Ref sig .tc := ⟨.hbm, 240, rfl⟩
abbrev main_while0b_cst_56 : Ref sig .tc := ⟨.hbm, 241, rfl⟩
abbrev main_while0b_v172 : Ref sig .tc := ⟨.hbm, 242, rfl⟩
abbrev main_while0b_cst_57 : Ref sig .tc := ⟨.hbm, 243, rfl⟩
abbrev main_while0b_v173 : Ref sig .tc := ⟨.hbm, 244, rfl⟩
abbrev main_while0b_v174 : Ref sig .tc := ⟨.hbm, 245, rfl⟩
abbrev main_while0b_v175 : Ref sig .tc := ⟨.hbm, 246, rfl⟩
abbrev main_while0b_v176 : Ref sig .tc := ⟨.hbm, 247, rfl⟩
abbrev main_while0b_v177 : Ref sig .tc := ⟨.hbm, 248, rfl⟩
abbrev main_while0b_v178 : Ref sig .tc := ⟨.hbm, 249, rfl⟩
abbrev main_while0b_cst_58 : Ref sig .tc := ⟨.hbm, 250, rfl⟩
abbrev main_while0b_v179 : Ref sig .tc := ⟨.hbm, 251, rfl⟩
abbrev main_while0b_v180 : Ref sig .tc := ⟨.hbm, 252, rfl⟩
abbrev main_while0b_v181 : Ref sig .tc := ⟨.hbm, 253, rfl⟩
abbrev main_while0b_v182 : Ref sig .tc := ⟨.hbm, 254, rfl⟩
abbrev main_while0b_v183 : Ref sig .tc := ⟨.hbm, 255, rfl⟩
abbrev main_while0b_cst_59 : Ref sig .tc := ⟨.hbm, 256, rfl⟩
abbrev main_while0b_v184 : Ref sig .tc := ⟨.hbm, 257, rfl⟩
abbrev main_while0b_v185 : Ref sig .tc := ⟨.hbm, 258, rfl⟩
abbrev main_while0b_cst_60 : Ref sig .tc := ⟨.hbm, 259, rfl⟩
abbrev main_while0b_v186 : Ref sig .tc := ⟨.hbm, 260, rfl⟩
abbrev main_while0b_v187 : Ref sig .tc := ⟨.hbm, 261, rfl⟩
abbrev main_while0b_v188 : Ref sig .tc := ⟨.hbm, 262, rfl⟩
abbrev main_while0b_v189 : Ref sig .tc := ⟨.hbm, 263, rfl⟩
abbrev main_while0b_cst_61 : Ref sig .tc := ⟨.hbm, 264, rfl⟩
abbrev main_while0b_v190 : Ref sig .tc := ⟨.hbm, 265, rfl⟩
abbrev main_while0b_v191 : Ref sig .tc := ⟨.hbm, 266, rfl⟩
abbrev main_while0b_v192 : Ref sig .tc := ⟨.hbm, 267, rfl⟩
abbrev main_while0b_v193 : Ref sig .tc := ⟨.hbm, 268, rfl⟩
abbrev main_while0b_v194 : Ref sig .tc := ⟨.hbm, 269, rfl⟩
abbrev main_while0b_cst_62 : Ref sig .tc := ⟨.hbm, 270, rfl⟩
abbrev main_while0b_v195 : Ref sig .tc := ⟨.hbm, 271, rfl⟩
abbrev main_while0b_v196 : Ref sig .tc := ⟨.hbm, 272, rfl⟩
abbrev main_while0b_v197 : Ref sig .tc := ⟨.hbm, 273, rfl⟩
abbrev main_while0b_cst_63 : Ref sig .tc := ⟨.hbm, 274, rfl⟩
abbrev main_while0b_v198 : Ref sig .tc := ⟨.hbm, 275, rfl⟩
abbrev main_while0b_v199 : Ref sig .tc := ⟨.hbm, 276, rfl⟩
abbrev main_while0b_v200 : Ref sig .tc := ⟨.hbm, 277, rfl⟩
abbrev main_while0b_v201 : Ref sig .tc := ⟨.hbm, 278, rfl⟩
abbrev main_while0b_cst_64 : Ref sig .tc := ⟨.hbm, 279, rfl⟩
abbrev main_while0b_v202 : Ref sig .tc := ⟨.hbm, 280, rfl⟩
abbrev main_while0b_v203 : Ref sig .tc := ⟨.hbm, 281, rfl⟩
abbrev main_while0b_v204 : Ref sig .tc := ⟨.hbm, 282, rfl⟩
abbrev main_while0b_cst_65 : Ref sig .tc := ⟨.hbm, 283, rfl⟩
abbrev main_while0b_v205 : Ref sig .tc := ⟨.hbm, 284, rfl⟩
abbrev main_while0b_v206 : Ref sig .tc := ⟨.hbm, 285, rfl⟩
abbrev main_while0b_v207 : Ref sig .tc := ⟨.hbm, 286, rfl⟩
abbrev main_while0b_v208 : Ref sig .tc := ⟨.hbm, 287, rfl⟩
abbrev main_while0b_v209 : Ref sig .tc := ⟨.hbm, 288, rfl⟩
abbrev main_while0b_v210 : Ref sig .tc := ⟨.hbm, 289, rfl⟩
abbrev main_while0b_v211 : Ref sig .tc := ⟨.hbm, 290, rfl⟩
abbrev main_while0b_cst_66 : Ref sig .tc := ⟨.hbm, 291, rfl⟩
abbrev main_while0b_v212 : Ref sig .tc := ⟨.hbm, 292, rfl⟩
abbrev main_while0b_v213 : Ref sig .tc := ⟨.hbm, 293, rfl⟩
abbrev main_while0b_v214 : Ref sig .tc := ⟨.hbm, 294, rfl⟩
abbrev main_while0b_v215 : Ref sig .tc := ⟨.hbm, 295, rfl⟩
abbrev main_while0b_cst_67 : Ref sig .tc := ⟨.hbm, 296, rfl⟩
abbrev main_while0b_v216 : Ref sig .tc := ⟨.hbm, 297, rfl⟩
abbrev main_while0b_v217 : Ref sig .tc := ⟨.hbm, 298, rfl⟩
abbrev main_while0b_v218 : Ref sig .tc := ⟨.hbm, 299, rfl⟩
abbrev main_while0b_v219 : Ref sig .tc := ⟨.hbm, 300, rfl⟩
abbrev main_while0b_v220 : Ref sig .tc := ⟨.hbm, 301, rfl⟩
abbrev main_while0b_v221 : Ref sig .tc := ⟨.hbm, 302, rfl⟩
abbrev main_while0b_v222 : Ref sig .tc := ⟨.hbm, 303, rfl⟩
abbrev main_while0b_v223 : Ref sig .tc := ⟨.hbm, 304, rfl⟩
abbrev main_while0b_v224 : Ref sig .tc := ⟨.hbm, 305, rfl⟩
abbrev main_while0b_v225 : Ref sig .tc := ⟨.hbm, 306, rfl⟩
abbrev main_while0b_v226 : Ref sig .tc := ⟨.hbm, 307, rfl⟩
abbrev main_while0b_v227 : Ref sig .tc := ⟨.hbm, 308, rfl⟩
abbrev main_while0b_v228 : Ref sig .tc := ⟨.hbm, 309, rfl⟩
abbrev main_while0b_cst_68 : Ref sig .tc := ⟨.hbm, 310, rfl⟩
abbrev main_while0b_v229 : Ref sig .tc := ⟨.hbm, 311, rfl⟩
abbrev main_while0b_v230 : Ref sig .tc := ⟨.hbm, 312, rfl⟩
abbrev main_while0b_cst_69 : Ref sig .tc := ⟨.hbm, 313, rfl⟩
abbrev main_while0b_v231 : Ref sig .tc := ⟨.hbm, 314, rfl⟩
abbrev main_while0b_v232 : Ref sig .tc := ⟨.hbm, 315, rfl⟩
abbrev main_while0b_cst_70 : Ref sig .tc := ⟨.hbm, 316, rfl⟩
abbrev main_while0b_v233 : Ref sig .tc := ⟨.hbm, 317, rfl⟩
abbrev main_while0b_v234 : Ref sig .tc := ⟨.hbm, 318, rfl⟩
abbrev main_while0b_v235 : Ref sig .tc := ⟨.hbm, 319, rfl⟩
abbrev main_while0b_v236 : Ref sig .tc := ⟨.hbm, 320, rfl⟩
abbrev main_while0b_v237 : Ref sig .tc := ⟨.hbm, 321, rfl⟩
abbrev main_while0b_cst_71 : Ref sig .tc := ⟨.hbm, 322, rfl⟩
abbrev main_while0b_v238 : Ref sig .tc := ⟨.hbm, 323, rfl⟩
abbrev main_while0b_v239 : Ref sig .tc := ⟨.hbm, 324, rfl⟩
abbrev main_while0b_v240 : Ref sig .tc := ⟨.hbm, 325, rfl⟩
abbrev main_while0b_v241 : Ref sig .tc := ⟨.hbm, 326, rfl⟩
abbrev main_while0b_v242 : Ref sig .tc := ⟨.hbm, 327, rfl⟩
abbrev main_while0b_v243 : Ref sig .tc := ⟨.hbm, 328, rfl⟩
abbrev main_while0b_v244 : Ref sig .tc := ⟨.hbm, 329, rfl⟩
abbrev main_while0b_cst_72 : Ref sig .tc := ⟨.hbm, 330, rfl⟩
abbrev main_while0b_v245 : Ref sig .tc := ⟨.hbm, 331, rfl⟩
abbrev main_while0b_v246 : Ref sig .tc := ⟨.hbm, 332, rfl⟩
abbrev main_while0b_v247 : Ref sig .tc := ⟨.hbm, 333, rfl⟩
abbrev main_while0b_v248 : Ref sig .tc := ⟨.hbm, 334, rfl⟩
abbrev main_while0b_v249 : Ref sig .tc := ⟨.hbm, 335, rfl⟩
abbrev main_while0b_cst_73 : Ref sig .tc := ⟨.hbm, 336, rfl⟩
abbrev main_while0b_v250 : Ref sig .tc := ⟨.hbm, 337, rfl⟩
abbrev main_while0b_v251 : Ref sig .tc := ⟨.hbm, 338, rfl⟩
abbrev main_while0b_v252 : Ref sig .tc := ⟨.hbm, 339, rfl⟩
abbrev main_while0b_v253 : Ref sig .tc := ⟨.hbm, 340, rfl⟩
abbrev main_while0b_v254 : Ref sig .tc := ⟨.hbm, 341, rfl⟩
abbrev main_while0b_v255 : Ref sig .tc := ⟨.hbm, 342, rfl⟩
abbrev main_while0b_v256 : Ref sig .tc := ⟨.hbm, 343, rfl⟩
abbrev main_while0b_v257 : Ref sig .tc := ⟨.hbm, 344, rfl⟩
abbrev main_while0b_v258 : Ref sig .tc := ⟨.hbm, 345, rfl⟩
abbrev main_while0b_v259 : Ref sig .tc := ⟨.hbm, 346, rfl⟩
abbrev main_while0b_v260 : Ref sig .tc := ⟨.hbm, 347, rfl⟩
abbrev main_while0b_v261 : Ref sig .tc := ⟨.hbm, 348, rfl⟩
abbrev main_while0b_v262 : Ref sig .tc := ⟨.hbm, 349, rfl⟩
abbrev main_while0b_cst_74 : Ref sig .tc := ⟨.hbm, 350, rfl⟩
abbrev main_while0b_v263 : Ref sig .tc := ⟨.hbm, 351, rfl⟩
abbrev main_while0b_v264 : Ref sig .tc := ⟨.hbm, 352, rfl⟩
abbrev main_while0b_cst_75 : Ref sig .tc := ⟨.hbm, 353, rfl⟩
abbrev main_while0b_v265 : Ref sig .tc := ⟨.hbm, 354, rfl⟩
abbrev main_while0b_v266 : Ref sig .tc := ⟨.hbm, 355, rfl⟩
abbrev main_while0b_cst_76 : Ref sig .tc := ⟨.hbm, 356, rfl⟩
abbrev main_while0b_v267 : Ref sig .tc := ⟨.hbm, 357, rfl⟩
abbrev main_while0b_v268 : Ref sig .tc := ⟨.hbm, 358, rfl⟩
abbrev main_while0b_v269 : Ref sig .tc := ⟨.hbm, 359, rfl⟩
abbrev main_while0b_v270 : Ref sig .tc := ⟨.hbm, 360, rfl⟩
abbrev main_while0b_v271 : Ref sig .tc := ⟨.hbm, 361, rfl⟩
abbrev main_while0b_v272 : Ref sig .tc := ⟨.hbm, 362, rfl⟩
abbrev main_while0b_v273 : Ref sig .tc := ⟨.hbm, 363, rfl⟩
abbrev main_while0b_cst_77 : Ref sig .tc := ⟨.hbm, 364, rfl⟩
abbrev main_while0b_v274 : Ref sig .tc := ⟨.hbm, 365, rfl⟩
abbrev main_while0b_v275 : Ref sig .tc := ⟨.hbm, 366, rfl⟩
abbrev main_while0b_v276 : Ref sig .tc := ⟨.hbm, 367, rfl⟩
abbrev main_while0b_v277 : Ref sig .tc := ⟨.hbm, 368, rfl⟩
abbrev main_while0b_v278 : Ref sig .tc := ⟨.hbm, 369, rfl⟩
abbrev main_while0b_v279 : Ref sig .tc := ⟨.hbm, 370, rfl⟩
abbrev main_while0b_cst_78 : Ref sig .tc := ⟨.hbm, 371, rfl⟩
abbrev main_while0b_v280 : Ref sig .tc := ⟨.hbm, 372, rfl⟩
abbrev main_while0b_v281 : Ref sig .tc := ⟨.hbm, 373, rfl⟩
abbrev main_while0b_v282 : Ref sig .tc := ⟨.hbm, 374, rfl⟩
abbrev main_while0b_c_79 : Ref sig .tc := ⟨.hbm, 375, rfl⟩
abbrev main_while0b_v283 : Ref sig .tc := ⟨.hbm, 376, rfl⟩
abbrev main_v1 : Ref sig .tc := ⟨.hbm, 377, rfl⟩
abbrev main_cst : Ref sig .tc := ⟨.hbm, 378, rfl⟩
abbrev main_v2 : Ref sig .tc := ⟨.hbm, 379, rfl⟩
abbrev main_v3 : Ref sig .tc := ⟨.hbm, 380, rfl⟩

abbrev nD : Nat := 1
abbrev τ : Topo := Topo.v7x

variable {F : FTy → Type} [FloatOps F]

abbrev main_while0_count : Scf.Loop 32 := ⟨0#32, 20#32, 1#32⟩
-- ==== Proof.Spec.lean ====
/-
  What one row's computation is, written as functions of the row's eleven buffers over any float values: the constants a
  row uses, the coefficients of a chunk of sixteen segments (a lane per segment), one gradient step on the sixteen columns
  of the segments, the twenty steps, and the row's two results.  The certificate's run (Tile.lean) ends at these functions,
  and Algebra.lean compares them with the reference.
-/
module

public import proofs.«01_k».proof.Proof.Gen.KernelIdeal.Skeleton

@[expose] public section

noncomputable section

namespace Cert.Proof.Spec

open Cert.KernelIdeal Idealize.ShloMosaic

variable {F : FTy → Type}

/-- A lane vector of sixteen floats. -/
abbrev Lanes (F : FTy → Type) : Type := FVec F S16 .f32

/-- The eleven buffers of one row: means and raw deviations of the columns, then of the slopes and the means of the
    four-column segments and of the sixteen-column segments, then the six norms, sixteen copies of each. -/
structure Row (F : FTy → Type) where
  m1 : FVec F S4096 .f32
  s1 : FVec F S4096 .f32
  m4s : FVec F S1024 .f32
  s4s : FVec F S1024 .f32
  m4m : FVec F S1024 .f32
  s4m : FVec F S1024 .f32
  m16s : FVec F S256 .f32
  s16s : FVec F S256 .f32
  m16m : FVec F S256 .f32
  s16m : FVec F S256 .f32
  nb : FVec F S96 .f32

/-- Element `n` of a buffer of `N` elements. -/
def at1 {N : ℕ} (hN : 0 < N) (n : ℕ) : (⟨1, ![N]⟩ : Shape).Idx :=
  fun a => ⟨n % N, by rw [Fin.eq_zero a]; exact Nat.mod_lt _ hN⟩

/-- Column `j` of the sixteen segments of chunk `c`. -/
def col16 (f : FVec F S4096 .f32) (c j : ℕ) : Lanes F := fun l => f (at1 (by decide) (256 * c + 16 * (l 0).val + j))
/-- Segment `g` of four, of the sixteen segments of chunk `c`. -/
def col4 (f : FVec F S1024 .f32) (c g : ℕ) : Lanes F := fun l => f (at1 (by decide) (64 * c + 4 * (l 0).val + g))
/-- The sixteen segments of chunk `c`. -/
def col1 (f : FVec F S256 .f32) (c : ℕ) : Lanes F := fun l => f (at1 (by decide) (16 * c + (l 0).val))
/-- Norm `k` of the six. -/
def norm (f : FVec F S96 .f32) (k : ℕ) : Lanes F := fun l => f (at1 (by decide) (16 * k + (l 0).val))

variable [FloatOps F]

/-- The same float word in every lane. -/
def kf (w : BitVec 32) : Lanes F := broadcast S16 (Scalar.ofBits (F := F) .f32 w)

/-- The columns of segment `g`. -/
def sg (g q : Fin 4) : Fin 16 := ⟨4 * g.val + q.val, by omega⟩
def gOf (j : Fin 16) : Fin 4 := ⟨j.val / 4, by omega⟩
def qOf (j : Fin 16) : Fin 4 := ⟨j.val % 4, by omega⟩

/-- `4 g - 6` and `q - 3/2`, as float words. -/
def w6 : Fin 4 → BitVec 32 := ![0xC0C00000#32, 0xC0000000#32, 0x40000000#32, 0x40C00000#32]
def w32 : Fin 4 → BitVec 32 := ![0xBFC00000#32, 0xBF000000#32, 0x3F000000#32, 0x3FC00000#32]

/-- The sums and the slopes' numerators of the four-column segments, and of the sixteen. -/
def sum4 (z : Fin 16 → Lanes F) (g : Fin 4) : Lanes F := addf (addf (addf (z (sg g 0)) (z (sg g 1))) (z (sg g 2))) (z (sg g 3))
def slo4 (z : Fin 16 → Lanes F) (g : Fin 4) : Lanes F :=
  addf (mulf (kf 0x3FC00000#32) (subf (z (sg g 3)) (z (sg g 0)))) (mulf (kf 0x3F000000#32) (subf (z (sg g 2)) (z (sg g 1))))
def sum16 (z : Fin 16 → Lanes F) : Lanes F := addf (addf (sum4 z 0) (sum4 z 1)) (addf (sum4 z 2) (sum4 z 3))
def slo16 (z : Fin 16 → Lanes F) : Lanes F :=
  addf (addf (addf (slo4 z 0) (slo4 z 1)) (addf (slo4 z 2) (slo4 z 3)))
    (addf (addf (subf (mulf (kf 0xC0C00000#32) (sum4 z 0)) (mulf (kf 0x40000000#32) (sum4 z 1))) (mulf (kf 0x40000000#32) (sum4 z 2)))
      (mulf (kf 0x40C00000#32) (sum4 z 3)))

/-- The coefficients of a chunk's gradient step. -/
structure Coef (F : FTy → Type) where
  d : Fin 16 → Lanes F
  p16m : Lanes F
  p16s : Lanes F
  p4m : Fin 4 → Lanes F
  p4s : Fin 4 → Lanes F
  qb : Fin 4 → Lanes F
  qs : Fin 4 → Lanes F

/-- One gradient step on the columns' displacements from their means. -/
def step (C : Coef F) (z : Fin 16 → Lanes F) (j : Fin 16) : Lanes F :=
  let u := mulf (sum16 z) C.p16m
  let v := mulf (slo16 z) C.p16s
  let b := addf (addf (addf (mulf (sum4 z (gOf j)) (C.p4m (gOf j))) (C.qb (gOf j))) u) (mulf (kf (w6 (gOf j))) v)
  let s := addf (addf (mulf (slo4 z (gOf j)) (C.p4s (gOf j))) (C.qs (gOf j))) v
  addf (mulf (z j) (C.d j)) (addf b (mulf (kf (w32 (qOf j))) s))

/-- `|s| + 1/2`, its inverse square, and the decay of a column. -/
def dev (s : Lanes F) : Lanes F := addf (absf s) (kf 0x3F000000#32)
def iv (s : Lanes F) : Lanes F := divf (kf 0x3F800000#32) (mulf (dev s) (dev s))
def decay (s : Lanes F) : Lanes F := subf (kf 0x3F800000#32) (divf (kf 0x3D4CCCCD#32) (mulf (dev s) (dev s)))

variable [Named F]

/-- The constants of a row. -/
structure Consts (F : FTy → Type) where
  a16 : Lanes F
  c16 : Lanes F
  d16 : Lanes F
  e16 : Lanes F
  a4 : Lanes F
  c4 : Lanes F
  d4 : Lanes F
  e4 : Lanes F
  la16 : Lanes F
  ld16 : Lanes F
  la4 : Lanes F
  ld4 : Lanes F

def recip (n : Lanes F) : Lanes F := divf (kf 0x3F800000#32) (addf n (kf 0x3F000000#32))
def scale (n1 n : Lanes F) : Lanes F := mulf (addf n1 (kf 0x3F000000#32)) (recip n)

def consts (f : FVec F S96 .f32) : Consts F where
  a16 := mulf (scale (norm f 1) (norm f 5)) (kf 0x3D800000#32)
  c16 := mulf (subf (norm f 0) (norm f 4)) (recip (norm f 5))
  d16 := mulf (scale (norm f 1) (norm f 5)) (broadcast S16 (Named.named κ "inv_340" (φ := .f32) 0x3B40C0C1#32))
  e16 := subf (kf 0x00000000#32) (mulf (norm f 4) (recip (norm f 5)))
  a4 := mulf (scale (norm f 1) (norm f 3)) (kf 0x3E800000#32)
  c4 := mulf (subf (norm f 0) (norm f 2)) (recip (norm f 3))
  d4 := mulf (scale (norm f 1) (norm f 3)) (broadcast S16 (Named.named κ "inv_5" (φ := .f32) 0x3E4CCCCD#32))
  e4 := subf (kf 0x00000000#32) (mulf (norm f 2) (recip (norm f 3)))
  la16 := mulf (kf 0xBD4CCCCD#32) (mulf (scale (norm f 1) (norm f 5)) (kf 0x3D800000#32))
  ld16 := mulf (kf 0xBD4CCCCD#32) (mulf (scale (norm f 1) (norm f 5)) (broadcast S16 (Named.named κ "inv_340" (φ := .f32) 0x3B40C0C1#32)))
  la4 := mulf (kf 0xBD4CCCCD#32) (mulf (scale (norm f 1) (norm f 3)) (kf 0x3E800000#32))
  ld4 := mulf (kf 0xBD4CCCCD#32) (mulf (scale (norm f 1) (norm f 3)) (broadcast S16 (Named.named κ "inv_5" (φ := .f32) 0x3E4CCCCD#32)))

omit [Named F] in
/-- `la * a * iv` and `la * ((t * a + c) * iv - m * iv)`: a level's part of the step's slope and of its offset. -/
def slopeOf (la a : Lanes F) (s : Lanes F) : Lanes F := mulf (mulf la a) (iv s)
def offOf (la a c t m s : Lanes F) : Lanes F := mulf la (subf (mulf (addf (mulf t a) c) (iv s)) (mulf m (iv s)))

/-- The coefficients of chunk `c` of a row, from the row's constants. -/
def coefOf (k : Consts F) (R : Row F) (c : ℕ) : Coef F :=
  let z := fun j : Fin 16 => col16 R.m1 c j.val
  let q16m := offOf k.la16 k.a16 k.c16 (sum16 z) (col1 R.m16m c) (col1 R.s16m c)
  let q16s := offOf k.ld16 k.d16 k.e16 (slo16 z) (col1 R.m16s c) (col1 R.s16s c)
  { d := fun j => decay (col16 R.s1 c j.val)
    p16m := slopeOf k.la16 k.a16 (col1 R.s16m c)
    p16s := slopeOf k.ld16 k.d16 (col1 R.s16s c)
    p4m := fun g => slopeOf k.la4 k.a4 (col4 R.s4m c g.val)
    p4s := fun g => slopeOf k.ld4 k.d4 (col4 R.s4s c g.val)
    qb := fun g => addf (addf q16m (offOf k.la4 k.a4 k.c4 (sum4 z g) (col4 R.m4m c g.val) (col4 R.s4m c g.val))) (mulf (kf (w6 g)) q16s)
    qs := fun g => addf q16s (offOf k.ld4 k.d4 k.e4 (slo4 z g) (col4 R.m4s c g.val) (col4 R.s4s c g.val)) }

/-- The twenty steps' displacements, taken two at a time. -/
def displ (C : Coef F) : ℕ → Fin 16 → Lanes F
  | 0 => fun _ => kf 0x00000000#32
  | n + 1 => step C (step C (displ C n))

/-- The row's two results. -/
def exAt (R : Row F) (c : ℕ) (j : Fin 16) : Lanes F := addf (displ (coefOf (consts R.nb) R c) 10 j) (col16 R.m1 c j.val)
def sdAt (R : Row F) (c : ℕ) (j : Fin 16) : Lanes F := dev (col16 R.s1 c j.val)

def lane (n : ℕ) : S16.Idx := at1 (by decide) n

def exRow (R : Row F) : FVec F S4096 .f32 := fun p => exAt R ((p 0).val / 256) ⟨(p 0).val % 16, Nat.mod_lt _ (by decide)⟩ (lane ((p 0).val % 256 / 16))
def sdRow (R : Row F) : FVec F S4096 .f32 := fun p => sdAt R ((p 0).val / 256) ⟨(p 0).val % 16, Nat.mod_lt _ (by decide)⟩ (lane ((p 0).val % 256 / 16))

end Cert.Proof.Spec

end
-- ==== Proof.Args.lean ====
/-
  The tile program's arguments as one record, and the record with the two rows' buffers exchanged.  The text prints the
  work on a tile's first and on its second row one after the other; the second is the first at the exchanged record
  (Twin.lean), so that what a chunk does is proved once.
-/
module

public import proofs.«01_k».proof.Proof.Spec

@[expose] public section

noncomputable section

namespace Cert.Proof.Spec

open Cert.KernelIdeal Idealize.ShloMosaic

/-- The arguments of the tile program: the operands, the scratch buffers of the two rows, the DMA semaphores. -/
structure Args where
  m2 : Memref sig .scVector .hbm S64x4096 .f32
  h2 : m2.IsWhole
  m3 : Memref sig .scVector .hbm S64x4096 .f32
  h3 : m3.IsWhole
  m4 : Memref sig .scVector .hbm S64x1024 .f32
  h4 : m4.IsWhole
  m5 : Memref sig .scVector .hbm S64x1024 .f32
  h5 : m5.IsWhole
  m6 : Memref sig .scVector .hbm S64x1024 .f32
  h6 : m6.IsWhole
  m7 : Memref sig .scVector .hbm S64x1024 .f32
  h7 : m7.IsWhole
  m8 : Memref sig .scVector .hbm S64x256 .f32
  h8 : m8.IsWhole
  m9 : Memref sig .scVector .hbm S64x256 .f32
  h9 : m9.IsWhole
  m10 : Memref sig .scVector .hbm S64x256 .f32
  h10 : m10.IsWhole
  m11 : Memref sig .scVector .hbm S64x256 .f32
  h11 : m11.IsWhole
  m12 : Memref sig .scVector .hbm S64x96 .f32
  h12 : m12.IsWhole
  m13 : Memref sig .scVector .hbm S64x4096 .f32
  h13 : m13.IsWhole
  m14 : Memref sig .scVector .hbm S64x4096 .f32
  h14 : m14.IsWhole
  m15 : Memref sig .scVector .vmem S4096 .f32
  h15 : m15.IsWhole
  m16 : Memref sig .scVector .vmem S4096 .f32
  h16 : m16.IsWhole
  m17 : Memref sig .scVector .vmem S1024 .f32
  h17 : m17.IsWhole
  m18 : Memref sig .scVector .vmem S1024 .f32
  h18 : m18.IsWhole
  m19 : Memref sig .scVector .vmem S1024 .f32
  h19 : m19.IsWhole
  m20 : Memref sig .scVector .vmem S1024 .f32
  h20 : m20.IsWhole
  m21 : Memref sig .scVector .vmem S256 .f32
  h21 : m21.IsWhole
  m22 : Memref sig .scVector .vmem S256 .f32
  h22 : m22.IsWhole
  m23 : Memref sig .scVector .vmem S256 .f32
  h23 : m23.IsWhole
  m24 : Memref sig .scVector .vmem S256 .f32
  h24 : m24.IsWhole
  m25 : Memref sig .scVector .vmem S96 .f32
  h25 : m25.IsWhole
  m26 : Memref sig .scVector .vmem S4096 .f32
  h26 : m26.IsWhole
  m27 : Memref sig .scVector .vmem S4096 .f32
  h27 : m27.IsWhole
  m28 : Memref sig .scVector .vmem S1024 .f32
  h28 : m28.IsWhole
  m29 : Memref sig .scVector .vmem S1024 .f32
  h29 : m29.IsWhole
  m30 : Memref sig .scVector .vmem S1024 .f32
  h30 : m30.IsWhole
  m31 : Memref sig .scVector .vmem S1024 .f32
  h31 : m31.IsWhole
  m32 : Memref sig .scVector .vmem S256 .f32
  h32 : m32.IsWhole
  m33 : Memref sig .scVector .vmem S256 .f32
  h33 : m33.IsWhole
  m34 : Memref sig .scVector .vmem S256 .f32
  h34 : m34.IsWhole
  m35 : Memref sig .scVector .vmem S256 .f32
  h35 : m35.IsWhole
  m36 : Memref sig .scVector .vmem S96 .f32
  h36 : m36.IsWhole
  m37 : Memref sig .scVector .vmem S4096 .f32
  h37 : m37.IsWhole
  m38 : Memref sig .scVector .vmem S4096 .f32
  h38 : m38.IsWhole
  m39 : Memref sig .scVector .vmem S4096 .f32
  h39 : m39.IsWhole
  m40 : Memref sig .scVector .vmem S4096 .f32
  h40 : m40.IsWhole
  s41 : DmaSems sig S_
  s42 : DmaSems sig S_
  s43 : DmaSems sig S_
  s44 : DmaSems sig S_
  s45 : DmaSems sig S_
  s46 : DmaSems sig S_
  s47 : DmaSems sig S_
  s48 : DmaSems sig S_
  s49 : DmaSems sig S_
  s50 : DmaSems sig S_

/-- A function of the tile program's arguments at a record of them. -/
@[reducible] def Args.app {α : Sort*} (a : Args)
    (f : ∀ (m2 : Memref sig .scVector .hbm S64x4096 .f32), m2.IsWhole →
      ∀ (m3 : Memref sig .scVector .hbm S64x4096 .f32), m3.IsWhole →
      ∀ (m4 : Memref sig .scVector .hbm S64x1024 .f32), m4.IsWhole →
      ∀ (m5 : Memref sig .scVector .hbm S64x1024 .f32), m5.IsWhole →
      ∀ (m6 : Memref sig .scVector .hbm S64x1024 .f32), m6.IsWhole →
      ∀ (m7 : Memref sig .scVector .hbm S64x1024 .f32), m7.IsWhole →
      ∀ (m8 : Memref sig .scVector .hbm S64x256 .f32), m8.IsWhole →
      ∀ (m9 : Memref sig .scVector .hbm S64x256 .f32), m9.IsWhole →
      ∀ (m10 : Memref sig .scVector .hbm S64x256 .f32), m10.IsWhole →
      ∀ (m11 : Memref sig .scVector .hbm S64x256 .f32), m11.IsWhole →
      ∀ (m12 : Memref sig .scVector .hbm S64x96 .f32), m12.IsWhole →
      ∀ (m13 : Memref sig .scVector .hbm S64x4096 .f32), m13.IsWhole →
      ∀ (m14 : Memref sig .scVector .hbm S64x4096 .f32), m14.IsWhole →
      ∀ (m15 : Memref sig .scVector .vmem S4096 .f32), m15.IsWhole →
      ∀ (m16 : Memref sig .scVector .vmem S4096 .f32), m16.IsWhole →
      ∀ (m17 : Memref sig .scVector .vmem S1024 .f32), m17.IsWhole →
      ∀ (m18 : Memref sig .scVector .vmem S1024 .f32), m18.IsWhole →
      ∀ (m19 : Memref sig .scVector .vmem S1024 .f32), m19.IsWhole →
      ∀ (m20 : Memref sig .scVector .vmem S1024 .f32), m20.IsWhole →
      ∀ (m21 : Memref sig .scVector .vmem S256 .f32), m21.IsWhole →
      ∀ (m22 : Memref sig .scVector .vmem S256 .f32), m22.IsWhole →
      ∀ (m23 : Memref sig .scVector .vmem S256 .f32), m23.IsWhole →
      ∀ (m24 : Memref sig .scVector .vmem S256 .f32), m24.IsWhole →
      ∀ (m25 : Memref sig .scVector .vmem S96 .f32), m25.IsWhole →
      ∀ (m26 : Memref sig .scVector .vmem S4096 .f32), m26.IsWhole →
      ∀ (m27 : Memref sig .scVector .vmem S4096 .f32), m27.IsWhole →
      ∀ (m28 : Memref sig .scVector .vmem S1024 .f32), m28.IsWhole →
      ∀ (m29 : Memref sig .scVector .vmem S1024 .f32), m29.IsWhole →
      ∀ (m30 : Memref sig .scVector .vmem S1024 .f32), m30.IsWhole →
      ∀ (m31 : Memref sig .scVector .vmem S1024 .f32), m31.IsWhole →
      ∀ (m32 : Memref sig .scVector .vmem S256 .f32), m32.IsWhole →
      ∀ (m33 : Memref sig .scVector .vmem S256 .f32), m33.IsWhole →
      ∀ (m34 : Memref sig .scVector .vmem S256 .f32), m34.IsWhole →
      ∀ (m35 : Memref sig .scVector .vmem S256 .f32), m35.IsWhole →
      ∀ (m36 : Memref sig .scVector .vmem S96 .f32), m36.IsWhole →
      ∀ (m37 : Memref sig .scVector .vmem S4096 .f32), m37.IsWhole →
      ∀ (m38 : Memref sig .scVector .vmem S4096 .f32), m38.IsWhole →
      ∀ (m39 : Memref sig .scVector .vmem S4096 .f32), m39.IsWhole →
      ∀ (m40 : Memref sig .scVector .vmem S4096 .f32), m40.IsWhole →
      DmaSems sig S_ → DmaSems sig S_ → DmaSems sig S_ → DmaSems sig S_ → DmaSems sig S_ → DmaSems sig S_ → DmaSems sig S_ → DmaSems sig S_ → DmaSems sig S_ → DmaSems sig S_ → α) : α :=
  f a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 a.m19 a.h19 a.m20 a.h20 a.m21 a.h21 a.m22 a.h22 a.m23 a.h23 a.m24 a.h24 a.m25 a.h25 a.m26 a.h26 a.m27 a.h27 a.m28 a.h28 a.m29 a.h29 a.m30 a.h30 a.m31 a.h31 a.m32 a.h32 a.m33 a.h33 a.m34 a.h34 a.m35 a.h35 a.m36 a.h36 a.m37 a.h37 a.m38 a.h38 a.m39 a.h39 a.m40 a.h40
    a.s41 a.s42 a.s43 a.s44 a.s45 a.s46 a.s47 a.s48 a.s49 a.s50

/-- The record with the two rows' buffers exchanged. -/
@[reducible] def Args.swap (a : Args) : Args where
  m2 := a.m2
  h2 := a.h2
  m3 := a.m3
  h3 := a.h3
  m4 := a.m4
  h4 := a.h4
  m5 := a.m5
  h5 := a.h5
  m6 := a.m6
  h6 := a.h6
  m7 := a.m7
  h7 := a.h7
  m8 := a.m8
  h8 := a.h8
  m9 := a.m9
  h9 := a.h9
  m10 := a.m10
  h10 := a.h10
  m11 := a.m11
  h11 := a.h11
  m12 := a.m12
  h12 := a.h12
  m13 := a.m13
  h13 := a.h13
  m14 := a.m14
  h14 := a.h14
  m15 := a.m26
  h15 := a.h26
  m16 := a.m27
  h16 := a.h27
  m17 := a.m28
  h17 := a.h28
  m18 := a.m29
  h18 := a.h29
  m19 := a.m30
  h19 := a.h30
  m20 := a.m31
  h20 := a.h31
  m21 := a.m32
  h21 := a.h32
  m22 := a.m33
  h22 := a.h33
  m23 := a.m34
  h23 := a.h34
  m24 := a.m35
  h24 := a.h35
  m25 := a.m36
  h25 := a.h36
  m26 := a.m15
  h26 := a.h15
  m27 := a.m16
  h27 := a.h16
  m28 := a.m17
  h28 := a.h17
  m29 := a.m18
  h29 := a.h18
  m30 := a.m19
  h30 := a.h19
  m31 := a.m20
  h31 := a.h20
  m32 := a.m21
  h32 := a.h21
  m33 := a.m22
  h33 := a.h22
  m34 := a.m23
  h34 := a.h23
  m35 := a.m24
  h35 := a.h24
  m36 := a.m25
  h36 := a.h25
  m37 := a.m39
  h37 := a.h39
  m38 := a.m40
  h38 := a.h40
  m39 := a.m37
  h39 := a.h37
  m40 := a.m38
  h40 := a.h38
  s41 := a.s41
  s42 := a.s42
  s43 := a.s43
  s44 := a.s44
  s45 := a.s45
  s46 := a.s46
  s47 := a.s47
  s48 := a.s48
  s49 := a.s49
  s50 := a.s50

end Cert.Proof.Spec

end
-- ==== Proof.Twin.lean ====
/-
  The work on a chunk of a tile's second row is the work on a chunk of its first row, with the two rows' buffers exchanged.
-/
module

public import proofs.«01_k».proof.Proof.Args

@[expose] public section

noncomputable section

namespace Cert.Proof.Spec

open Cert.KernelIdeal Cert.KernelIdeal.Gen Idealize.ShloMosaic

variable {F : FTy → Type} [FloatOps F] [Named F]

set_option maxRecDepth 65536 in
set_option maxHeartbeats 4000000 in
/-- A chunk of the second row, at the exchanged record. -/
theorem part44_eq (a : Args) (i : grid0.Coords) (v1 v2 v3 v4 v5 v6 v7 v8 v9 v10 v11 v12 : Lanes F)
    (t : Fin k0_t3_loop.trips) :
    a.app (k0_part44 (F := F) i) v1 v2 v3 v4 v5 v6 v7 v8 v9 v10 v11 v12 0#32 1#32 t
      = a.swap.app (k0_part22 (F := F) i) v1 v2 v3 v4 v5 v6 v7 v8 v9 v10 v11 v12 0#32 1#32 t := rfl

end Cert.Proof.Spec

end
-- ==== Proof.Inner.lean ====
/-
  A trip of the steps' loop is two gradient steps, and the loop's ten trips are the twenty steps.
-/
module

public import proofs.«01_k».proof.Proof.Args

@[expose] public section

noncomputable section

namespace Cert.Proof.Spec

open Cert.KernelIdeal Cert.KernelIdeal.Gen Idealize.ShloMosaic Idealize.SL.Sem

variable {F : FTy → Type} [FloatOps F] [Named F]

/-- The sixteen columns as the loop carries them. -/
abbrev Tup (F : FTy → Type) : Type :=
  Lanes F × Lanes F × Lanes F × Lanes F × Lanes F × Lanes F × Lanes F × Lanes F × Lanes F × Lanes F × Lanes F × Lanes F × Lanes F × Lanes F × Lanes F × Lanes F

def tup (z : Fin 16 → Lanes F) : Tup F :=
  (z 0, z 1, z 2, z 3, z 4, z 5, z 6, z 7, z 8, z 9, z 10, z 11, z 12, z 13, z 14, z 15)

set_option maxRecDepth 65536 in
set_option maxHeartbeats 4000000 in
theorem t2_body (a : Args) (i : grid0.Coords) (C : Coef F) (v1 : IVec S16 32) (v2 v3 v4 v5 v6 v7 v8 v9 v670 v845 v846 v848 : Lanes F)
    (hb : k0_pay231 v846 v848 = C.qb 3) (hs : k0_pay232 v670 v845 = C.qs 3) (t : Fin k0_t2_loop.trips) (z : Fin 16 → Lanes F) :
    a.app (k0_t2_body (F := F) i) v1 v2 v3 v4 v5 v6 v7 v8 v9 (C.d 0) (C.d 1) (C.d 2) (C.d 3) (C.d 4) (C.d 5) (C.d 6) (C.d 7)
      (C.d 8) (C.d 9) (C.d 10) (C.d 11) (C.d 12) (C.d 13) (C.d 14) (C.d 15) C.p16m C.p16s v670 (C.p4m 0) (C.p4s 0) (C.qb 0) (C.qs 0)
      (C.p4m 1) (C.p4s 1) (C.qb 1) (C.qs 1) (C.p4m 2) (C.p4s 2) (C.qb 2) (C.qs 2) (C.p4m 3) (C.p4s 3) v845 v846 v848 t (tup z)
      = pure (tup (step C (step C z))) := by
  unfold Args.app k0_t2_body
  rw [hb, hs]
  rfl

omit [FloatOps F] [Named F] in
/-- A loop whose every trip returns a function of what it carries returns the function iterated. -/
theorem forFrom_pure {E : Type → Type*} {n : ℕ} {σ ρ : Type} (r : ρ → σ) (g : ρ → ρ) (body : Fin n → σ → Prog E σ)
    (hb : ∀ t z, body t (r z) = pure (r (g z))) :
    ∀ (l : List (Fin n)) (z : ρ), Scf.forFrom body l (r z) = pure (r (g^[l.length] z))
  | [], _ => rfl
  | k :: ks, z => by
    rw [Scf.forFrom_cons, hb, List.length_cons, Function.iterate_succ, Function.comp]
    exact forFrom_pure r g body hb ks (g z)

omit [Named F] in
theorem displ_eq_iterate (C : Coef F) (n : ℕ) :
    displ C n = (fun z => step C (step C z))^[n] fun _ => kf 0x00000000#32 := by
  induction n with
  | zero => rfl
  | succ n ih => rw [Function.iterate_succ', Function.comp, ← ih]; rfl

/-- The steps' loop returns the displacements after twenty steps. -/
theorem t2_loop (a : Args) (i : grid0.Coords) (C : Coef F) (v1 : IVec S16 32) (v2 v3 v4 v5 v6 v7 v8 v9 v670 v845 v846 v848 : Lanes F)
    (hb : k0_pay231 v846 v848 = C.qb 3) (hs : k0_pay232 v670 v845 = C.qs 3) :
    Scf.Loop.for k0_t2_loop k0_t2_ok (tup fun _ => kf 0x00000000#32)
      (a.app (k0_t2_body (F := F) i) v1 v2 v3 v4 v5 v6 v7 v8 v9 (C.d 0) (C.d 1) (C.d 2) (C.d 3) (C.d 4) (C.d 5) (C.d 6) (C.d 7)
      (C.d 8) (C.d 9) (C.d 10) (C.d 11) (C.d 12) (C.d 13) (C.d 14) (C.d 15) C.p16m C.p16s v670 (C.p4m 0) (C.p4s 0) (C.qb 0) (C.qs 0)
      (C.p4m 1) (C.p4s 1) (C.qb 1) (C.qs 1) (C.p4m 2) (C.p4s 2) (C.qb 2) (C.qs 2) (C.p4m 3) (C.p4s 3) v845 v846 v848)
      = pure (tup (displ C 10)) := by
  refine (Scf.for_eq _ _ _ _ _ _).trans ?_
  rw [forFrom_pure tup (fun z => step C (step C z)) _ (fun t z => t2_body a i C v1 v2 v3 v4 v5 v6 v7 v8 v9 v670 v845 v846 v848 hb hs t z),
    displ_eq_iterate, List.length_finRange]
  rfl

end Cert.Proof.Spec

end
-- ==== Proof.Setup.lean ====
/-
  The program as the launch theorem sees it, and a buffer held by what a memref reads in it, with the rules of the three
  operations a chunk's text uses: a gather, a plain load, a scatter of sixteen lanes.
-/
module

public import proofs.«01_k».proof.Defs
public import proofs.«01_k».proof.Proof.Twin
public import proofs.«01_k».proof.Proof.Inner
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile's thread, and a buffer held by what it reads -/

abbrev cV (L : grid0.Coords) : Fin τ.nSC := (L 0).castLE hcore0
abbrev jV (L : grid0.Coords) : Fin τ.nSub := (L 1).castLE hsub0

variable (d : Dev nD) (L : grid0.Coords)

/-- The buffer of a tile's memref, whole, where the memref reads `v`. -/
def holds {s : Shape} (m : Memref sig .scVector .vmem s .f32) (v : FVec F s .f32) : sProp 𝕄 :=
  iprop(∃ f, ⌜m.view.read (Elt F) f = v⌝ ∗ (m.view.loc (V d (cV L) (jV L)) ↦{fullShare} f))

/-- The weakest precondition of a tile's program. -/
abbrev twp {α : Type} (p : Prog (TpuEff nD τ sig (Elt F) Λ₀ (.scVector (cV L) (jV L))) α) (Q : α → sProp 𝕄) : sProp 𝕄 :=
  wp frame (wpE (defs₀ (F := F)) 𝒱₀ (V d (cV L) (jV L)) none) Set.univ p Q

variable {d L} {α : Type}

theorem twp_assume {P : Prop} {dc : Decidable P} {k : PLift P → Prog (TpuEff nD τ sig (Elt F) Λ₀ (.scVector (cV L) (jV L))) α} {Q : α → sProp 𝕄}
    {X : sProp 𝕄} (h : P) (hk : X ⊢ twp d L (k ⟨h⟩) Q) : X ⊢ twp d L (Prog.lift (TpuEff.assume P dc) >>= k) Q := by
  show X ⊢ wp frame (wpE (defs₀ (F := F)) 𝒱₀ (V d (cV L) (jV L)) none) Set.univ (.op (.assume P dc) k) Q
  rw [wp_assume_of 𝒱₀ (V d (cV L) (jV L)) none Set.univ h]
  exact hk

omit [Named F] in
theorem read_access_whole' {s : Shape} (m : Memref sig .scVector .vmem s .f32) (f : m.view.ty.Contents (Elt F)) :
    (m.access (.whole s)).read (Elt F) f = m.view.read (Elt F) f := by
  funext x
  rw [View.read_apply, View.read_apply]
  congr 2
  show m.view.emb ((Rect.whole s).emb x) = _
  rw [Rect.emb_whole_apply]

theorem twp_gather {s t : Shape} {m : Memref sig .scVector .vmem s .f32} {idxs : Fin s.rank → IVec t 32} {h : ∀ a x, (idxs a x).toNat < s.size a}
    {hl : m.view.Loads} {k : FVec F t .f32 → Prog (TpuEff nD τ sig (Elt F) Λ₀ (.scVector (cV L) (jV L))) α} {Q : α → sProp 𝕄}
    {X : sProp 𝕄} {v : FVec F s .f32} {w : FVec F t .f32} (hw : ∀ x, v (idxAt idxs h x) = w x)
    (hk : iprop(holds d L m v ∗ X) ⊢ twp d L (k w) Q) :
    iprop(holds d L m v ∗ X) ⊢ twp d L (SparseCore.vectorLoadIdx m idxs h hl >>= k) Q := by
  unfold holds at *
  iintro ⟨⟨%f, %hf, H⟩, HX⟩
  iapply (SparseCore.wp_vectorLoadIdx (defs := defs₀ (F := F)) 𝒱₀ (V d (cV L) (jV L)) none Set.univ (base := m) (q := fullShare) (f := f) (Finset.subset_univ _)) $$ H
  iintro H
  have e : loadIdx (F := F) (e := .f32) ((m.access (.whole s)).read (Elt F) f) idxs h = w := by
    funext x
    rw [read_access_whole', hf]
    exact hw x
  rw [e]
  iapply hk
  isplitl [H]
  · iexists f
    isplitr
    · ipureintro; exact hf
    · iexact H
  · iexact HX

theorem twp_load {s : Shape} {m : Memref sig .scVector .vmem s .f32} {r : Rect s}
    {hl : m.view.LoadsAt r} {k : FVec F r.shape .f32 → Prog (TpuEff nD τ sig (Elt F) Λ₀ (.scVector (cV L) (jV L))) α} {Q : α → sProp 𝕄}
    {X : sProp 𝕄} {v : FVec F s .f32} {w : FVec F r.shape .f32} (hw : ∀ x, v (r.emb x) = w x)
    (hk : iprop(holds d L m v ∗ X) ⊢ twp d L (k w) Q) :
    iprop(holds d L m v ∗ X) ⊢ twp d L (Prog.lift (.load m r hl) >>= k) Q := by
  unfold holds at *
  rw [show twp d L (Prog.lift (.load m r hl) >>= k) Q
    = wp frame (wpE (defs₀ (F := F)) 𝒱₀ (V d (cV L) (jV L)) none) Set.univ (.op (.load m r hl) k) Q from rfl]
  iintro ⟨⟨%f, %hf, H⟩, HX⟩
  iapply (wp_load_rect (defs := defs₀ (F := F)) 𝒱₀ (V d (cV L) (jV L)) none Set.univ (m := m) (r := r) (q := fullShare) (f := f) (Finset.subset_univ _)) $$ H
  iintro H
  have e : ((m.access r).read (Elt F) f : FVec F r.shape .f32) = w := by
    funext x
    rw [← hw x, ← hf]
    rfl
  rw [e]
  iapply hk
  isplitl [H]
  · iexists f
    isplitr
    · ipureintro; exact hf
    · iexact H
  · iexact HX

theorem twp_scatter {s : Shape} {dd : Fin 1 → Nat} {m : Memref sig .scVector .vmem s .f32} {idxs : Fin s.rank → IVec ⟨1, dd⟩ 32} {val : FVec F ⟨1, dd⟩ .f32}
    {mask : IVec ⟨1, dd⟩ 1} {h : ∀ a x, (idxs a x).toNat < s.size a} {hs : (m.access (.whole s)).Stores Finset.univ}
    {k : PUnit → Prog (TpuEff nD τ sig (Elt F) Λ₀ (.scVector (cV L) (jV L))) α} {Q : α → sProp 𝕄}
    {X : sProp 𝕄} {v : FVec F s .f32}
    (hk : iprop(holds d L m (storeIdx (F := F) (e := .f32) v idxs val mask false h) ∗ X) ⊢ twp d L (k ⟨⟩) Q) :
    iprop(holds d L m v ∗ X) ⊢ twp d L (SparseCore.vectorStoreIdx m idxs val mask false h hs >>= k) Q := by
  unfold holds at *
  iintro ⟨⟨%f, %hf, H⟩, HX⟩
  rw [show twp d L (SparseCore.vectorStoreIdx m idxs val mask false h hs >>= k) Q
    = wp frame (wpE (defs₀ (F := F)) 𝒱₀ (V d (cV L) (jV L)) none) Set.univ (.op (.load m (.whole s) (View.loadsAt_rect hs.loads)) fun f' =>
        .op (.store m (.whole s) (storeIdx f' idxs val mask false h) Finset.univ hs (.inl rfl)) k) Q from rfl]
  iapply (wp_load_rect (defs := defs₀ (F := F)) 𝒱₀ (V d (cV L) (jV L)) none Set.univ (m := m) (r := Rect.whole s) (q := fullShare) (f := f) (Finset.subset_univ _)) $$ H
  iintro H
  iapply (wp_store (defs := defs₀ (F := F)) 𝒱₀ (V d (cV L) (jV L)) none Set.univ (m := m) (r := Rect.whole s) (f := f) (Finset.subset_univ _)) $$ H
  iintro H
  iapply hk
  isplitl [H]
  · iexists ((m.access (.whole s)).write (Elt F) f (storeIdx (F := F) (e := .f32) ((m.access (.whole s)).read (Elt F) f) idxs val mask false h) Finset.univ)
    isplitr
    · ipureintro
      exact (read_access_whole' m _).symm.trans ((View.read_write_univ _ _).trans (by rw [read_access_whole', hf]))
    · iexact H
  · iexact HX

end Cert.Proof.Tile

end
-- ==== Proof.Chunk.lean ====
/-
  A chunk of sixteen segments of a row: the gathers, the twenty steps, the scatters into the row's two result buffers.
-/
module

public import proofs.«01_k».proof.Proof.Setup

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

/-! ## Lane indices -/

/-- The lanes of `v` are column `j` of the segments of chunk `c`, of `w` columns each. -/
def LaneIx (w c j : ℕ) (v : IVec S16 32) : Prop := ∀ x, (v x).toNat = 16 * w * c + w * (x 0).val + j

theorem lane_lt (x : S16.Idx) : (x 0).val < 16 := (x 0).isLt

theorem laneIx_add {w c j : ℕ} {base : IVec S16 32} (hb : LaneIx w c 0 base) (hc : c < 16) (hw : w ≤ 16) (hj : j < w) :
    LaneIx w c j (addi base (broadcast S16 (BitVec.ofNat 32 j))) := by
  intro x
  have hx := lane_lt x
  have h0 := hb x
  show (base x + BitVec.ofNat 32 j).toNat = _
  have h1 : 16 * w * c ≤ 16 * 16 * 15 := Nat.mul_le_mul (Nat.mul_le_mul le_rfl hw) (by omega)
  have h2 : w * (x 0).val ≤ 16 * 15 := Nat.mul_le_mul hw (by omega)
  rw [BitVec.toNat_add, h0, BitVec.toNat_ofNat]
  omega

/-- The base indices a chunk starts from. -/
theorem laneIx_base {w : ℕ} (hw : w ≤ 16) (t : Fin k0_t1_loop.trips) :
    LaneIx w t.val 0 (addi (broadcast S16 (Scalar.muli (Scf.iv 0#32 1#32 t.val) (BitVec.ofNat 32 (16 * w))))
      (muli (iota .scVector S16 32 [0] iota_S16_d0_w32_scVector) (broadcast S16 (BitVec.ofNat 32 w)))) := by
  intro x
  have hx := lane_lt x
  have ht : t.val < 16 := t.isLt
  show ((0#32 + BitVec.ofNat 32 t.val * 1#32) * BitVec.ofNat 32 (16 * w) + BitVec.ofNat 32 (0 * S16.size 0 + (x 0).val) * BitVec.ofNat 32 w).toNat = _
  rw [Nat.zero_mul, Nat.zero_add]
  have h1 : t.val * (16 * w) ≤ 15 * (16 * 16) := Nat.mul_le_mul (by omega) (by omega)
  have h2 : (x 0).val * w ≤ 15 * 16 := Nat.mul_le_mul (by omega) hw
  have e1 : 16 * w * t.val = t.val * (16 * w) := Nat.mul_comm _ _
  have e2 : w * (x 0).val = (x 0).val * w := Nat.mul_comm _ _
  rw [e1, e2]
  simp only [BitVec.toNat_add, BitVec.toNat_mul, BitVec.toNat_ofNat, BitVec.mul_one, BitVec.zero_add]
  rw [Nat.mod_eq_of_lt (show t.val < 2 ^ 32 by omega), Nat.mod_eq_of_lt (show 16 * w < 2 ^ 32 by omega),
    Nat.mod_eq_of_lt (show (x 0).val < 2 ^ 32 by omega), Nat.mod_eq_of_lt (show w < 2 ^ 32 by omega)]
  omega

variable {F : FTy → Type} [FloatOps F] [Named F]

local notation "𝕄" => MT nD τ sig (HIx 1) (Elt F) ℕ UU ℕ

theorem ix_eq {N : ℕ} (hN : 0 < N) (p : (⟨1, ![N]⟩ : Shape).Idx) (n : ℕ) (h : (p 0).val = n) : p = at1 hN n := by
  funext a
  obtain rfl : a = 0 := Subsingleton.elim _ _
  apply Fin.ext
  show (p 0).val = n % N
  have : (p 0).val < N := (p 0).isLt
  rw [← h, Nat.mod_eq_of_lt this]

theorem laneIx_lt {w c j : ℕ} {v : IVec S16 32} (h : LaneIx w c j v) (hc : c < 16) (hj : j < w) (N : ℕ) (hN : 256 * w = N) :
    ∀ (a : Fin 1) x, ((![v] : Fin 1 → IVec S16 32) a x).toNat < (⟨1, ![N]⟩ : Shape).size a := by
  intro a x
  obtain rfl : a = 0 := Subsingleton.elim _ _
  show (v x).toNat < N
  rw [h x, ← hN]
  have hx := lane_lt x
  have h1 : 16 * w * c ≤ 16 * w * 15 := Nat.mul_le_mul le_rfl (by omega)
  have h2 : w * (x 0).val ≤ w * 15 := Nat.mul_le_mul le_rfl (by omega)
  have : 16 * w * 15 = 240 * w := by ring
  have : w * 15 = 15 * w := by ring
  omega

section

variable {base : IVec S16 32} {c j : ℕ}

theorem chk16 (hb : LaneIx 16 c 0 base) (hc : c < 16) (hj : j < 16) :
    ∀ (a : Fin 1) x, ((![addi base (broadcast S16 (BitVec.ofNat 32 j))] : Fin 1 → IVec S16 32) a x).toNat < S4096.size a :=
  laneIx_lt (laneIx_add hb hc le_rfl hj) hc hj 4096 rfl

theorem chk4 (hb : LaneIx 4 c 0 base) (hc : c < 16) (hj : j < 4) :
    ∀ (a : Fin 1) x, ((![addi base (broadcast S16 (BitVec.ofNat 32 j))] : Fin 1 → IVec S16 32) a x).toNat < S1024.size a :=
  laneIx_lt (laneIx_add hb hc (by omega) hj) hc hj 1024 rfl

/-- What a gather at column `j` reads. -/
theorem get16 (f : FVec F S4096 .f32) (hb : LaneIx 16 c 0 base) (hc : c < 16) (hj : j < 16)
    (h : ∀ a x, ((![addi base (broadcast S16 (BitVec.ofNat 32 j))] : Fin 1 → IVec S16 32) a x).toNat < S4096.size a) (x : S16.Idx) :
    f (idxAt ![addi base (broadcast S16 (BitVec.ofNat 32 j))] h x) = col16 f c j x :=
  congrArg f (ix_eq (by decide) _ _ (laneIx_add hb hc le_rfl hj x))

theorem get4 (f : FVec F S1024 .f32) (hb : LaneIx 4 c 0 base) (hc : c < 16) (hj : j < 4)
    (h : ∀ a x, ((![addi base (broadcast S16 (BitVec.ofNat 32 j))] : Fin 1 → IVec S16 32) a x).toNat < S1024.size a) (x : S16.Idx) :
    f (idxAt ![addi base (broadcast S16 (BitVec.ofNat 32 j))] h x) = col4 f c j x :=
  congrArg f (ix_eq (by decide) _ _ (laneIx_add hb hc (by omega) hj x))

end

/-- The plain load of a chunk's sixteen segments. -/
theorem get1 (f : FVec F S256 .f32) (t : Fin k0_t1_loop.trips) (x : S16.Idx) :
    f ((Rect.unit (s := S256) (k0_off9 t) S16.size (k0_off9_inb t)).emb x) = col1 f t.val x := by
  refine congrArg f (ix_eq (by decide) _ _ ?_)
  have ht : t.val < 16 := t.isLt
  show (k0_off9 t) 0 + 1 * (x 0).val = _
  have : (k0_off9 t) 0 = 16 * t.val := by rw [k0_off9_eq]; rfl
  omega

/-! ## A scatter of a column -/

theorem foldl_miss {X Y β : Type} (P : X → Y → Prop) [∀ x y, Decidable (P x y)] (v : X → β) (y : Y) :
    ∀ (l : List X) (f : Y → β), (∀ x ∈ l, ¬P x y) → (l.foldl (fun g x => fun y => if P x y then v x else g y) f) y = f y
  | [], _, _ => rfl
  | x :: l, f, h => by
    rw [List.foldl_cons, foldl_miss P v y l _ fun x' hx' => h x' (List.mem_cons_of_mem _ hx')]
    exact if_neg (h x List.mem_cons_self)

theorem foldl_hit {X Y β : Type} (P : X → Y → Prop) [∀ x y, Decidable (P x y)] (v : X → β) (y : Y) (x₀ : X) (hx₀ : P x₀ y) :
    ∀ (l : List X) (f : Y → β), x₀ ∈ l → (∀ x ∈ l, P x y → x = x₀) →
      (l.foldl (fun g x => fun y => if P x y then v x else g y) f) y = v x₀
  | [], _, h, _ => absurd h List.not_mem_nil
  | x :: l, f, h, hu => by
    rw [List.foldl_cons]
    by_cases hl : x₀ ∈ l
    · exact foldl_hit P v y x₀ hx₀ l _ hl fun x' hx' => hu x' (List.mem_cons_of_mem _ hx')
    · obtain rfl : x₀ = x := (List.mem_cons.mp h).resolve_right hl
      rw [foldl_miss P v y l _ fun x' hx' hP => hl (hu x' (List.mem_cons_of_mem _ hx') hP ▸ hx')]
      exact if_pos hx₀

/-- What a scatter of column `j` of chunk `c` leaves. -/
theorem storeIdx_col {c j : ℕ} {v : IVec S16 32} (hv : LaneIx 16 c j v) (hj : j < 16) (f : FVec F S4096 .f32) (val : Lanes F)
    (h : ∀ a x, ((![v] : Fin 1 → IVec S16 32) a x).toNat < S4096.size a) (p : S4096.Idx) :
    storeIdx (F := F) (s := S4096) (d := ![16]) (e := .f32) f ![v] val (fun _ => 1#1) false h p
      = if (p 0).val / 256 = c ∧ (p 0).val % 16 = j then val (lane ((p 0).val % 256 / 16)) else f p := by
  have hp : (p 0).val < 4096 := (p 0).isLt
  have key : storeIdx (F := F) (s := S4096) (d := ![16]) (e := .f32) f ![v] val (fun _ => 1#1) false h
      = (List.finRange 16).foldl (fun g k => fun q : S4096.Idx =>
          if (∀ a, (q a).val = (idxAt (s := S4096) (t := S16) ![v] h (Shape.ofLane k) a).val) then val (Shape.ofLane k) else g q) f := by
    unfold storeIdx
    simp only [if_true, Bool.false_eq_true, if_false]
    rfl
  have hit : ∀ k : Fin 16, (∀ a, (p a).val = (idxAt (s := S4096) (t := S16) ![v] h (Shape.ofLane k) a).val) ↔ (p 0).val = 256 * c + 16 * k.val + j := by
    intro k
    have e : (idxAt (s := S4096) (t := S16) ![v] h (Shape.ofLane k) 0).val = 256 * c + 16 * k.val + j := hv _
    exact ⟨fun H => (H 0).trans e, fun H a => by obtain rfl : a = 0 := Subsingleton.elim _ _; exact H.trans e.symm⟩
  rw [key]
  split
  · rename_i hc
    have hk : (p 0).val % 256 / 16 < 16 := by omega
    refine (foldl_hit (fun (k : Fin 16) (q : S4096.Idx) => ∀ a, (q a).val = (idxAt (s := S4096) (t := S16) ![v] h (Shape.ofLane k) a).val)
      (fun k => val (Shape.ofLane k)) p ⟨(p 0).val % 256 / 16, hk⟩ ((hit _).mpr (by simp only []; omega)) _ _ (List.mem_finRange _)
      fun k _ hP => Fin.ext (by have := (hit k).mp hP; simp only []; omega)).trans ?_
    exact congrArg val (ix_eq (by decide) _ _ rfl)
  · rename_i hc
    exact foldl_miss (fun (k : Fin 16) (q : S4096.Idx) => ∀ a, (q a).val = (idxAt (s := S4096) (t := S16) ![v] h (Shape.ofLane k) a).val)
      (fun k => val (Shape.ofLane k)) p _ _ fun k _ hP => hc (by have := (hit k).mp hP; have := k.isLt; omega)

/-- A result buffer's contents agree with `row` on the chunks before `c` and on the columns before `j` of chunk `c`. -/
def Done (row : FVec F S4096 .f32) (c j : ℕ) (G : FVec F S4096 .f32) : Prop :=
  ∀ p, (p 0).val / 256 < c ∨ ((p 0).val / 256 = c ∧ (p 0).val % 16 < j) → G p = row p

theorem done_store {row : FVec F S4096 .f32} {c j : ℕ} {G : FVec F S4096 .f32} (hG : Done row c j G) {v : IVec S16 32} (hv : LaneIx 16 c j v)
    (hj : j < 16) {val : Lanes F} (hval : ∀ p : S4096.Idx, (p 0).val / 256 = c → (p 0).val % 16 = j → val (lane ((p 0).val % 256 / 16)) = row p)
    (h : ∀ a x, ((![v] : Fin 1 → IVec S16 32) a x).toNat < S4096.size a) :
    Done row c (j + 1) (storeIdx (F := F) (s := S4096) (d := ![16]) (e := .f32) G ![v] val (fun _ => 1#1) false h) := by
  intro p hp
  rw [storeIdx_col hv hj]
  split
  · rename_i hc; exact hval p hc.1 hc.2
  · rename_i hc; exact hG p (by omega)

theorem done_next {row : FVec F S4096 .f32} {c : ℕ} {G : FVec F S4096 .f32} (h : Done row c 16 G) : Done row (c + 1) 0 G :=
  fun p hp => h p (by omega)

theorem done_all {row : FVec F S4096 .f32} {G : FVec F S4096 .f32} (h : Done row 16 0 G) : G = row :=
  funext fun p => h p (by have : (p 0).val < 4096 := (p 0).isLt; omega)

/-! ## A chunk's resources -/

theorem ent_trans {X Y Z : sProp 𝕄} (h : X ⊢ Y) (h' : Y ⊢ Z) : X ⊢ Z := h.trans h'

theorem ent_of_eq {X Y : sProp 𝕄} (h : X = Y) : X ⊢ Y := by subst h; exact .rfl

variable (d : Dev nD) (L : grid0.Coords)

/-- The ten buffers a chunk reads. -/
def inp (a : Args) (R : Row F) : Fin 10 → sProp 𝕄 :=
  ![holds d L a.m15 R.m1, holds d L a.m16 R.s1, holds d L a.m17 R.m4s, holds d L a.m18 R.s4s, holds d L a.m19 R.m4m, holds d L a.m20 R.s4m,
    holds d L a.m21 R.m16s, holds d L a.m22 R.s16s, holds d L a.m23 R.m16m, holds d L a.m24 R.s16m]

/-- A result buffer, filled so far. -/
def outp (m : Memref sig .scVector .vmem S4096 .f32) (row : FVec F S4096 .f32) (c j : ℕ) : sProp 𝕄 :=
  iprop(∃ G, ⌜Done row c j G⌝ ∗ holds d L m G)

/-- What a chunk's text holds: the row's buffers, and its two result buffers with `je` and `js` columns of chunk `c` filled. -/
def Ctx (a : Args) (R : Row F) (c je js : ℕ) : sProp 𝕄 :=
  iprop(bigSep Finset.univ (inp d L a R) ∗ outp d L a.m37 (exRow R) c je ∗ outp d L a.m38 (sdRow R) c js)

variable {d L} {a : Args} {R : Row F} {c je js : ℕ} {α : Type}

theorem ctx_split (b : Fin 10) : Ctx d L a R c je js
    = iprop(inp d L a R b ∗ (bigSep (Finset.univ.erase b) (inp d L a R) ∗ outp d L a.m37 (exRow R) c je ∗ outp d L a.m38 (sdRow R) c js)) := by
  unfold Ctx
  rw [SparseCore.bigSep_erase' (Finset.mem_univ b)]
  exact equiv_iff.mp ⟨BI.sep_assoc, BI.sep_assoc'⟩

theorem ctx_gather {s : Shape} (b : Fin 10) {m : Memref sig .scVector .vmem s .f32} {idxs : Fin s.rank → IVec S16 32} {h : ∀ a x, (idxs a x).toNat < s.size a}
    {hl : m.view.Loads} {k : FVec F S16 .f32 → Prog (TpuEff nD τ sig (Elt F) Λ₀ (.scVector (cV L) (jV L))) α} {Q : α → sProp 𝕄}
    {v : FVec F s .f32} {w : FVec F S16 .f32} (hb : inp d L a R b = holds d L m v) (hw : ∀ x, v (idxAt idxs h x) = w x)
    (hk : Ctx d L a R c je js ⊢ twp d L (k w) Q) :
    Ctx d L a R c je js ⊢ twp d L (SparseCore.vectorLoadIdx m idxs h hl >>= k) Q := by
  rw [ctx_split b, hb] at hk ⊢
  exact twp_gather hw hk

theorem ctx_load {s : Shape} (b : Fin 10) {m : Memref sig .scVector .vmem s .f32} {r : Rect s} {hl : m.view.LoadsAt r}
    {k : FVec F r.shape .f32 → Prog (TpuEff nD τ sig (Elt F) Λ₀ (.scVector (cV L) (jV L))) α} {Q : α → sProp 𝕄}
    {v : FVec F s .f32} {w : FVec F r.shape .f32} (hb : inp d L a R b = holds d L m v) (hw : ∀ x, v (r.emb x) = w x)
    (hk : Ctx d L a R c je js ⊢ twp d L (k w) Q) :
    Ctx d L a R c je js ⊢ twp d L (Prog.lift (.load m r hl) >>= k) Q := by
  rw [ctx_split b, hb] at hk ⊢
  exact twp_load hw hk

theorem outp_scatter {m : Memref sig .scVector .vmem S4096 .f32} {row : FVec F S4096 .f32} {j : ℕ} {v : IVec S16 32} {val : Lanes F} {X : sProp 𝕄}
    {h : ∀ a x, ((![v] : Fin 1 → IVec S16 32) a x).toNat < S4096.size a} {hs : (m.access (.whole S4096)).Stores Finset.univ}
    {k : PUnit → Prog (TpuEff nD τ sig (Elt F) Λ₀ (.scVector (cV L) (jV L))) α} {Q : α → sProp 𝕄} (hv : LaneIx 16 c j v)
    (hj : j < 16) (hval : ∀ p : S4096.Idx, (p 0).val / 256 = c → (p 0).val % 16 = j → val (lane ((p 0).val % 256 / 16)) = row p)
    (hk : iprop(outp d L m row c (j + 1) ∗ X) ⊢ twp d L (k ⟨⟩) Q) :
    iprop(outp d L m row c j ∗ X) ⊢ twp d L (SparseCore.vectorStoreIdx (d := ![16]) m ![v] val (fun _ => 1#1) false h hs >>= k) Q := by
  unfold outp
  iintro ⟨⟨%G, %hG, H⟩, HX⟩
  iapply (twp_scatter (d := d) (L := L) (X := X) (v := G) (Q := Q) (by
    refine ent_trans ?_ hk
    unfold outp
    iintro ⟨H, HX⟩
    isplitl [H]
    · iexists (storeIdx (F := F) (s := S4096) (d := ![16]) (e := .f32) G ![v] val (fun _ => 1#1) false h)
      isplitr
      · ipureintro; exact done_store hG hv hj hval h
      · iexact H
    · iexact HX)) $$ [H HX]
  isplitl [H]
  · iexact H
  · iexact HX

theorem ctx_store_ex {j : ℕ} {v : IVec S16 32} {val : Lanes F}
    {h : ∀ a x, ((![v] : Fin 1 → IVec S16 32) a x).toNat < S4096.size a} {hs : (a.m37.access (.whole S4096)).Stores Finset.univ}
    {k : PUnit → Prog (TpuEff nD τ sig (Elt F) Λ₀ (.scVector (cV L) (jV L))) α} {Q : α → sProp 𝕄} (hv : LaneIx 16 c j v)
    (hj : j < 16) (hval : val = exAt R c ⟨j, hj⟩) (hk : Ctx d L a R c (j + 1) js ⊢ twp d L (k ⟨⟩) Q) :
    Ctx d L a R c j js ⊢ twp d L (SparseCore.vectorStoreIdx (d := ![16]) a.m37 ![v] val (fun _ => 1#1) false h hs >>= k) Q := by
  unfold Ctx at *
  refine ent_trans ?_ (outp_scatter (row := exRow R) (X := iprop(bigSep Finset.univ (inp d L a R) ∗ outp d L a.m38 (sdRow R) c js)) hv hj (fun p h1 h2 => ?_) (ent_trans ?_ hk))
  · iintro ⟨H1, H2, H3⟩
    isplitl [H2]; · iexact H2
    isplitl [H1]; · iexact H1
    iexact H3
  · subst h1; subst h2; rw [hval]; rfl
  · iintro ⟨H2, H1, H3⟩
    isplitl [H1]; · iexact H1
    isplitl [H2]; · iexact H2
    iexact H3

theorem ctx_store_sd {j : ℕ} {v : IVec S16 32} {val : Lanes F}
    {h : ∀ a x, ((![v] : Fin 1 → IVec S16 32) a x).toNat < S4096.size a} {hs : (a.m38.access (.whole S4096)).Stores Finset.univ}
    {k : PUnit → Prog (TpuEff nD τ sig (Elt F) Λ₀ (.scVector (cV L) (jV L))) α} {Q : α → sProp 𝕄} (hv : LaneIx 16 c j v)
    (hj : j < 16) (hval : val = sdAt R c ⟨j, hj⟩) (hk : Ctx d L a R c je (j + 1) ⊢ twp d L (k ⟨⟩) Q) :
    Ctx d L a R c je j ⊢ twp d L (SparseCore.vectorStoreIdx (d := ![16]) a.m38 ![v] val (fun _ => 1#1) false h hs >>= k) Q := by
  unfold Ctx at *
  refine ent_trans ?_ (outp_scatter (row := sdRow R) (X := iprop(bigSep Finset.univ (inp d L a R) ∗ outp d L a.m37 (exRow R) c je)) hv hj (fun p h1 h2 => ?_) (ent_trans ?_ hk))
  · iintro ⟨H1, H2, H3⟩
    isplitl [H3]; · iexact H3
    isplitl [H1]; · iexact H1
    iexact H2
  · subst h1; subst h2; rw [hval]; rfl
  · iintro ⟨H3, H1, H2⟩
    isplitl [H1]; · iexact H1
    isplitl [H2]; · iexact H2
    iexact H3

theorem twp_bind {β : Type} {p : Prog (TpuEff nD τ sig (Elt F) Λ₀ (.scVector (cV L) (jV L))) β}
    {k : β → Prog (TpuEff nD τ sig (Elt F) Λ₀ (.scVector (cV L) (jV L))) α} {Q : α → sProp 𝕄} {X : sProp 𝕄}
    (h : X ⊢ twp d L p fun r => twp d L (k r) Q) : X ⊢ twp d L (p >>= k) Q :=
  ent_trans h (ent_of_eq (wp_bind _ _ _ _ _ _).symm)

theorem twp_pure {x : α} {Q : α → sProp 𝕄} {X : sProp 𝕄} (h : X ⊢ Q x) : X ⊢ twp d L (pure x) Q :=
  ent_trans h (le_wp_ret _ _ _ _ _)

end Cert.Proof.Tile

end
-- ==== Proof.ChunkRun.lean ====
/-
  The text of a chunk, part by part: what each part reads, and which columns of the two result buffers it fills.
-/
module

public import proofs.«01_k».proof.Proof.Chunk

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable {d : Dev nD} {L : grid0.Coords} {a : Args} {R : Row F} {je js : ℕ}

/-- The base indices of chunk `t`, as the text computes them. -/
theorem base16 (t : Fin k0_t1_loop.trips) : LaneIx 16 t.val 0 (k0_pay81 0#32 1#32 t) := laneIx_base (w := 16) (by decide) t
theorem base4 (t : Fin k0_t1_loop.trips) : LaneIx 4 t.val 0 (k0_pay82 0#32 1#32 t) := laneIx_base (w := 4) (by decide) t

abbrev TProg (F : FTy → Type) (L : grid0.Coords) (α : Type) : Type 1 := Prog (TpuEff nD τ sig (Elt F) Λ₀ (.scVector (cV L) (jV L))) α

variable {α : Type} {base : IVec S16 32} {c : ℕ}

/-- A checked gather of column `j` of the row's means. -/
theorem read_m1 {Q : α → sProp 𝕄} (hb : LaneIx 16 c 0 base) (hc : c < 16) (j : ℕ) (hj : j < 16)
    {P : Prop} {dc : Decidable P} {g : PLift P → ∀ (a : Fin 1) x, ((![addi base (broadcast S16 (BitVec.ofNat 32 j))] : Fin 1 → IVec S16 32) a x).toNat < S4096.size a}
    {hl : a.m15.view.Loads} {k : PLift P → FVec F S16 .f32 → TProg F L α} (hP : P)
    (hk : Ctx d L a R c je js ⊢ twp d L (k ⟨hP⟩ (col16 R.m1 c j)) Q) :
    Ctx d L a R c je js ⊢ twp d L (Prog.lift (TpuEff.assume P dc) >>= fun h =>
      SparseCore.vectorLoadIdx a.m15 ![addi base (broadcast S16 (BitVec.ofNat 32 j))] (g h) hl >>= k h) Q :=
  twp_assume hP (ctx_gather 0 rfl (get16 R.m1 hb hc hj _) hk)

/-- A checked scatter to column `j` of the row's deviations. -/
theorem write_sd {Q : α → sProp 𝕄} (hb : LaneIx 16 c 0 base) (hc : c < 16) (j : ℕ) (hj : j < 16)
    {P : Prop} {dc : Decidable P} {g : PLift P → ∀ (a : Fin 1) x, ((![addi base (broadcast S16 (BitVec.ofNat 32 j))] : Fin 1 → IVec S16 32) a x).toNat < S4096.size a}
    {hs : (a.m38.access (.whole S4096)).Stores Finset.univ} {val : FVec F S16 .f32} {k : PLift P → PUnit → TProg F L α} (hP : P)
    (hval : val = sdAt R c ⟨j, hj⟩) (hk : Ctx d L a R c je (j + 1) ⊢ twp d L (k ⟨hP⟩ ⟨⟩) Q) :
    Ctx d L a R c je j ⊢ twp d L (Prog.lift (TpuEff.assume P dc) >>= fun h =>
      SparseCore.vectorStoreIdx (d := ![16]) a.m38 ![addi base (broadcast S16 (BitVec.ofNat 32 j))] val (fun _ => 1#1) false (g h) hs >>= k h) Q :=
  twp_assume hP (ctx_store_sd (laneIx_add hb hc le_rfl hj) hj hval hk)

/-- A checked scatter to column `j` of the row's means. -/
theorem write_ex {Q : α → sProp 𝕄} (hb : LaneIx 16 c 0 base) (hc : c < 16) (j : ℕ) (hj : j < 16)
    {P : Prop} {dc : Decidable P} {g : PLift P → ∀ (a : Fin 1) x, ((![addi base (broadcast S16 (BitVec.ofNat 32 j))] : Fin 1 → IVec S16 32) a x).toNat < S4096.size a}
    {hs : (a.m37.access (.whole S4096)).Stores Finset.univ} {val : FVec F S16 .f32} {k : PLift P → PUnit → TProg F L α} (hP : P)
    (hval : val = exAt R c ⟨j, hj⟩) (hk : Ctx d L a R c (j + 1) js ⊢ twp d L (k ⟨hP⟩ ⟨⟩) Q) :
    Ctx d L a R c j js ⊢ twp d L (Prog.lift (TpuEff.assume P dc) >>= fun h =>
      SparseCore.vectorStoreIdx (d := ![16]) a.m37 ![addi base (broadcast S16 (BitVec.ofNat 32 j))] val (fun _ => 1#1) false (g h) hs >>= k h) Q :=
  twp_assume hP (ctx_store_ex (laneIx_add hb hc le_rfl hj) hj hval hk)

/-- A checked gather of column `j` of the row's raw deviations. -/
theorem read_s1 {Q : α → sProp 𝕄} (hb : LaneIx 16 c 0 base) (hc : c < 16) (j : ℕ) (hj : j < 16)
    {P : Prop} {dc : Decidable P} {g : PLift P → ∀ (a : Fin 1) x, ((![addi base (broadcast S16 (BitVec.ofNat 32 j))] : Fin 1 → IVec S16 32) a x).toNat < S4096.size a}
    {hl : a.m16.view.Loads} {k : PLift P → FVec F S16 .f32 → TProg F L α} (hP : P)
    (hk : Ctx d L a R c je js ⊢ twp d L (k ⟨hP⟩ (col16 R.s1 c j)) Q) :
    Ctx d L a R c je js ⊢ twp d L (Prog.lift (TpuEff.assume P dc) >>= fun h =>
      SparseCore.vectorLoadIdx a.m16 ![addi base (broadcast S16 (BitVec.ofNat 32 j))] (g h) hl >>= k h) Q :=
  twp_assume hP (ctx_gather 1 rfl (get16 R.s1 hb hc hj _) hk)

/-- A column's raw deviation read, and its deviation stored. -/
theorem pair_sd {Q : α → sProp 𝕄} (hb : LaneIx 16 c 0 base) (hc : c < 16) (j : ℕ) (hj : j < 16)
    {P P' : Prop} {dc : Decidable P} {dc' : PLift P → FVec F S16 .f32 → Decidable P'}
    {g : PLift P → ∀ (a : Fin 1) x, ((![addi base (broadcast S16 (BitVec.ofNat 32 j))] : Fin 1 → IVec S16 32) a x).toNat < S4096.size a}
    {g' : PLift P → FVec F S16 .f32 → PLift P' → ∀ (a : Fin 1) x, ((![addi base (broadcast S16 (BitVec.ofNat 32 j))] : Fin 1 → IVec S16 32) a x).toNat < S4096.size a}
    {hl : a.m16.view.Loads} {hs : (a.m38.access (.whole S4096)).Stores Finset.univ} {val : FVec F S16 .f32 → FVec F S16 .f32}
    {k : FVec F S16 .f32 → TProg F L α} (hP : P) (hP' : P') (hval : ∀ s, val s = dev s)
    (hk : Ctx d L a R c je (j + 1) ⊢ twp d L (k (col16 R.s1 c j)) Q) :
    Ctx d L a R c je j ⊢ twp d L (Prog.lift (TpuEff.assume P dc) >>= fun h =>
      SparseCore.vectorLoadIdx a.m16 ![addi base (broadcast S16 (BitVec.ofNat 32 j))] (g h) hl >>= fun s =>
      Prog.lift (TpuEff.assume P' (dc' h s)) >>= fun h' =>
      SparseCore.vectorStoreIdx (d := ![16]) a.m38 ![addi base (broadcast S16 (BitVec.ofNat 32 j))] (val s) (fun _ => 1#1) false (g' h s h') hs >>= fun _ => k s) Q :=
  read_s1 hb hc j hj hP (write_sd hb hc j hj hP' (hval _) hk)

theorem twp_bind_eq {Q : α → sProp 𝕄} {β : Type} {p : TProg F L β} {x : β} {k : β → TProg F L α} {X : sProp 𝕄} (e : p = pure x) (h : X ⊢ twp d L (k x) Q) :
    X ⊢ twp d L (p >>= k) Q := by
  rw [e]
  exact h

/-- A checked gather of segment `g` of a four-column buffer. -/
theorem read4 {Q : α → sProp 𝕄} {m : Memref sig .scVector .vmem S1024 .f32} {f : FVec F S1024 .f32} (b : Fin 10) (he : inp d L a R b = holds d L m f)
    (hb : LaneIx 4 c 0 base) (hc : c < 16) (g : ℕ) (hg : g < 4)
    {P : Prop} {dc : Decidable P} {gd : PLift P → ∀ (a : Fin 1) x, ((![addi base (broadcast S16 (BitVec.ofNat 32 g))] : Fin 1 → IVec S16 32) a x).toNat < S1024.size a}
    {hl : m.view.Loads} {k : PLift P → FVec F S16 .f32 → TProg F L α} (hP : P)
    (hk : Ctx d L a R c je js ⊢ twp d L (k ⟨hP⟩ (col4 f c g)) Q) :
    Ctx d L a R c je js ⊢ twp d L (Prog.lift (TpuEff.assume P dc) >>= fun h =>
      SparseCore.vectorLoadIdx m ![addi base (broadcast S16 (BitVec.ofNat 32 g))] (gd h) hl >>= k h) Q :=
  twp_assume hP (ctx_gather b he (get4 f hb hc hg _) hk)

theorem part8_run (t : Fin k0_t1_loop.trips) {Q : _ → sProp 𝕄}
    (h : ∀ hw, Ctx d L a R t.val je js ⊢ Q ⟨Scf.iv 0#32 1#32 t, k0_pay81 0#32 1#32 t, k0_pay82 0#32 1#32 t, col16 R.m1 t 0, col16 R.m1 t 1, col16 R.m1 t 2,
      col16 R.m1 t 3, col16 R.m1 t 4, col16 R.m1 t 5, col16 R.m1 t 6, col16 R.m1 t 7, k0_pay91 0#32 1#32 t, hw⟩) :
    Ctx d L a R t.val je js ⊢ twp d L (a.app (k0_part8 (F := F) L) 0#32 1#32 t) Q := by
  have hb := base16 t
  have hc : t.val < 16 := t.isLt
  unfold Args.app
  rw [k0_part8_eq_skeleton]
  unfold k0_part8_skel
  dsimp only
  refine read_m1 hb hc 0 (by decide) (chk16 hb hc (j := 0) (by decide)) ?_
  refine read_m1 hb hc 1 (by decide) (chk16 hb hc (j := 1) (by decide)) ?_
  refine read_m1 hb hc 2 (by decide) (chk16 hb hc (j := 2) (by decide)) ?_
  refine read_m1 hb hc 3 (by decide) (chk16 hb hc (j := 3) (by decide)) ?_
  refine read_m1 hb hc 4 (by decide) (chk16 hb hc (j := 4) (by decide)) ?_
  refine read_m1 hb hc 5 (by decide) (chk16 hb hc (j := 5) (by decide)) ?_
  refine read_m1 hb hc 6 (by decide) (chk16 hb hc (j := 6) (by decide)) ?_
  refine read_m1 hb hc 7 (by decide) (chk16 hb hc (j := 7) (by decide)) ?_
  refine twp_assume (chk16 hb hc (j := 8) (by decide)) ?_
  exact twp_pure (h _)

theorem part9_run (hb : LaneIx 16 c 0 base) (hc : c < 16) {Q : _ → sProp 𝕄} (hw : k0_chk9 (addi base (broadcast S16 (BitVec.ofNat 32 8))))
    (h : Ctx d L a R c je 1 ⊢ Q ⟨col16 R.m1 c 8, col16 R.m1 c 9, col16 R.m1 c 10, col16 R.m1 c 11, col16 R.m1 c 12, col16 R.m1 c 13, col16 R.m1 c 14,
      col16 R.m1 c 15, decay (col16 R.s1 c 0), addi base (broadcast S16 (BitVec.ofNat 32 1))⟩) :
    Ctx d L a R c je 0 ⊢ twp d L (a.app (k0_part9 (F := F) L) base (addi base (broadcast S16 (BitVec.ofNat 32 8))) hw) Q := by
  unfold Args.app
  rw [k0_part9_eq_skeleton]
  unfold k0_part9_skel
  dsimp only
  refine ctx_gather 0 rfl (get16 R.m1 hb hc (j := 8) (by decide) _) ?_
  refine read_m1 hb hc 9 (by decide) (chk16 hb hc (j := 9) (by decide)) ?_
  refine read_m1 hb hc 10 (by decide) (chk16 hb hc (j := 10) (by decide)) ?_
  refine read_m1 hb hc 11 (by decide) (chk16 hb hc (j := 11) (by decide)) ?_
  refine read_m1 hb hc 12 (by decide) (chk16 hb hc (j := 12) (by decide)) ?_
  refine read_m1 hb hc 13 (by decide) (chk16 hb hc (j := 13) (by decide)) ?_
  refine read_m1 hb hc 14 (by decide) (chk16 hb hc (j := 14) (by decide)) ?_
  refine read_m1 hb hc 15 (by decide) (chk16 hb hc (j := 15) (by decide)) ?_
  refine pair_sd hb hc 0 (by decide) (chk16 hb hc (j := 0) (by decide)) (chk16 hb hc (j := 0) (by decide)) (fun _ => rfl) ?_
  exact twp_pure h

theorem part10_run (hb : LaneIx 16 c 0 base) (hc : c < 16) {Q : _ → sProp 𝕄}
    (h : Ctx d L a R c je 4 ⊢ Q ⟨decay (col16 R.s1 c 1), decay (col16 R.s1 c 2), decay (col16 R.s1 c 3)⟩) :
    Ctx d L a R c je 1 ⊢ twp d L (a.app (k0_part10 (F := F) L) base (addi base (broadcast S16 (BitVec.ofNat 32 1)))) Q := by
  unfold Args.app
  rw [k0_part10_eq_skeleton]
  unfold k0_part10_skel
  dsimp only
  refine pair_sd hb hc 1 (by decide) (chk16 hb hc (j := 1) (by decide)) (chk16 hb hc (j := 1) (by decide)) (fun _ => rfl) ?_
  refine pair_sd hb hc 2 (by decide) (chk16 hb hc (j := 2) (by decide)) (chk16 hb hc (j := 2) (by decide)) (fun _ => rfl) ?_
  refine pair_sd hb hc 3 (by decide) (chk16 hb hc (j := 3) (by decide)) (chk16 hb hc (j := 3) (by decide)) (fun _ => rfl) ?_
  exact twp_pure h

theorem part11_run (hb : LaneIx 16 c 0 base) (hc : c < 16) {Q : _ → sProp 𝕄}
    (h : Ctx d L a R c je 7 ⊢ Q ⟨decay (col16 R.s1 c 4), decay (col16 R.s1 c 5), k0_pay126 (col16 R.s1 c 6)⟩) :
    Ctx d L a R c je 4 ⊢ twp d L (a.app (k0_part11 (F := F) L) base) Q := by
  unfold Args.app
  rw [k0_part11_eq_skeleton]
  unfold k0_part11_skel
  dsimp only
  refine pair_sd hb hc 4 (by decide) (chk16 hb hc (j := 4) (by decide)) (chk16 hb hc (j := 4) (by decide)) (fun _ => rfl) ?_
  refine pair_sd hb hc 5 (by decide) (chk16 hb hc (j := 5) (by decide)) (chk16 hb hc (j := 5) (by decide)) (fun _ => rfl) ?_
  refine pair_sd hb hc 6 (by decide) (chk16 hb hc (j := 6) (by decide)) (chk16 hb hc (j := 6) (by decide)) (fun _ => rfl) ?_
  exact twp_pure h

theorem part12_run (hb : LaneIx 16 c 0 base) (hc : c < 16) {Q : _ → sProp 𝕄}
    (h : Ctx d L a R c je 10 ⊢ Q ⟨decay (col16 R.s1 c 6), decay (col16 R.s1 c 7), decay (col16 R.s1 c 8), k0_pay139 (col16 R.s1 c 9)⟩) :
    Ctx d L a R c je 7 ⊢ twp d L (a.app (k0_part12 (F := F) L) base (k0_pay126 (col16 R.s1 c 6))) Q := by
  unfold Args.app
  rw [k0_part12_eq_skeleton]
  unfold k0_part12_skel
  dsimp only
  refine pair_sd hb hc 7 (by decide) (chk16 hb hc (j := 7) (by decide)) (chk16 hb hc (j := 7) (by decide)) (fun _ => rfl) ?_
  refine pair_sd hb hc 8 (by decide) (chk16 hb hc (j := 8) (by decide)) (chk16 hb hc (j := 8) (by decide)) (fun _ => rfl) ?_
  refine pair_sd hb hc 9 (by decide) (chk16 hb hc (j := 9) (by decide)) (chk16 hb hc (j := 9) (by decide)) (fun _ => rfl) ?_
  exact twp_pure h

theorem part13_run (hb : LaneIx 16 c 0 base) (hc : c < 16) {Q : _ → sProp 𝕄}
    (h : Ctx d L a R c je 12 ⊢ Q ⟨decay (col16 R.s1 c 9), decay (col16 R.s1 c 10), decay (col16 R.s1 c 11), dev (col16 R.s1 c 12), addi base (broadcast S16 (BitVec.ofNat 32 12))⟩) :
    Ctx d L a R c je 10 ⊢ twp d L (a.app (k0_part13 (F := F) L) base (k0_pay139 (col16 R.s1 c 9))) Q := by
  unfold Args.app
  rw [k0_part13_eq_skeleton]
  unfold k0_part13_skel
  dsimp only
  refine pair_sd hb hc 10 (by decide) (chk16 hb hc (j := 10) (by decide)) (chk16 hb hc (j := 10) (by decide)) (fun _ => rfl) ?_
  refine pair_sd hb hc 11 (by decide) (chk16 hb hc (j := 11) (by decide)) (chk16 hb hc (j := 11) (by decide)) (fun _ => rfl) ?_
  refine read_s1 hb hc 12 (by decide) (chk16 hb hc (j := 12) (by decide)) ?_
  exact twp_pure h

theorem part14_run (hb : LaneIx 16 c 0 base) (hc : c < 16) {Q : _ → sProp 𝕄}
    (h : Ctx d L a R c je 15 ⊢ Q ⟨decay (col16 R.s1 c 12), decay (col16 R.s1 c 13), decay (col16 R.s1 c 14), dev (col16 R.s1 c 15)⟩) :
    Ctx d L a R c je 12 ⊢ twp d L (a.app (k0_part14 (F := F) L) base (dev (col16 R.s1 c 12)) (addi base (broadcast S16 (BitVec.ofNat 32 12)))) Q := by
  unfold Args.app
  rw [k0_part14_eq_skeleton]
  unfold k0_part14_skel
  dsimp only
  refine write_sd hb hc 12 (by decide) (chk16 hb hc (j := 12) (by decide)) rfl ?_
  refine pair_sd hb hc 13 (by decide) (chk16 hb hc (j := 13) (by decide)) (chk16 hb hc (j := 13) (by decide)) (fun _ => rfl) ?_
  refine pair_sd hb hc 14 (by decide) (chk16 hb hc (j := 14) (by decide)) (chk16 hb hc (j := 14) (by decide)) (fun _ => rfl) ?_
  refine read_s1 hb hc 15 (by decide) (chk16 hb hc (j := 15) (by decide)) ?_
  exact twp_pure h

set_option maxHeartbeats 4000000 in
/-- A chunk's text fills its sixteen columns of both result buffers. -/
theorem chunk_run (t : Fin k0_t1_loop.trips) :
    Ctx d L a R t.val 0 0 ⊢ twp d L (a.app (k0_part22 (F := F) L) (consts R.nb).a16 (consts R.nb).c16 (consts R.nb).d16 (consts R.nb).e16 (consts R.nb).a4 (consts R.nb).c4 (consts R.nb).d4 (consts R.nb).e4 (consts R.nb).la16 (consts R.nb).ld16 (consts R.nb).la4 (consts R.nb).ld4 0#32 1#32 t)
      fun _ => Ctx d L a R t.val 16 16 := by
  have hb := base16 t
  have hb4 := base4 t
  have hc : t.val < 16 := t.isLt
  unfold Args.app
  rw [k0_part22_eq_skeleton]
  unfold k0_part22_skel
  dsimp only
  refine twp_bind (part8_run t fun hw => ?_)
  dsimp only
  refine twp_bind (part9_run hb hc hw ?_)
  dsimp only
  refine twp_bind (part10_run hb hc ?_)
  dsimp only
  refine twp_bind (part11_run hb hc ?_)
  dsimp only
  refine twp_bind (part12_run hb hc ?_)
  dsimp only
  refine twp_bind (part13_run hb hc ?_)
  dsimp only
  refine twp_bind (part14_run hb hc ?_)
  dsimp only
  refine twp_bind ?_
  rw [k0_part15_eq_skeleton]
  unfold k0_part15_skel
  dsimp only
  refine write_sd hb hc 15 (by decide) (chk16 hb hc (j := 15) (by decide)) rfl ?_
  refine twp_pure ?_
  dsimp only
  refine twp_bind ?_
  rw [k0_part16_eq_skeleton]
  unfold k0_part16_skel
  dsimp only
  refine ctx_load 9 rfl (get1 R.s16m t) ?_
  refine ctx_load 8 rfl (get1 R.m16m t) ?_
  refine ctx_load 7 rfl (get1 R.s16s t) ?_
  refine twp_pure ?_
  dsimp only
  refine twp_bind ?_
  rw [k0_part17_eq_skeleton]
  unfold k0_part17_skel
  dsimp only
  refine ctx_load 6 rfl (get1 R.m16s t) ?_
  refine read4 5 rfl hb4 hc 0 (by decide) (chk4 hb4 hc (j := 0) (by decide)) ?_
  refine read4 4 rfl hb4 hc 0 (by decide) (chk4 hb4 hc (j := 0) (by decide)) ?_
  refine read4 3 rfl hb4 hc 0 (by decide) (chk4 hb4 hc (j := 0) (by decide)) ?_
  refine read4 2 rfl hb4 hc 0 (by decide) (chk4 hb4 hc (j := 0) (by decide)) ?_
  refine twp_pure ?_
  dsimp only
  refine twp_bind ?_
  rw [k0_part18_eq_skeleton]
  unfold k0_part18_skel
  dsimp only
  refine read4 5 rfl hb4 hc 1 (by decide) (chk4 hb4 hc (j := 1) (by decide)) ?_
  refine read4 4 rfl hb4 hc 1 (by decide) (chk4 hb4 hc (j := 1) (by decide)) ?_
  refine read4 3 rfl hb4 hc 1 (by decide) (chk4 hb4 hc (j := 1) (by decide)) ?_
  refine read4 2 rfl hb4 hc 1 (by decide) (chk4 hb4 hc (j := 1) (by decide)) ?_
  refine twp_pure ?_
  dsimp only
  refine twp_bind ?_
  rw [k0_part19_eq_skeleton]
  unfold k0_part19_skel
  dsimp only
  refine read4 5 rfl hb4 hc 2 (by decide) (chk4 hb4 hc (j := 2) (by decide)) ?_
  refine read4 4 rfl hb4 hc 2 (by decide) (chk4 hb4 hc (j := 2) (by decide)) ?_
  refine read4 3 rfl hb4 hc 2 (by decide) (chk4 hb4 hc (j := 2) (by decide)) ?_
  refine read4 2 rfl hb4 hc 2 (by decide) (chk4 hb4 hc (j := 2) (by decide)) ?_
  refine twp_pure ?_
  dsimp only
  refine twp_bind ?_
  rw [k0_part20_eq_skeleton]
  unfold k0_part20_skel
  dsimp only
  refine read4 5 rfl hb4 hc 3 (by decide) (chk4 hb4 hc (j := 3) (by decide)) ?_
  refine read4 4 rfl hb4 hc 3 (by decide) (chk4 hb4 hc (j := 3) (by decide)) ?_
  refine read4 3 rfl hb4 hc 3 (by decide) (chk4 hb4 hc (j := 3) (by decide)) ?_
  refine read4 2 rfl hb4 hc 3 (by decide) (chk4 hb4 hc (j := 3) (by decide)) ?_
  refine twp_pure ?_
  dsimp only
  refine twp_bind ?_
  rw [k0_part21_eq_skeleton]
  unfold k0_part21_skel
  dsimp only
  refine twp_bind_eq (t2_loop a L (coefOf (consts R.nb) R t.val) _ _ _ _ _ _ _ _ _ _ _ _ _ rfl rfl) ?_
  dsimp only [tup]
  refine write_ex hb hc 0 (by decide) (chk16 hb hc (j := 0) (by decide)) rfl ?_
  refine write_ex hb hc 1 (by decide) (chk16 hb hc (j := 1) (by decide)) rfl ?_
  refine write_ex hb hc 2 (by decide) (chk16 hb hc (j := 2) (by decide)) rfl ?_
  refine write_ex hb hc 3 (by decide) (chk16 hb hc (j := 3) (by decide)) rfl ?_
  refine write_ex hb hc 4 (by decide) (chk16 hb hc (j := 4) (by decide)) rfl ?_
  refine write_ex hb hc 5 (by decide) (chk16 hb hc (j := 5) (by decide)) rfl ?_
  refine write_ex hb hc 6 (by decide) (chk16 hb hc (j := 6) (by decide)) rfl ?_
  refine write_ex hb hc 7 (by decide) (chk16 hb hc (j := 7) (by decide)) rfl ?_
  refine twp_pure ?_
  dsimp only
  refine write_ex hb hc 8 (by decide) (chk16 hb hc (j := 8) (by decide)) rfl ?_
  refine write_ex hb hc 9 (by decide) (chk16 hb hc (j := 9) (by decide)) rfl ?_
  refine write_ex hb hc 10 (by decide) (chk16 hb hc (j := 10) (by decide)) rfl ?_
  refine write_ex hb hc 11 (by decide) (chk16 hb hc (j := 11) (by decide)) rfl ?_
  refine write_ex hb hc 12 (by decide) (chk16 hb hc (j := 12) (by decide)) rfl ?_
  refine write_ex hb hc 13 (by decide) (chk16 hb hc (j := 13) (by decide)) rfl ?_
  refine write_ex hb hc 14 (by decide) (chk16 hb hc (j := 14) (by decide)) rfl ?_
  refine write_ex hb hc 15 (by decide) (chk16 hb hc (j := 15) (by decide)) rfl ?_
  exact twp_pure .rfl

end Cert.Proof.Tile

end
-- ==== Proof.Tile.lean ====
/-
  One tile's program: the two rows fetched, their sixteen chunks each, the results sent home.
-/
module

public import proofs.«01_k».proof.Proof.ChunkRun

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## The rows of the operands a tile copies -/

section Rows

variable (L : grid0.Coords)

abbrev rA12 (m : Memref sig .scVector .hbm S64x4096 .f32) : Memref sig .scVector .hbm S4096 .f32 :=
  (m.slice (Rect.unit (s := S64x4096) (k0_off1 L) S1x4096.size (k0_off1_inb L)) (fun _ => rfl)).squeeze S4096 squeezes_S1x4096_S4096
abbrev rA10 (m : Memref sig .scVector .hbm S64x1024 .f32) : Memref sig .scVector .hbm S1024 .f32 :=
  (m.slice (Rect.unit (s := S64x1024) (k0_off2 L) S1x1024.size (k0_off2_inb L)) (fun _ => rfl)).squeeze S1024 squeezes_S1x1024_S1024
abbrev rA8 (m : Memref sig .scVector .hbm S64x256 .f32) : Memref sig .scVector .hbm S256 .f32 :=
  (m.slice (Rect.unit (s := S64x256) (k0_off3 L) S1x256.size (k0_off3_inb L)) (fun _ => rfl)).squeeze S256 squeezes_S1x256_S256
abbrev rA6 (m : Memref sig .scVector .hbm S64x96 .f32) : Memref sig .scVector .hbm S96 .f32 :=
  (m.slice (Rect.unit (s := S64x96) (k0_off4 L) S1x96.size (k0_off4_inb L)) (fun _ => rfl)).squeeze S96 squeezes_S1x96_S96
abbrev rB12 (m : Memref sig .scVector .hbm S64x4096 .f32) : Memref sig .scVector .hbm S4096 .f32 :=
  (m.slice (Rect.unit (s := S64x4096) (k0_off5 L) S1x4096.size (k0_off5_inb L)) (fun _ => rfl)).squeeze S4096 squeezes_S1x4096_S4096
abbrev rB10 (m : Memref sig .scVector .hbm S64x1024 .f32) : Memref sig .scVector .hbm S1024 .f32 :=
  (m.slice (Rect.unit (s := S64x1024) (k0_off6 L) S1x1024.size (k0_off6_inb L)) (fun _ => rfl)).squeeze S1024 squeezes_S1x1024_S1024
abbrev rB8 (m : Memref sig .scVector .hbm S64x256 .f32) : Memref sig .scVector .hbm S256 .f32 :=
  (m.slice (Rect.unit (s := S64x256) (k0_off7 L) S1x256.size (k0_off7_inb L)) (fun _ => rfl)).squeeze S256 squeezes_S1x256_S256
abbrev rB6 (m : Memref sig .scVector .hbm S64x96 .f32) : Memref sig .scVector .hbm S96 .f32 :=
  (m.slice (Rect.unit (s := S64x96) (k0_off8 L) S1x96.size (k0_off8_inb L)) (fun _ => rfl)).squeeze S96 squeezes_S1x96_S96

end Rows

/-- The contents of the operands' buffers. -/
structure Cont (F : FTy → Type) (a : Args) where
  f2 : a.m2.view.ty.Contents (Elt F)
  f3 : a.m3.view.ty.Contents (Elt F)
  f4 : a.m4.view.ty.Contents (Elt F)
  f5 : a.m5.view.ty.Contents (Elt F)
  f6 : a.m6.view.ty.Contents (Elt F)
  f7 : a.m7.view.ty.Contents (Elt F)
  f8 : a.m8.view.ty.Contents (Elt F)
  f9 : a.m9.view.ty.Contents (Elt F)
  f10 : a.m10.view.ty.Contents (Elt F)
  f11 : a.m11.view.ty.Contents (Elt F)
  f12 : a.m12.view.ty.Contents (Elt F)

variable (d : Dev nD) (L : grid0.Coords)

/-- A memref's own elements of its buffer, at contents `f`. -/
abbrev own {sp : Space} {s : Shape} (m : Memref sig .scVector sp s .f32) (f : m.view.ty.Contents (Elt F)) : sProp 𝕄 :=
  m.view.loc (V d (cV L) (jV L)) ↦[m.view.set]{fullShare} f

/-- A memref's own elements of its buffer, where the memref reads `v`. -/
def ownAt {sp : Space} {s : Shape} (m : Memref sig .scVector sp s .f32) (v : FVec F s .f32) : sProp 𝕄 :=
  iprop(∃ f, ⌜m.view.read (Elt F) f = v⌝ ∗ own d L m f)

variable (a : Args) (X : Cont F a)

/-- The first row of a tile. -/
def rowA : Row F where
  m1 := (rA12 L a.m2).view.read (Elt F) X.f2
  s1 := (rA12 L a.m3).view.read (Elt F) X.f3
  m4s := (rA10 L a.m4).view.read (Elt F) X.f4
  s4s := (rA10 L a.m5).view.read (Elt F) X.f5
  m4m := (rA10 L a.m6).view.read (Elt F) X.f6
  s4m := (rA10 L a.m7).view.read (Elt F) X.f7
  m16s := (rA8 L a.m8).view.read (Elt F) X.f8
  s16s := (rA8 L a.m9).view.read (Elt F) X.f9
  m16m := (rA8 L a.m10).view.read (Elt F) X.f10
  s16m := (rA8 L a.m11).view.read (Elt F) X.f11
  nb := (rA6 L a.m12).view.read (Elt F) X.f12

/-- The second row of a tile. -/
def rowB : Row F where
  m1 := (rB12 L a.m2).view.read (Elt F) X.f2
  s1 := (rB12 L a.m3).view.read (Elt F) X.f3
  m4s := (rB10 L a.m4).view.read (Elt F) X.f4
  s4s := (rB10 L a.m5).view.read (Elt F) X.f5
  m4m := (rB10 L a.m6).view.read (Elt F) X.f6
  s4m := (rB10 L a.m7).view.read (Elt F) X.f7
  m16s := (rB8 L a.m8).view.read (Elt F) X.f8
  s16s := (rB8 L a.m9).view.read (Elt F) X.f9
  m16m := (rB8 L a.m10).view.read (Elt F) X.f10
  s16m := (rB8 L a.m11).view.read (Elt F) X.f11
  nb := (rB6 L a.m12).view.read (Elt F) X.f12

/-- The operands' rows a tile holds: its first row of each, -/
def insA : sProp 𝕄 :=
  iprop(own d L (rA12 L a.m2) X.f2 ∗ own d L (rA12 L a.m3) X.f3 ∗ own d L (rA10 L a.m4) X.f4 ∗ own d L (rA10 L a.m5) X.f5
    ∗ own d L (rA10 L a.m6) X.f6 ∗ own d L (rA10 L a.m7) X.f7 ∗ own d L (rA8 L a.m8) X.f8 ∗ own d L (rA8 L a.m9) X.f9
    ∗ own d L (rA8 L a.m10) X.f10 ∗ own d L (rA8 L a.m11) X.f11 ∗ own d L (rA6 L a.m12) X.f12)

/-- and its second. -/
def insB : sProp 𝕄 :=
  iprop(own d L (rB12 L a.m2) X.f2 ∗ own d L (rB12 L a.m3) X.f3 ∗ own d L (rB10 L a.m4) X.f4 ∗ own d L (rB10 L a.m5) X.f5
    ∗ own d L (rB10 L a.m6) X.f6 ∗ own d L (rB10 L a.m7) X.f7 ∗ own d L (rB8 L a.m8) X.f8 ∗ own d L (rB8 L a.m9) X.f9
    ∗ own d L (rB8 L a.m10) X.f10 ∗ own d L (rB8 L a.m11) X.f11 ∗ own d L (rB6 L a.m12) X.f12)

/-- A scratch buffer, whole, at some contents. -/
def buf {s : Shape} (m : Memref sig .scVector .vmem s .f32) : sProp 𝕄 :=
  iprop(∃ f, m.view.loc (V d (cV L) (jV L)) ↦{fullShare} f)

/-- The scratch buffers of the first row of a record: the operands' eleven and the results' two. -/
def bufs (a : Args) : sProp 𝕄 :=
  iprop(buf (F := F) d L a.m15 ∗ buf (F := F) d L a.m16 ∗ buf (F := F) d L a.m17 ∗ buf (F := F) d L a.m18 ∗ buf (F := F) d L a.m19 ∗ buf (F := F) d L a.m20
    ∗ buf (F := F) d L a.m21 ∗ buf (F := F) d L a.m22 ∗ buf (F := F) d L a.m23 ∗ buf (F := F) d L a.m24 ∗ buf (F := F) d L a.m25
    ∗ buf (F := F) d L a.m37 ∗ buf (F := F) d L a.m38)

/-- The scratch buffers of the second row. -/
def bufsB (a : Args) : sProp 𝕄 :=
  iprop(buf (F := F) d L a.m26 ∗ buf (F := F) d L a.m27 ∗ buf (F := F) d L a.m28 ∗ buf (F := F) d L a.m29 ∗ buf (F := F) d L a.m30 ∗ buf (F := F) d L a.m31
    ∗ buf (F := F) d L a.m32 ∗ buf (F := F) d L a.m33 ∗ buf (F := F) d L a.m34 ∗ buf (F := F) d L a.m35 ∗ buf (F := F) d L a.m36
    ∗ buf (F := F) d L a.m39 ∗ buf (F := F) d L a.m40)

/-- The tile's ten semaphores at zero. -/
def sems : sProp 𝕄 :=
  iprop(semVal (V d (cV L) (jV L), SemLoc.dma a.s41.sem) 0 ∗ semVal (V d (cV L) (jV L), SemLoc.dma a.s42.sem) 0
    ∗ semVal (V d (cV L) (jV L), SemLoc.dma a.s43.sem) 0 ∗ semVal (V d (cV L) (jV L), SemLoc.dma a.s44.sem) 0
    ∗ semVal (V d (cV L) (jV L), SemLoc.dma a.s45.sem) 0 ∗ semVal (V d (cV L) (jV L), SemLoc.dma a.s46.sem) 0
    ∗ semVal (V d (cV L) (jV L), SemLoc.dma a.s47.sem) 0 ∗ semVal (V d (cV L) (jV L), SemLoc.dma a.s48.sem) 0
    ∗ semVal (V d (cV L) (jV L), SemLoc.dma a.s49.sem) 0 ∗ semVal (V d (cV L) (jV L), SemLoc.dma a.s50.sem) 0)

/-! ## From buffers to a chunk's resources and back -/

variable {d L} {a} {R : Row F} {c je js : ℕ}

/-- A family over `Fin (m + 1)` is its head and its tail. -/
theorem bigSep_cons {m : ℕ} (Φ : Fin (m + 1) → sProp 𝕄) :
    bigSep Finset.univ Φ = iprop(Φ 0 ∗ bigSep Finset.univ fun k : Fin m => Φ k.succ) := by
  rw [Fin.univ_succ, Finset.cons_eq_insert, BI.bigSep_insert (by simp), BI.bigSep_map]
  rfl

/-- A scratch buffer a copy has filled. -/
theorem holds_landed {s : Shape} {m : Memref sig .scVector .vmem s .f32} {f : m.view.ty.Contents (Elt F)} {w v : FVec F s .f32} (h : w = v) :
    (m.view.loc (V d (cV L) (jV L)) ↦{fullShare} View.write (Elt F) m.view f w Finset.univ : sProp 𝕄) ⊢ holds d L m v := by
  subst h
  unfold holds
  iintro H
  iexists (View.write (Elt F) m.view f w Finset.univ)
  isplitr
  · ipureintro; exact View.read_write_univ f w
  · iexact H

/-- A result buffer nothing has been written to yet. -/
theorem outp_start {m : Memref sig .scVector .vmem S4096 .f32} {row : FVec F S4096 .f32} {f : m.view.ty.Contents (Elt F)} :
    (m.view.loc (V d (cV L) (jV L)) ↦{fullShare} f : sProp 𝕄) ⊢ outp d L m row 0 0 := by
  unfold outp holds
  iintro H
  iexists (m.view.read (Elt F) f)
  isplitr
  · ipureintro
    intro p hp
    omega
  · iexists f
    isplitr
    · ipureintro; rfl
    · iexact H

/-- A result buffer filled. -/
theorem outp_done {m : Memref sig .scVector .vmem S4096 .f32} {row : FVec F S4096 .f32} : outp d L m row 16 0 ⊢ holds d L m row := by
  unfold outp
  iintro ⟨%G, %hG, H⟩
  rw [← done_all hG]
  iexact H

theorem holds_buf {s : Shape} {m : Memref sig .scVector .vmem s .f32} {v : FVec F s .f32} : holds d L m v ⊢ buf (F := F) d L m := by
  unfold holds buf
  iintro ⟨%f, -, H⟩
  iexists f
  iexact H

theorem ctx_next : Ctx d L a R c 16 16 ⊢ Ctx d L a R (c + 1) 0 0 := by
  unfold Ctx outp
  iintro ⟨H, ⟨%G, %hG, HG⟩, ⟨%G', %hG', HG'⟩⟩
  isplitl [H]
  · iexact H
  isplitl [HG]
  · iexists G
    isplitr
    · ipureintro; exact done_next hG
    · iexact HG
  · iexists G'
    isplitr
    · ipureintro; exact done_next hG'
    · iexact HG'

theorem ctx_eq : Ctx d L a R c je js
    = iprop((holds d L a.m15 R.m1 ∗ holds d L a.m16 R.s1 ∗ holds d L a.m17 R.m4s ∗ holds d L a.m18 R.s4s ∗ holds d L a.m19 R.m4m ∗ holds d L a.m20 R.s4m
      ∗ holds d L a.m21 R.m16s ∗ holds d L a.m22 R.s16s ∗ holds d L a.m23 R.m16m ∗ holds d L a.m24 R.s16m)
      ∗ outp d L a.m37 (exRow R) c je ∗ outp d L a.m38 (sdRow R) c js) := by
  unfold Ctx
  congr 1
  simp only [bigSep_cons, BI.bigSep_univ_of_subsingleton (0 : Fin 1)]
  rfl

/-- After the last chunk: the operands' buffers at some contents, the results' filled. -/
theorem ctx_done {n : ℕ} (hn : n = 16) : Ctx d L a R n 0 0
    ⊢ iprop((buf (F := F) d L a.m15 ∗ buf (F := F) d L a.m16 ∗ buf (F := F) d L a.m17 ∗ buf (F := F) d L a.m18 ∗ buf (F := F) d L a.m19
      ∗ buf (F := F) d L a.m20 ∗ buf (F := F) d L a.m21 ∗ buf (F := F) d L a.m22 ∗ buf (F := F) d L a.m23 ∗ buf (F := F) d L a.m24)
      ∗ holds d L a.m37 (exRow R) ∗ holds d L a.m38 (sdRow R)) := by
  subst hn
  rw [ctx_eq]
  iintro ⟨⟨H15, H16, H17, H18, H19, H20, H21, H22, H23, H24⟩, H37, H38⟩
  isplitl [H15 H16 H17 H18 H19 H20 H21 H22 H23 H24]
  · isplitl [H15]; · iapply holds_buf; iexact H15
    isplitl [H16]; · iapply holds_buf; iexact H16
    isplitl [H17]; · iapply holds_buf; iexact H17
    isplitl [H18]; · iapply holds_buf; iexact H18
    isplitl [H19]; · iapply holds_buf; iexact H19
    isplitl [H20]; · iapply holds_buf; iexact H20
    isplitl [H21]; · iapply holds_buf; iexact H21
    isplitl [H22]; · iapply holds_buf; iexact H22
    isplitl [H23]; · iapply holds_buf; iexact H23
    iapply holds_buf; iexact H24
  isplitl [H37]; · iapply outp_done; iexact H37
  iapply outp_done; iexact H38

/-- A chunk of the second row: the first row's at the exchanged record. -/
theorem chunk_runB (t : Fin k0_t1_loop.trips) : Ctx d L a.swap R t.val 0 0 ⊢ twp d L (a.app (k0_part44 (F := F) L) (consts R.nb).a16 (consts R.nb).c16
    (consts R.nb).d16 (consts R.nb).e16 (consts R.nb).a4 (consts R.nb).c4 (consts R.nb).d4 (consts R.nb).e4 (consts R.nb).la16 (consts R.nb).ld16
    (consts R.nb).la4 (consts R.nb).ld4 0#32 1#32 t) fun _ => Ctx d L a.swap R t.val 16 16 := by
  rw [part44_eq]
  exact chunk_run t

/-- A row a copy has written. -/
theorem ownAt_landed {sp : Space} {s : Shape} {m : Memref sig .scVector sp s .f32} {f : m.view.ty.Contents (Elt F)} {w v : FVec F s .f32} (h : w = v) :
    own d L m (View.write (Elt F) m.view f w Finset.univ) ⊢ ownAt d L m v := by
  subst h
  unfold ownAt
  iintro H
  iexists (View.write (Elt F) m.view f w Finset.univ)
  isplitr
  · ipureintro; exact View.read_write_univ f w
  · iexact H

/-- The same, the row having been written piece by piece: one piece, all of it. -/
theorem ownAt_writes {sp : Space} {s : Shape} {m : Memref sig .scVector sp s .f32} {f : m.view.ty.Contents (Elt F)} {w v : FVec F s .f32} (h : w = v) :
    own d L m (m.view.writes (Elt F) f [⟨Rect.whole s, w⟩]) ⊢ ownAt d L m v := by
  subst h
  unfold ownAt
  iintro H
  iexists (m.view.writes (Elt F) f [⟨Rect.whole s, w⟩])
  isplitr
  · ipureintro; exact View.read_writes_whole m.view f w
  · iexact H

theorem buf_intro {s : Shape} {m : Memref sig .scVector .vmem s .f32} {f : m.view.ty.Contents (Elt F)} :
    (m.view.loc (V d (cV L) (jV L)) ↦{fullShare} f : sProp 𝕄) ⊢ buf (F := F) d L m := by
  unfold buf
  iintro H
  iexists f
  iexact H

/-- Sixteen lanes of the row's constants, loaded from the buffer a copy has filled. -/
theorem readAt_norm {m : Memref sig .scVector .vmem S96 .f32} {f : m.view.ty.Contents (Elt F)} {w v : FVec F S96 .f32} (h : w = v) {o : ℕ} (k : ℕ)
    (ho : o = 16 * k) (inb : ∀ a, (![o] : Fin 1 → ℕ) a + S16.size a ≤ S96.size a) :
    (View.readAt (Elt F) m.view (Rect.unit (s := S96) ![o] S16.size inb).toLoadRect (View.write (Elt F) m.view f w Finset.univ) : FVec F S16 .f32)
      = Spec.norm v k := by
  subst h ho
  funext x
  refine (congrFun (View.read_write_univ (v := m.view) f w) ((Rect.unit (s := S96) ![16 * k] S16.size inb).emb x)).trans (congrArg w ?_)
  funext b
  refine Fin.ext ?_
  have hb : b = 0 := Subsingleton.elim _ _
  subst hb
  show 16 * k + 1 * (x 0).val = (16 * k + (x 0).val) % 96
  have h1 : (x 0).val < 16 := (x 0).isLt
  have h2 : 16 * k + 16 ≤ 96 := inb 0
  omega

end Cert.Proof.Tile

end
-- ==== Proof.TileRun.lean ====
/-
  One tile's program run: the two rows fetched, their sixteen chunks each, the results sent home.
-/
module

public import proofs.«01_k».proof.Proof.Tile

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (d : Dev nD) (L : grid0.Coords) (a : Args) (X : Cont F a)

/-- What a tile's program leaves: the operands as they were, the results' rows, the scratch and the semaphores. -/
def tilePost (O : CellTallies nD τ sig (HIx 1)) (W : Waits sig (HIx 1)) : sProp 𝕄 :=
  iprop(insA d L a X ∗ insB d L a X ∗ ownAt d L (rA12 L a.m13) (exRow (rowA L a X)) ∗ ownAt d L (rA12 L a.m14) (sdRow (rowA L a X))
    ∗ ownAt d L (rB12 L a.m13) (exRow (rowB L a X)) ∗ ownAt d L (rB12 L a.m14) (sdRow (rowB L a X))
    ∗ bufs (F := F) d L a ∗ bufsB (F := F) d L a ∗ sems (F := F) d L a
    ∗ ∃ W', ⌜∀ p ∈ W', p ∈ W ∨ p.2 = none⌝ ∗ owes (V d (cV L) (jV L)) O W')

set_option maxHeartbeats 8000000 in
set_option maxRecDepth 65536 in
theorem tile_core (g13 : a.m13.view.ty.Contents (Elt F)) (g14 : a.m14.view.ty.Contents (Elt F)) (O : CellTallies nD τ sig (HIx 1)) (W : Waits sig (HIx 1)) :
    iprop(insA d L a X ∗ insB d L a X ∗ own d L (rA12 L a.m13) g13 ∗ own d L (rA12 L a.m14) g14 ∗ own d L (rB12 L a.m13) g13 ∗ own d L (rB12 L a.m14) g14
        ∗ bufs (F := F) d L a ∗ bufsB (F := F) d L a ∗ sems (F := F) d L a ∗ owes (V d (cV L) (jV L)) O W
        ∗ Transfers.MayWaits (V d (cV L) (jV L)) (default : HIx 1) O)
      ⊢ twp d L (a.app (cc0__sc_body (F := F) L)) fun _ =>
        tilePost d L a X O W := by
  have _p41 : Transfers.BatchOf (V d (cV L) (jV L)) (SemLoc.dma (sig := sig) a.s41.sem) 2 := .intro _ _ _
  have _p42 : Transfers.BatchOf (V d (cV L) (jV L)) (SemLoc.dma (sig := sig) a.s42.sem) 4 := .intro _ _ _
  have _p43 : Transfers.BatchOf (V d (cV L) (jV L)) (SemLoc.dma (sig := sig) a.s43.sem) 4 := .intro _ _ _
  have _p45 : Transfers.BatchOf (V d (cV L) (jV L)) (SemLoc.dma (sig := sig) a.s45.sem) 2 := .intro _ _ _
  have _p46 : Transfers.BatchOf (V d (cV L) (jV L)) (SemLoc.dma (sig := sig) a.s46.sem) 4 := .intro _ _ _
  have _p47 : Transfers.BatchOf (V d (cV L) (jV L)) (SemLoc.dma (sig := sig) a.s47.sem) 4 := .intro _ _ _
  have _p49 : Transfers.BatchOf (V d (cV L) (jV L)) (SemLoc.dma (sig := sig) a.s49.sem) 2 := .intro _ _ _
  have _p50 : Transfers.BatchOf (V d (cV L) (jV L)) (SemLoc.dma (sig := sig) a.s50.sem) 2 := .intro _ _ _
  unfold insA insB bufs bufsB buf sems own twp
  iintro ⟨⟨A2, A3, A4, A5, A6, A7, A8, A9, A10, A11, A12⟩, ⟨B2, B3, B4, B5, B6, B7, B8, B9, B10, B11, B12⟩, A13, A14, B13, B14,
    ⟨⟨%b15, M15⟩, ⟨%b16, M16⟩, ⟨%b17, M17⟩, ⟨%b18, M18⟩, ⟨%b19, M19⟩, ⟨%b20, M20⟩, ⟨%b21, M21⟩, ⟨%b22, M22⟩, ⟨%b23, M23⟩, ⟨%b24, M24⟩, ⟨%b25, M25⟩, ⟨%b37, M37⟩, ⟨%b38, M38⟩⟩,
    ⟨⟨%b26, M26⟩, ⟨%b27, M27⟩, ⟨%b28, M28⟩, ⟨%b29, M29⟩, ⟨%b30, M30⟩, ⟨%b31, M31⟩, ⟨%b32, M32⟩, ⟨%b33, M33⟩, ⟨%b34, M34⟩, ⟨%b35, M35⟩, ⟨%b36, M36⟩, ⟨%b39, M39⟩, ⟨%b40, M40⟩⟩,
    ⟨S41, S42, S43, S44, S45, S46, S47, S48, S49, S50⟩, HO, Hmw⟩
  unfold Args.app
  rw [cc0__sc_body_eq_skeleton]
  unfold cc0__sc_body_skel
  rw [k0_part45_eq_skeleton]
  unfold k0_part45_skel
  sl_exec
  have hc : (⟨tile_core.sl.r d L a X b25, tile_core.sl.r_1 d L a X b25, tile_core.sl.r_2 d L a X b25, tile_core.sl.r_3 d L a X b25,
      tile_core.sl.r_4 d L a X b25, tile_core.sl.r_5 d L a X b25, tile_core.sl.r_6 d L a X b25, tile_core.sl.r_7 d L a X b25,
      tile_core.sl.r_8 d L a X b25, tile_core.sl.v177 d L a X b25, tile_core.sl.v179 d L a X b25, tile_core.sl.v181 d L a X b25⟩ : Consts F)
      = consts (rowA L a X).nb := by
    delta tile_core.sl.r tile_core.sl.r_1 tile_core.sl.r_2 tile_core.sl.r_3 tile_core.sl.r_4 tile_core.sl.r_5 tile_core.sl.r_6 tile_core.sl.r_7
      tile_core.sl.r_8 tile_core.sl.v177 tile_core.sl.v179 tile_core.sl.v181
    have h (k : ℕ) (o : ℕ) (ho : o = 16 * k) (inb) := readAt_norm (F := F) (m := a.m25) (f := b25) (w := tile_core.sl.dma0_1 L a X) (v := (rowA L a X).nb) rfl k ho inb
    rw [h 0 0 rfl, h 1 16 rfl, h 2 32 rfl, h 3 48 rfl, h 4 64 rfl, h 5 80 rfl]
    rfl
  sl_for (fun t _ => Ctx d L a (rowA L a X) t 0 0) $$ [M15 M16 M17 M18 M19 M20 M21 M22 M23 M24 M37 M38]
  case region =>
    intro t _
    have hrun := chunk_run (d := d) (L := L) (a := a) (R := rowA L a X) t
    rw [← hc] at hrun
    unfold Args.app twp at hrun
    dsimp only at hrun
    delta tile_core.sl.prog.body_1
    refine twp_bind ?_
    refine ent_trans hrun ?_
    exact wp_mono Idealize.ShloMosaic.frame _ _ fun _ => twp_pure ctx_next
  · rw [ctx_eq]
    isplitl [M15 M16 M17 M18 M19 M20 M21 M22 M23 M24]
    · isplitl [M15]; · iapply (holds_landed rfl); iexact M15
      isplitl [M16]; · iapply (holds_landed rfl); iexact M16
      isplitl [M17]; · iapply (holds_landed rfl); iexact M17
      isplitl [M18]; · iapply (holds_landed rfl); iexact M18
      isplitl [M19]; · iapply (holds_landed rfl); iexact M19
      isplitl [M20]; · iapply (holds_landed rfl); iexact M20
      isplitl [M21]; · iapply (holds_landed rfl); iexact M21
      isplitl [M22]; · iapply (holds_landed rfl); iexact M22
      isplitl [M23]; · iapply (holds_landed rfl); iexact M23
      iapply (holds_landed rfl); iexact M24
    isplitl [M37]; · iapply outp_start; iexact M37
    iapply outp_start; iexact M38
  iintro %_ HI
  ihave HI := (ctx_done (d := d) (L := L) (a := a) (R := rowA L a X) (n := Scf.trips k0_t1_loop.lb k0_t1_loop.ub k0_t1_loop.st) rfl) $$ HI
  icases HI with ⟨HA, H37, H38⟩
  unfold holds
  icases H37 with ⟨%f37, %h37, M37⟩
  icases H38 with ⟨%f38, %h38, M38⟩
  sl_exec
  have e9 : tile_core.sl.r_9 d L a X b36 = Spec.norm (rowB L a X).nb 0 := by
    delta tile_core.sl.r_9
    exact readAt_norm rfl 0 rfl _
  have e10 : tile_core.sl.r_10 d L a X b36 = Spec.norm (rowB L a X).nb 2 := by
    delta tile_core.sl.r_10
    exact readAt_norm rfl 2 rfl _
  have e11 : tile_core.sl.r_11 d L a X b36 = Spec.norm (rowB L a X).nb 3 := by
    delta tile_core.sl.r_11
    exact readAt_norm rfl 3 rfl _
  have e12 : tile_core.sl.r_12 d L a X b36 = Spec.norm (rowB L a X).nb 4 := by
    delta tile_core.sl.r_12
    exact readAt_norm rfl 4 rfl _
  have e13 : tile_core.sl.r_13 d L a X b36 = Spec.norm (rowB L a X).nb 5 := by
    delta tile_core.sl.r_13
    exact readAt_norm rfl 5 rfl _
  have e242 : tile_core.sl.v242 d L a X b36 = addf (Spec.norm (rowB L a X).nb 1) (kf 0x3F000000#32) := by
    delta tile_core.sl.v242
    rw [readAt_norm (w := tile_core.sl.dma0_2 L a X) (v := (rowB L a X).nb) rfl 1 rfl]
    rfl
  sl_for (fun t _ => Ctx d L a.swap (rowB L a X) t 0 0) $$ [M26 M27 M28 M29 M30 M31 M32 M33 M34 M35 M39 M40]
  case region =>
    intro t _
    have hrun := chunk_runB (d := d) (L := L) (a := a) (R := rowB L a X) t
    unfold Args.app twp at hrun
    delta tile_core.sl.prog.body_2
    rw [e9, e10, e11, e12, e13, e242]
    refine twp_bind ?_
    refine ent_trans hrun ?_
    exact wp_mono Idealize.ShloMosaic.frame _ _ fun _ => twp_pure ctx_next
  · rw [ctx_eq]
    isplitl [M26 M27 M28 M29 M30 M31 M32 M33 M34 M35]
    · isplitl [M26]; · iapply (holds_landed rfl); iexact M26
      isplitl [M27]; · iapply (holds_landed rfl); iexact M27
      isplitl [M28]; · iapply (holds_landed rfl); iexact M28
      isplitl [M29]; · iapply (holds_landed rfl); iexact M29
      isplitl [M30]; · iapply (holds_landed rfl); iexact M30
      isplitl [M31]; · iapply (holds_landed rfl); iexact M31
      isplitl [M32]; · iapply (holds_landed rfl); iexact M32
      isplitl [M33]; · iapply (holds_landed rfl); iexact M33
      isplitl [M34]; · iapply (holds_landed rfl); iexact M34
      iapply (holds_landed rfl); iexact M35
    isplitl [M39]; · iapply outp_start; iexact M39
    iapply outp_start; iexact M40
  iintro %_ HI
  ihave HI := (ctx_done (d := d) (L := L) (a := a.swap) (R := rowB L a X) (n := Scf.trips k0_t3_loop.lb k0_t3_loop.ub k0_t3_loop.st) rfl) $$ HI
  icases HI with ⟨HB, H39, H40⟩
  unfold holds
  icases H39 with ⟨%f39, %h39, M39⟩
  icases H40 with ⟨%f40, %h40, M40⟩
  sl_exec
  sl_step
  unfold tilePost insA insB bufs bufsB sems
  icases HA with ⟨M15, M16, M17, M18, M19, M20, M21, M22, M23, M24⟩
  icases HB with ⟨M26, M27, M28, M29, M30, M31, M32, M33, M34, M35⟩
  isplitl [A2 A3 A4 A5 A6 A7 A8 A9 A10 A11 A12]
  · isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexact A12
  isplitl [B2 B3 B4 B5 B6 B7 B8 B9 B10 B11 B12]
  · isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    iexact B12
  isplitl [A13]; · iapply (ownAt_writes h37); iexact A13
  isplitl [A14]; · iapply (ownAt_writes h38); iexact A14
  isplitl [B13]; · iapply (ownAt_writes h39); iexact B13
  isplitl [B14]; · iapply (ownAt_writes h40); iexact B14
  isplitl [M15 M16 M17 M18 M19 M20 M21 M22 M23 M24 M25 M37 M38]
  · isplitl [M15]; · iexact M15
    isplitl [M16]; · iexact M16
    isplitl [M17]; · iexact M17
    isplitl [M18]; · iexact M18
    isplitl [M19]; · iexact M19
    isplitl [M20]; · iexact M20
    isplitl [M21]; · iexact M21
    isplitl [M22]; · iexact M22
    isplitl [M23]; · iexact M23
    isplitl [M24]; · iexact M24
    isplitl [M25]; · iapply buf_intro; iexact M25
    isplitl [M37]; · iapply buf_intro; iexact M37
    iapply buf_intro; iexact M38
  isplitl [M26 M27 M28 M29 M30 M31 M32 M33 M34 M35 M36 M39 M40]
  · isplitl [M26]; · iexact M26
    isplitl [M27]; · iexact M27
    isplitl [M28]; · iexact M28
    isplitl [M29]; · iexact M29
    isplitl [M30]; · iexact M30
    isplitl [M31]; · iexact M31
    isplitl [M32]; · iexact M32
    isplitl [M33]; · iexact M33
    isplitl [M34]; · iexact M34
    isplitl [M35]; · iexact M35
    isplitl [M36]; · iapply buf_intro; iexact M36
    isplitl [M39]; · iapply buf_intro; iexact M39
    iapply buf_intro; iexact M40
  isplitl [S41 S42 S43 S44 S45 S46 S47 S48 S49 S50]
  · isplitl [S41]; · iexact S41
    isplitl [S42]; · iexact S42
    isplitl [S43]; · iexact S43
    isplitl [S44]; · iexact S44
    isplitl [S45]; · iexact S45
    isplitl [S46]; · iexact S46
    isplitl [S47]; · iexact S47
    isplitl [S48]; · iexact S48
    isplitl [S49]; · iexact S49
    iexact S50
  iexists _
  isplitr
  swap; · iexact HO
  ipureintro
  intro p hp
  iterate 26 (rcases Finset.mem_insert.mp hp with hp | hp; · exact .inr (hp ▸ rfl))
  exact .inl hp

end Cert.Proof.Tile

end
-- ==== Proof.Rows.lean ====
/-
  The rows of the operands: a 64-row array held whole is held as two rows per tile.
-/
module

public import proofs.«01_k».proof.Proof.TileRun

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-! ## One row of a 64-row array -/

section Row

variable {N : ℕ}

/-- The multi-index of column `j` in row `r`. -/
def rix (r : Fin 64) (j : (⟨1, ![N]⟩ : Shape).Idx) : (⟨2, ![64, N]⟩ : Shape).Idx := Shape.pair (d := ![64, N]) r (j 0)

/-- The elements of row `r`. -/
def rowSet (m : Memref sig .scVector .hbm ⟨2, ![64, N]⟩ .f32) (r : Fin 64) : Finset m.view.ty.Idx :=
  (Finset.univ.filter fun x : (⟨2, ![64, N]⟩ : Shape).Idx => (x 0).val = r.val).map m.view.emb

variable (m : Memref sig .scVector .hbm ⟨2, ![64, N]⟩ .f32) {off : Fin 2 → ℕ} {r : Fin 64} (hoff : off = ![r.val, 0])
  (inb : ∀ a, off a + (![1, N] : Fin 2 → ℕ) a ≤ (![64, N] : Fin 2 → ℕ) a)
  (hq : (Rect.unit (s := ⟨2, ![64, N]⟩) off ![1, N] inb).shape.Squeezes ⟨1, ![N]⟩)

include hoff in
theorem emb_row (j : (⟨1, ![N]⟩ : Shape).Idx) :
    (Rect.unit (s := ⟨2, ![64, N]⟩) off ![1, N] inb).emb (Shape.reshapeEquiv hq.numel_eq j) = rix r j := by
  subst hoff
  have e : Shape.reshapeEquiv hq.numel_eq j = (Fin.cons ⟨0, Nat.one_pos⟩ j : (⟨2, Matrix.vecCons 1 ![N]⟩ : Shape).Idx) :=
    Shape.reshapeEquiv_cons_one (d := ![N]) hq.numel_eq j
  rw [e]
  funext a
  refine Fin.ext ?_
  match a with
  | 0 => show r.val + 1 * 0 = r.val; omega
  | 1 => show 0 + 1 * (j 0).val = (j 0).val; omega

include hoff in
theorem read_row (f : m.view.ty.Contents (Elt F)) :
    (((m.slice (Rect.unit (s := ⟨2, ![64, N]⟩) off ![1, N] inb) (fun _ => rfl)).squeeze ⟨1, ![N]⟩ hq).view.read (Elt F) f : FVec F ⟨1, ![N]⟩ .f32)
      = fun j => (m.view.read (Elt F) f : FVec F ⟨2, ![64, N]⟩ .f32) (rix r j) := by
  funext j
  exact congrArg (m.view.read (Elt F) f) (emb_row hoff inb hq j)

include hoff in
theorem set_row :
    ((m.slice (Rect.unit (s := ⟨2, ![64, N]⟩) off ![1, N] inb) (fun _ => rfl)).squeeze ⟨1, ![N]⟩ hq).view.set = rowSet m r := by
  have h : ∀ j : (⟨1, ![N]⟩ : Shape).Idx, ((m.slice (Rect.unit (s := ⟨2, ![64, N]⟩) off ![1, N] inb) (fun _ => rfl)).squeeze ⟨1, ![N]⟩ hq).view.emb j
      = m.view.emb (rix r j) := fun j => congrArg m.view.emb (emb_row hoff inb hq j)
  ext i
  unfold rowSet View.set
  constructor
  · intro hi
    obtain ⟨j, -, rfl⟩ := Finset.mem_map.mp hi
    rw [h]
    exact Finset.mem_map.mpr ⟨rix r j, Finset.mem_filter.mpr ⟨Finset.mem_univ _, rfl⟩, rfl⟩
  · intro hi
    obtain ⟨x, hx, rfl⟩ := Finset.mem_map.mp hi
    refine Finset.mem_map.mpr ⟨fun a => ⟨(x 1).val, ?_⟩, Finset.mem_univ _, ?_⟩
    · match a with
      | 0 => exact (x 1).isLt
    · rw [h]
      have hr : x 0 = r := Fin.ext (Finset.mem_filter.mp hx).2
      subst hr
      exact congrArg m.view.emb (Shape.pair_eta (d := ![64, N]) x)

variable (d : Dev nD) {c : Fin τ.nSC} {s : Fin τ.nSub}

/-- A 64-row array held whole is its rows held at once. -/
theorem rows_whole (f : m.view.ty.Contents (Elt F)) :
    (m.view.loc (V d c s) ↦[m.view.set]{fullShare} f : sProp 𝕄)
      = bigSep Finset.univ fun r : Fin 64 => (m.view.loc (V d c s) ↦[rowSet m r]{fullShare} f : sProp 𝕄) := by
  have hd : ∀ r ∈ (Finset.univ : Finset (Fin 64)), ∀ r' ∈ (Finset.univ : Finset (Fin 64)), r ≠ r' → Disjoint (rowSet m r) (rowSet m r') := by
    intro r _ r' _ hne
    unfold rowSet
    rw [Finset.disjoint_map, Finset.disjoint_left]
    intro x hx hx'
    exact hne (Fin.ext ((Finset.mem_filter.mp hx).2.symm.trans (Finset.mem_filter.mp hx').2))
  have hu : (Finset.univ : Finset (Fin 64)).biUnion (rowSet m) = m.view.set := by
    ext i
    unfold rowSet View.set
    constructor
    · intro hi
      obtain ⟨r, -, hi⟩ := Finset.mem_biUnion.mp hi
      obtain ⟨x, -, rfl⟩ := Finset.mem_map.mp hi
      exact Finset.mem_map_of_mem _ (Finset.mem_univ x)
    · intro hi
      obtain ⟨x, -, rfl⟩ := Finset.mem_map.mp hi
      exact Finset.mem_biUnion.mpr ⟨x 0, Finset.mem_univ _, Finset.mem_map.mpr ⟨x, Finset.mem_filter.mpr ⟨Finset.mem_univ _, rfl⟩, rfl⟩⟩
  rw [← hu]
  exact pointsTo_biUnion (ℓ := m.view.loc (V d c s)) Finset.univ (rowSet m) hd

end Row

/-! ## Two rows per tile -/

/-- A tile's coordinates: its SparseCore and its subcore there. -/
def coordsV (c : Fin (grid0.bound 0)) (s : Fin (grid0.bound 1)) : grid0.Coords :=
  fun | 0 => c | 1 => s | ⟨_ + 2, h⟩ => absurd h (Nat.not_lt.2 (Nat.le_add_left _ _))

/-- The first row of a tile, and the second. -/
def rowNo (c : Fin 2) (s : Fin 16) (b : Fin 2) : Fin 64 := ⟨4 * s.val + 2 * c.val + b.val, by omega⟩

/-- The rows, by tile. -/
def rowEquiv : Fin 2 × Fin 16 × Fin 2 ≃ Fin 64 :=
  Equiv.ofBijective (fun p => rowNo p.1 p.2.1 p.2.2) ((Fintype.bijective_iff_injective_and_card _).mpr ⟨by
    rintro ⟨c, s, b⟩ ⟨c', s', b'⟩ h
    have h' : 4 * s.val + 2 * c.val + b.val = 4 * s'.val + 2 * c'.val + b'.val := congrArg Fin.val h
    have e1 : c = c' := Fin.ext (by omega)
    have e2 : s = s' := Fin.ext (by omega)
    have e3 : b = b' := Fin.ext (by omega)
    rw [e1, e2, e3], rfl⟩)

/-- A resource of every tile. -/
def every (Φ : grid0.Coords → sProp 𝕄) : sProp 𝕄 :=
  bigSep Finset.univ fun c : Fin 2 => bigSep Finset.univ fun s : Fin 16 => Φ (coordsV c s)

theorem every_sep (Φ Ψ : grid0.Coords → sProp 𝕄) : every (fun L => iprop(Φ L ∗ Ψ L)) = iprop(every Φ ∗ every Ψ) := by
  unfold every
  rw [← bigSep_sep']
  exact bigSep_congr fun c _ => bigSep_sep' _ _ _

theorem every_congr {Φ Ψ : grid0.Coords → sProp 𝕄} (h : ∀ L, Φ L = Ψ L) : every Φ = every Ψ := by
  rw [funext h]

theorem every_rows (Φ : Fin 64 → sProp 𝕄) :
    bigSep Finset.univ Φ = every fun L => iprop(Φ (rowNo (L 0) (L 1) 0) ∗ Φ (rowNo (L 0) (L 1) 1)) := by
  rw [bigSep_univ_equiv rowEquiv, bigSep_univ_prod]
  refine bigSep_congr fun c _ => ?_
  rw [bigSep_univ_prod]
  refine bigSep_congr fun s _ => ?_
  exact bigSep_univ_two _

section Split

variable (d : Dev nD)

/-- An array is one place, whichever tile names it. -/
def Shared {N : ℕ} (m : Memref sig .scVector .hbm ⟨2, ![64, N]⟩ .f32) : Prop :=
  ∀ (c : Fin τ.nSC) (s : Fin τ.nSub) (I : Finset m.view.ty.Idx) (f : m.view.ty.Contents (Elt F)),
    (m.view.loc (V d c s) ↦[I]{fullShare} f : sProp 𝕄) = (m.view.loc (V d 0 0) ↦[I]{fullShare} f : sProp 𝕄)

theorem split_rows {N : ℕ} {m : Memref sig .scVector .hbm ⟨2, ![64, N]⟩ .f32} (hs : Shared (F := F) d m) (f : m.view.ty.Contents (Elt F))
    {RA RB : grid0.Coords → sProp 𝕄}
    (hA : ∀ L, RA L = m.view.loc (V d (cV L) (jV L)) ↦[rowSet m (rowNo (L 0) (L 1) 0)]{fullShare} f)
    (hB : ∀ L, RB L = m.view.loc (V d (cV L) (jV L)) ↦[rowSet m (rowNo (L 0) (L 1) 1)]{fullShare} f) :
    (m.view.loc (V d 0 0) ↦[m.view.set]{fullShare} f : sProp 𝕄) = iprop(every RA ∗ every RB) := by
  rw [rows_whole, every_rows, every_sep]
  congr 1
  · exact every_congr fun L => ((hA L).trans (hs _ _ _ _)).symm
  · exact every_congr fun L => ((hB L).trans (hs _ _ _ _)).symm

theorem offA (L : grid0.Coords) : (![4 * (L 1).val + 2 * (L 0).val, 0] : Fin 2 → ℕ) = ![(rowNo (L 0) (L 1) 0).val, 0] := rfl
theorem offB (L : grid0.Coords) : (![4 * (L 1).val + 2 * (L 0).val + 1, 0] : Fin 2 → ℕ) = ![(rowNo (L 0) (L 1) 1).val, 0] := rfl

theorem split12 {m : Memref sig .scVector .hbm S64x4096 .f32} (hs : Shared (F := F) d m) (f : m.view.ty.Contents (Elt F)) :
    (m.view.loc (V d 0 0) ↦[m.view.set]{fullShare} f : sProp 𝕄) = iprop(every (fun L => own d L (rA12 L m) f) ∗ every fun L => own d L (rB12 L m) f) :=
  split_rows d hs f (fun L => congrArg (fun I => (m.view.loc (V d (cV L) (jV L)) ↦[I]{fullShare} f : sProp 𝕄)) (set_row (N := 4096) m ((k0_off1_eq L).trans (offA L)) _ _))
    fun L => congrArg (fun I => (m.view.loc (V d (cV L) (jV L)) ↦[I]{fullShare} f : sProp 𝕄)) (set_row (N := 4096) m ((k0_off5_eq L).trans (offB L)) _ _)

theorem split10 {m : Memref sig .scVector .hbm S64x1024 .f32} (hs : Shared (F := F) d m) (f : m.view.ty.Contents (Elt F)) :
    (m.view.loc (V d 0 0) ↦[m.view.set]{fullShare} f : sProp 𝕄) = iprop(every (fun L => own d L (rA10 L m) f) ∗ every fun L => own d L (rB10 L m) f) :=
  split_rows d hs f (fun L => congrArg (fun I => (m.view.loc (V d (cV L) (jV L)) ↦[I]{fullShare} f : sProp 𝕄)) (set_row (N := 1024) m ((k0_off2_eq L).trans (offA L)) _ _))
    fun L => congrArg (fun I => (m.view.loc (V d (cV L) (jV L)) ↦[I]{fullShare} f : sProp 𝕄)) (set_row (N := 1024) m ((k0_off6_eq L).trans (offB L)) _ _)

theorem split8 {m : Memref sig .scVector .hbm S64x256 .f32} (hs : Shared (F := F) d m) (f : m.view.ty.Contents (Elt F)) :
    (m.view.loc (V d 0 0) ↦[m.view.set]{fullShare} f : sProp 𝕄) = iprop(every (fun L => own d L (rA8 L m) f) ∗ every fun L => own d L (rB8 L m) f) :=
  split_rows d hs f (fun L => congrArg (fun I => (m.view.loc (V d (cV L) (jV L)) ↦[I]{fullShare} f : sProp 𝕄)) (set_row (N := 256) m ((k0_off3_eq L).trans (offA L)) _ _))
    fun L => congrArg (fun I => (m.view.loc (V d (cV L) (jV L)) ↦[I]{fullShare} f : sProp 𝕄)) (set_row (N := 256) m ((k0_off7_eq L).trans (offB L)) _ _)

theorem split6 {m : Memref sig .scVector .hbm S64x96 .f32} (hs : Shared (F := F) d m) (f : m.view.ty.Contents (Elt F)) :
    (m.view.loc (V d 0 0) ↦[m.view.set]{fullShare} f : sProp 𝕄) = iprop(every (fun L => own d L (rA6 L m) f) ∗ every fun L => own d L (rB6 L m) f) :=
  split_rows d hs f (fun L => congrArg (fun I => (m.view.loc (V d (cV L) (jV L)) ↦[I]{fullShare} f : sProp 𝕄)) (set_row (N := 96) m ((k0_off4_eq L).trans (offA L)) _ _))
    fun L => congrArg (fun I => (m.view.loc (V d (cV L) (jV L)) ↦[I]{fullShare} f : sProp 𝕄)) (set_row (N := 96) m ((k0_off8_eq L).trans (offB L)) _ _)

end Split

/-! ## The rows of a tile by number -/

/-- Row `r` of the operands. -/
def rowOf (a : Args) (X : Cont F a) (r : Fin 64) : Row F where
  m1 j := (a.m2.view.read (Elt F) X.f2 : FVec F S64x4096 .f32) (rix r j)
  s1 j := (a.m3.view.read (Elt F) X.f3 : FVec F S64x4096 .f32) (rix r j)
  m4s j := (a.m4.view.read (Elt F) X.f4 : FVec F S64x1024 .f32) (rix r j)
  s4s j := (a.m5.view.read (Elt F) X.f5 : FVec F S64x1024 .f32) (rix r j)
  m4m j := (a.m6.view.read (Elt F) X.f6 : FVec F S64x1024 .f32) (rix r j)
  s4m j := (a.m7.view.read (Elt F) X.f7 : FVec F S64x1024 .f32) (rix r j)
  m16s j := (a.m8.view.read (Elt F) X.f8 : FVec F S64x256 .f32) (rix r j)
  s16s j := (a.m9.view.read (Elt F) X.f9 : FVec F S64x256 .f32) (rix r j)
  m16m j := (a.m10.view.read (Elt F) X.f10 : FVec F S64x256 .f32) (rix r j)
  s16m j := (a.m11.view.read (Elt F) X.f11 : FVec F S64x256 .f32) (rix r j)
  nb j := (a.m12.view.read (Elt F) X.f12 : FVec F S64x96 .f32) (rix r j)

theorem rowA_eq (L : grid0.Coords) (a : Args) (X : Cont F a) : rowA L a X = rowOf a X (rowNo (L 0) (L 1) 0) := by
  unfold rowA rowOf
  have h12 := fun m f => read_row (F := F) (N := 4096) m ((k0_off1_eq L).trans (offA L)) (k0_off1_inb L) squeezes_S1x4096_S4096 f
  have h10 := fun m f => read_row (F := F) (N := 1024) m ((k0_off2_eq L).trans (offA L)) (k0_off2_inb L) squeezes_S1x1024_S1024 f
  have h8 := fun m f => read_row (F := F) (N := 256) m ((k0_off3_eq L).trans (offA L)) (k0_off3_inb L) squeezes_S1x256_S256 f
  have h6 := fun m f => read_row (F := F) (N := 96) m ((k0_off4_eq L).trans (offA L)) (k0_off4_inb L) squeezes_S1x96_S96 f
  exact congr (congr (congr (congr (congr (congr (congr (congr (congr (congr (congrArg Row.mk (h12 _ _)) (h12 _ _)) (h10 _ _)) (h10 _ _)) (h10 _ _)) (h10 _ _))
    (h8 _ _)) (h8 _ _)) (h8 _ _)) (h8 _ _)) (h6 _ _)

theorem rowB_eq (L : grid0.Coords) (a : Args) (X : Cont F a) : rowB L a X = rowOf a X (rowNo (L 0) (L 1) 1) := by
  unfold rowB rowOf
  have h12 := fun m f => read_row (F := F) (N := 4096) m ((k0_off5_eq L).trans (offB L)) (k0_off5_inb L) squeezes_S1x4096_S4096 f
  have h10 := fun m f => read_row (F := F) (N := 1024) m ((k0_off6_eq L).trans (offB L)) (k0_off6_inb L) squeezes_S1x1024_S1024 f
  have h8 := fun m f => read_row (F := F) (N := 256) m ((k0_off7_eq L).trans (offB L)) (k0_off7_inb L) squeezes_S1x256_S256 f
  have h6 := fun m f => read_row (F := F) (N := 96) m ((k0_off8_eq L).trans (offB L)) (k0_off8_inb L) squeezes_S1x96_S96 f
  exact congr (congr (congr (congr (congr (congr (congr (congr (congr (congr (congrArg Row.mk (h12 _ _)) (h12 _ _)) (h10 _ _)) (h10 _ _)) (h10 _ _)) (h10 _ _))
    (h8 _ _)) (h8 _ _)) (h8 _ _)) (h8 _ _)) (h6 _ _)

/-- A memref's elements where it reads `v`, at any contents it reads `v` in. -/
theorem ownAt_eq {sp : Space} {s : Shape} {d : Dev nD} {L : grid0.Coords} {m : Memref sig .scVector sp s .f32} {v : FVec F s .f32} {g : m.view.ty.Contents (Elt F)}
    (h : m.view.read (Elt F) g = v) : ownAt d L m v ⊢ own d L m g := by
  subst h
  unfold ownAt
  iintro ⟨%f, %hf, H⟩
  have e : (m.view.loc (V d (cV L) (jV L)) ↦[m.view.set]{fullShare} f : sProp 𝕄) = own d L m g :=
    pointsTo_congr (ℓ := m.view.loc (V d (cV L) (jV L))) (I := m.view.set) (f := f) (g := g) (by
      intro i hi
      obtain ⟨x, -, rfl⟩ := Finset.mem_map.mp hi
      have e := congrFun hf x
      rw [View.read_apply, View.read_apply] at e
      exact (cast_inj _).mp e)
  iapply (Entails.of_eq e)
  iexact H

end Cert.Proof.Tile

end
-- ==== Proof.Whole.lean ====
/-
  The tile program at the arrays and the scratch the launch hands it: its resources, from the arrays whole to a tile's rows and back.
-/
module

public import proofs.«01_k».proof.Proof.Rows

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The arrays and the scratch a tile's program is launched with. -/
@[reducible] def tileArgs : Args where
  m2 := Memref.whole main_arg0_scv
  h2 := Memref.isWhole_whole _
  m3 := Memref.whole main_arg1_scv
  h3 := Memref.isWhole_whole _
  m4 := Memref.whole main_arg2_scv
  h4 := Memref.isWhole_whole _
  m5 := Memref.whole main_arg3_scv
  h5 := Memref.isWhole_whole _
  m6 := Memref.whole main_arg4_scv
  h6 := Memref.isWhole_whole _
  m7 := Memref.whole main_arg5_scv
  h7 := Memref.isWhole_whole _
  m8 := Memref.whole main_arg6_scv
  h8 := Memref.isWhole_whole _
  m9 := Memref.whole main_arg7_scv
  h9 := Memref.isWhole_whole _
  m10 := Memref.whole main_arg8_scv
  h10 := Memref.isWhole_whole _
  m11 := Memref.whole main_arg9_scv
  h11 := Memref.isWhole_whole _
  m12 := Memref.whole main_v2_scv
  h12 := Memref.isWhole_whole _
  m13 := Memref.whole main_v3_0_scv
  h13 := Memref.isWhole_whole _
  m14 := Memref.whole main_v3_1_scv
  h14 := Memref.isWhole_whole _
  m15 := Memref.whole cc0_scratch0
  h15 := Memref.isWhole_whole _
  m16 := Memref.whole cc0_scratch1
  h16 := Memref.isWhole_whole _
  m17 := Memref.whole cc0_scratch2
  h17 := Memref.isWhole_whole _
  m18 := Memref.whole cc0_scratch3
  h18 := Memref.isWhole_whole _
  m19 := Memref.whole cc0_scratch4
  h19 := Memref.isWhole_whole _
  m20 := Memref.whole cc0_scratch5
  h20 := Memref.isWhole_whole _
  m21 := Memref.whole cc0_scratch6
  h21 := Memref.isWhole_whole _
  m22 := Memref.whole cc0_scratch7
  h22 := Memref.isWhole_whole _
  m23 := Memref.whole cc0_scratch8
  h23 := Memref.isWhole_whole _
  m24 := Memref.whole cc0_scratch9
  h24 := Memref.isWhole_whole _
  m25 := Memref.whole cc0_scratch10
  h25 := Memref.isWhole_whole _
  m26 := Memref.whole cc0_scratch11
  h26 := Memref.isWhole_whole _
  m27 := Memref.whole cc0_scratch12
  h27 := Memref.isWhole_whole _
  m28 := Memref.whole cc0_scratch13
  h28 := Memref.isWhole_whole _
  m29 := Memref.whole cc0_scratch14
  h29 := Memref.isWhole_whole _
  m30 := Memref.whole cc0_scratch15
  h30 := Memref.isWhole_whole _
  m31 := Memref.whole cc0_scratch16
  h31 := Memref.isWhole_whole _
  m32 := Memref.whole cc0_scratch17
  h32 := Memref.isWhole_whole _
  m33 := Memref.whole cc0_scratch18
  h33 := Memref.isWhole_whole _
  m34 := Memref.whole cc0_scratch19
  h34 := Memref.isWhole_whole _
  m35 := Memref.whole cc0_scratch20
  h35 := Memref.isWhole_whole _
  m36 := Memref.whole cc0_scratch21
  h36 := Memref.isWhole_whole _
  m37 := Memref.whole cc0_scratch22
  h37 := Memref.isWhole_whole _
  m38 := Memref.whole cc0_scratch23
  h38 := Memref.isWhole_whole _
  m39 := Memref.whole cc0_scratch24
  h39 := Memref.isWhole_whole _
  m40 := Memref.whole cc0_scratch25
  h40 := Memref.isWhole_whole _
  s41 := cc0_scratch26
  s42 := cc0_scratch27
  s43 := cc0_scratch28
  s44 := cc0_scratch29
  s45 := cc0_scratch30
  s46 := cc0_scratch31
  s47 := cc0_scratch32
  s48 := cc0_scratch33
  s49 := cc0_scratch34
  s50 := cc0_scratch35

/-! ## A tile's own scratch and semaphores -/

/-- The scratch buffers: the first row's thirteen, the second row's thirteen. -/
def scr (p : Fin 2 × Fin 13) : Ref sig .scVector :=
  (![![cc0_scratch0, cc0_scratch1, cc0_scratch2, cc0_scratch3, cc0_scratch4, cc0_scratch5, cc0_scratch6, cc0_scratch7, cc0_scratch8, cc0_scratch9, cc0_scratch10, cc0_scratch22, cc0_scratch23], ![cc0_scratch11, cc0_scratch12, cc0_scratch13, cc0_scratch14, cc0_scratch15, cc0_scratch16, cc0_scratch17, cc0_scratch18, cc0_scratch19, cc0_scratch20, cc0_scratch21, cc0_scratch24, cc0_scratch25]] : Fin 2 → Fin 13 → Ref sig .scVector) p.1 p.2

theorem scr_injective : Function.Injective scr := by
  have h : ∀ p q, scr p = scr q → p = q := by decide +kernel
  exact fun p q => h p q

/-- The semaphores. -/
def smr : Fin 10 → SemLoc sig := ![.dma cc0_scratch26.sem, .dma cc0_scratch27.sem, .dma cc0_scratch28.sem, .dma cc0_scratch29.sem, .dma cc0_scratch30.sem, .dma cc0_scratch31.sem, .dma cc0_scratch32.sem, .dma cc0_scratch33.sem, .dma cc0_scratch34.sem, .dma cc0_scratch35.sem]

theorem smr_injective : Function.Injective smr := by
  have h : ∀ p q, smr p = smr q → p = q := by decide +kernel
  exact fun p q => h p q

section Own

/-- A family over `s`, parted by the members a one-to-one function names. -/
theorem bigSep_named {I J : Type} [DecidableEq I] [DecidableEq J] [Fintype J] {s : Finset I} {f : J → I} (inj : Function.Injective f) (sub : ∀ j, f j ∈ s)
    (Φ : I → sProp 𝕄) : bigSep s Φ = iprop(bigSep Finset.univ (fun j => Φ (f j)) ∗ bigSep (s \ Finset.univ.image f) Φ) := by
  have h : Finset.univ.image f ⊆ s := fun x hx => by
    obtain ⟨j, -, rfl⟩ := Finset.mem_image.mp hx
    exact sub j
  have e : bigSep (Finset.univ.image f) Φ = bigSep Finset.univ fun j => Φ (f j) := bigSep_image_of_injOn inj.injOn Φ
  rw [← e]
  exact BI.bigSep_sdiff_split h

variable (d : Dev nD) (L : grid0.Coords)

theorem ownBufs_eq :
    (ownBufs (V d (cV L) (jV L)) : sProp 𝕄) = iprop((bufs (F := F) d L tileArgs ∗ bufsB (F := F) d L tileArgs)
      ∗ bigSep (ownRefs (τ := τ) (.scVector (cV L) (jV L)) \ Finset.univ.image fun p => (Proc.scVector (cV L) (jV L)).devRef (scr p))
          fun b => iprop(∃ f, ((d, b) : Loc nD τ sig) ↦{fullShare} f)) := by
  unfold SparseCore.Cfg.ownBufs
  have hm : ∀ p, (Proc.scVector (cV L) (jV L)).devRef (scr p) ∈ ownRefs (τ := τ) (.scVector (cV L) (jV L)) := by
    intro p
    refine SparseCore.Cfg.mem_ownRefs_of_owner ?_
    have h : ∀ p, ((Proc.scVector (cV L) (jV L)).devRef (scr p)).owner = .proc (.scVector (cV L) (jV L)) := by
      intro p
      obtain ⟨b, k⟩ := p
      fin_cases b <;> fin_cases k <;> rfl
    exact h p
  rw [bigSep_named (f := fun p => (Proc.scVector (cV L) (jV L)).devRef (scr p)) (fun p q e => scr_injective (Proc.devRef_injective _ e)) hm]
  congr 1
  rw [bigSep_univ_prod, bigSep_univ_two]
  simp only [bigSep_cons, BI.bigSep_univ_of_subsingleton (0 : Fin 1)]
  rfl

theorem ownSems_eq :
    (ownSems0 (V d (cV L) (jV L)) : sProp 𝕄) = iprop(sems (F := F) d L tileArgs
      ∗ bigSep (ownCells (V d (cV L) (jV L)) \ Finset.univ.image fun p => ((V d (cV L) (jV L), smr p) : GSem nD τ sig)) fun g => semVal g 0) := by
  unfold SparseCore.Cfg.ownSems0
  have hm : ∀ p, ((V d (cV L) (jV L), smr p) : GSem nD τ sig) ∈ ownCells (V d (cV L) (jV L)) := by
    intro p
    have h : ∀ p, (smr p).isScoped .scVector = true := by decide +kernel
    exact mem_ownCells.mpr ⟨rfl, h p⟩
  rw [bigSep_named (f := fun p => ((V d (cV L) (jV L), smr p) : GSem nD τ sig)) (fun p q e => smr_injective (Prod.ext_iff.mp e).2) hm]
  congr 1
  simp only [bigSep_cons, BI.bigSep_univ_of_subsingleton (0 : Fin 1)]
  rfl

end Own

/-! ## What a tile holds of the arrays -/

section Res

variable (d : Dev nD) (X : Cont F tileArgs) (g13 g14 : (⟨S64x4096, .f32⟩ : BufTy).Contents (Elt F))

/-- A tile's rows of the operands, and of the results at given contents. -/
def tileRes (L : grid0.Coords) : sProp 𝕄 :=
  iprop(insA d L tileArgs X ∗ insB d L tileArgs X ∗ own d L (rA12 L tileArgs.m13) g13 ∗ own d L (rA12 L tileArgs.m14) g14
    ∗ own d L (rB12 L tileArgs.m13) g13 ∗ own d L (rB12 L tileArgs.m14) g14)

/-- The same when the tile has run. -/
def tileDone (L : grid0.Coords) : sProp 𝕄 :=
  iprop(insA d L tileArgs X ∗ insB d L tileArgs X
    ∗ ownAt d L (rA12 L tileArgs.m13) (exRow (rowA L tileArgs X)) ∗ ownAt d L (rA12 L tileArgs.m14) (sdRow (rowA L tileArgs X))
    ∗ ownAt d L (rB12 L tileArgs.m13) (exRow (rowB L tileArgs X)) ∗ ownAt d L (rB12 L tileArgs.m14) (sdRow (rowB L tileArgs X)))

/-- The column of a multi-index. -/
def cix (x : S64x4096.Idx) : S4096.Idx := fun a => match a with | 0 => x 1

/-- The results, row by row. -/
def exAll : (⟨S64x4096, .f32⟩ : BufTy).Contents (Elt F) := fun x : S64x4096.Idx => exRow (rowOf tileArgs X (x 0)) (cix x)
def sdAll : (⟨S64x4096, .f32⟩ : BufTy).Contents (Elt F) := fun x : S64x4096.Idx => sdRow (rowOf tileArgs X (x 0)) (cix x)

theorem cix_rix (r : Fin 64) (j : S4096.Idx) : cix (rix r j) = j := by
  funext a
  match a with
  | 0 => rfl

theorem tileDone_res (L : grid0.Coords) : tileDone d X L ⊢ tileRes d X (exAll X) (sdAll X) L := by
  have hA := fun (m : Memref sig .scVector .hbm S64x4096 .f32) f => read_row (F := F) (N := 4096) m ((k0_off1_eq L).trans (offA L)) (k0_off1_inb L) squeezes_S1x4096_S4096 f
  have hB := fun (m : Memref sig .scVector .hbm S64x4096 .f32) f => read_row (F := F) (N := 4096) m ((k0_off5_eq L).trans (offB L)) (k0_off5_inb L) squeezes_S1x4096_S4096 f
  have e13A : (rA12 L tileArgs.m13).view.read (Elt F) (exAll X) = exRow (rowA L tileArgs X) := by
    rw [rowA_eq]
    exact (hA _ _).trans (funext fun j => congrArg (exRow (rowOf tileArgs X _)) (cix_rix _ j))
  have e14A : (rA12 L tileArgs.m14).view.read (Elt F) (sdAll X) = sdRow (rowA L tileArgs X) := by
    rw [rowA_eq]
    exact (hA _ _).trans (funext fun j => congrArg (sdRow (rowOf tileArgs X _)) (cix_rix _ j))
  have e13B : (rB12 L tileArgs.m13).view.read (Elt F) (exAll X) = exRow (rowB L tileArgs X) := by
    rw [rowB_eq]
    exact (hB _ _).trans (funext fun j => congrArg (exRow (rowOf tileArgs X _)) (cix_rix _ j))
  have e14B : (rB12 L tileArgs.m14).view.read (Elt F) (sdAll X) = sdRow (rowB L tileArgs X) := by
    rw [rowB_eq]
    exact (hB _ _).trans (funext fun j => congrArg (sdRow (rowOf tileArgs X _)) (cix_rix _ j))
  unfold tileDone tileRes
  iintro ⟨HA, HB, H1, H2, H3, H4⟩
  isplitl [HA]; · iexact HA
  isplitl [HB]; · iexact HB
  isplitl [H1]; · iapply (ownAt_eq e13A); iexact H1
  isplitl [H2]; · iapply (ownAt_eq e14A); iexact H2
  isplitl [H3]; · iapply (ownAt_eq e13B); iexact H3
  iapply (ownAt_eq e14B); iexact H4

theorem whole_set (b : Ref sig .scVector) (f : (View.whole b).ty.Contents (Elt F)) :
    ((V d 0 0).loc b ↦{fullShare} f : sProp 𝕄) = ((View.whole b).loc (V d 0 0) ↦[(View.whole b).set]{fullShare} f : sProp 𝕄) := by
  rw [View.set_whole]

/-- The arrays whole. -/
def arrays : sProp 𝕄 :=
  iprop(((SparseCore.T d).loc main_arg0 ↦{fullShare} X.f2)
    ∗ ((SparseCore.T d).loc main_arg1 ↦{fullShare} X.f3)
    ∗ ((SparseCore.T d).loc main_arg2 ↦{fullShare} X.f4)
    ∗ ((SparseCore.T d).loc main_arg3 ↦{fullShare} X.f5)
    ∗ ((SparseCore.T d).loc main_arg4 ↦{fullShare} X.f6)
    ∗ ((SparseCore.T d).loc main_arg5 ↦{fullShare} X.f7)
    ∗ ((SparseCore.T d).loc main_arg6 ↦{fullShare} X.f8)
    ∗ ((SparseCore.T d).loc main_arg7 ↦{fullShare} X.f9)
    ∗ ((SparseCore.T d).loc main_arg8 ↦{fullShare} X.f10)
    ∗ ((SparseCore.T d).loc main_arg9 ↦{fullShare} X.f11)
    ∗ ((SparseCore.T d).loc main_v2 ↦{fullShare} X.f12)
    ∗ ((SparseCore.T d).loc main_v3_0 ↦{fullShare} g13)
    ∗ ((SparseCore.T d).loc main_v3_1 ↦{fullShare} g14))

theorem whole2 (f : tileArgs.m2.view.ty.Contents (Elt F)) : ((SparseCore.T d).loc main_arg0 ↦{fullShare} f : sProp 𝕄)
    = iprop(every (fun L => own d L (rA12 L tileArgs.m2) f) ∗ every fun L => own d L (rB12 L tileArgs.m2) f) :=
  (whole_set d main_arg0_scv f).trans (split12 d (fun _ _ _ _ => rfl) f)

theorem whole3 (f : tileArgs.m3.view.ty.Contents (Elt F)) : ((SparseCore.T d).loc main_arg1 ↦{fullShare} f : sProp 𝕄)
    = iprop(every (fun L => own d L (rA12 L tileArgs.m3) f) ∗ every fun L => own d L (rB12 L tileArgs.m3) f) :=
  (whole_set d main_arg1_scv f).trans (split12 d (fun _ _ _ _ => rfl) f)

theorem whole4 (f : tileArgs.m4.view.ty.Contents (Elt F)) : ((SparseCore.T d).loc main_arg2 ↦{fullShare} f : sProp 𝕄)
    = iprop(every (fun L => own d L (rA10 L tileArgs.m4) f) ∗ every fun L => own d L (rB10 L tileArgs.m4) f) :=
  (whole_set d main_arg2_scv f).trans (split10 d (fun _ _ _ _ => rfl) f)

theorem whole5 (f : tileArgs.m5.view.ty.Contents (Elt F)) : ((SparseCore.T d).loc main_arg3 ↦{fullShare} f : sProp 𝕄)
    = iprop(every (fun L => own d L (rA10 L tileArgs.m5) f) ∗ every fun L => own d L (rB10 L tileArgs.m5) f) :=
  (whole_set d main_arg3_scv f).trans (split10 d (fun _ _ _ _ => rfl) f)

theorem whole6 (f : tileArgs.m6.view.ty.Contents (Elt F)) : ((SparseCore.T d).loc main_arg4 ↦{fullShare} f : sProp 𝕄)
    = iprop(every (fun L => own d L (rA10 L tileArgs.m6) f) ∗ every fun L => own d L (rB10 L tileArgs.m6) f) :=
  (whole_set d main_arg4_scv f).trans (split10 d (fun _ _ _ _ => rfl) f)

theorem whole7 (f : tileArgs.m7.view.ty.Contents (Elt F)) : ((SparseCore.T d).loc main_arg5 ↦{fullShare} f : sProp 𝕄)
    = iprop(every (fun L => own d L (rA10 L tileArgs.m7) f) ∗ every fun L => own d L (rB10 L tileArgs.m7) f) :=
  (whole_set d main_arg5_scv f).trans (split10 d (fun _ _ _ _ => rfl) f)

theorem whole8 (f : tileArgs.m8.view.ty.Contents (Elt F)) : ((SparseCore.T d).loc main_arg6 ↦{fullShare} f : sProp 𝕄)
    = iprop(every (fun L => own d L (rA8 L tileArgs.m8) f) ∗ every fun L => own d L (rB8 L tileArgs.m8) f) :=
  (whole_set d main_arg6_scv f).trans (split8 d (fun _ _ _ _ => rfl) f)

theorem whole9 (f : tileArgs.m9.view.ty.Contents (Elt F)) : ((SparseCore.T d).loc main_arg7 ↦{fullShare} f : sProp 𝕄)
    = iprop(every (fun L => own d L (rA8 L tileArgs.m9) f) ∗ every fun L => own d L (rB8 L tileArgs.m9) f) :=
  (whole_set d main_arg7_scv f).trans (split8 d (fun _ _ _ _ => rfl) f)

theorem whole10 (f : tileArgs.m10.view.ty.Contents (Elt F)) : ((SparseCore.T d).loc main_arg8 ↦{fullShare} f : sProp 𝕄)
    = iprop(every (fun L => own d L (rA8 L tileArgs.m10) f) ∗ every fun L => own d L (rB8 L tileArgs.m10) f) :=
  (whole_set d main_arg8_scv f).trans (split8 d (fun _ _ _ _ => rfl) f)

theorem whole11 (f : tileArgs.m11.view.ty.Contents (Elt F)) : ((SparseCore.T d).loc main_arg9 ↦{fullShare} f : sProp 𝕄)
    = iprop(every (fun L => own d L (rA8 L tileArgs.m11) f) ∗ every fun L => own d L (rB8 L tileArgs.m11) f) :=
  (whole_set d main_arg9_scv f).trans (split8 d (fun _ _ _ _ => rfl) f)

theorem whole12 (f : tileArgs.m12.view.ty.Contents (Elt F)) : ((SparseCore.T d).loc main_v2 ↦{fullShare} f : sProp 𝕄)
    = iprop(every (fun L => own d L (rA6 L tileArgs.m12) f) ∗ every fun L => own d L (rB6 L tileArgs.m12) f) :=
  (whole_set d main_v2_scv f).trans (split6 d (fun _ _ _ _ => rfl) f)

theorem whole13 (f : tileArgs.m13.view.ty.Contents (Elt F)) : ((SparseCore.T d).loc main_v3_0 ↦{fullShare} f : sProp 𝕄)
    = iprop(every (fun L => own d L (rA12 L tileArgs.m13) f) ∗ every fun L => own d L (rB12 L tileArgs.m13) f) :=
  (whole_set d main_v3_0_scv f).trans (split12 d (fun _ _ _ _ => rfl) f)

theorem whole14 (f : tileArgs.m14.view.ty.Contents (Elt F)) : ((SparseCore.T d).loc main_v3_1 ↦{fullShare} f : sProp 𝕄)
    = iprop(every (fun L => own d L (rA12 L tileArgs.m14) f) ∗ every fun L => own d L (rB12 L tileArgs.m14) f) :=
  (whole_set d main_v3_1_scv f).trans (split12 d (fun _ _ _ _ => rfl) f)

/-- Thirteen pairs, regrouped. -/
theorem regroup (A2 A3 A4 A5 A6 A7 A8 A9 A10 A11 A12 A13 A14 B2 B3 B4 B5 B6 B7 B8 B9 B10 B11 B12 B13 B14 : sProp 𝕄) :
    iprop((A2 ∗ B2) ∗ (A3 ∗ B3) ∗ (A4 ∗ B4) ∗ (A5 ∗ B5) ∗ (A6 ∗ B6) ∗ (A7 ∗ B7) ∗ (A8 ∗ B8) ∗ (A9 ∗ B9) ∗ (A10 ∗ B10) ∗ (A11 ∗ B11) ∗ (A12 ∗ B12) ∗ (A13 ∗ B13) ∗ (A14 ∗ B14))
      = iprop((A2 ∗ A3 ∗ A4 ∗ A5 ∗ A6 ∗ A7 ∗ A8 ∗ A9 ∗ A10 ∗ A11 ∗ A12) ∗ (B2 ∗ B3 ∗ B4 ∗ B5 ∗ B6 ∗ B7 ∗ B8 ∗ B9 ∗ B10 ∗ B11 ∗ B12) ∗ A13 ∗ A14 ∗ B13 ∗ B14) := by
  have h1 : iprop((A2 ∗ B2) ∗ (A3 ∗ B3) ∗ (A4 ∗ B4) ∗ (A5 ∗ B5) ∗ (A6 ∗ B6) ∗ (A7 ∗ B7) ∗ (A8 ∗ B8) ∗ (A9 ∗ B9) ∗ (A10 ∗ B10) ∗ (A11 ∗ B11) ∗ (A12 ∗ B12) ∗ (A13 ∗ B13) ∗ (A14 ∗ B14))
      ⊢ iprop((A2 ∗ A3 ∗ A4 ∗ A5 ∗ A6 ∗ A7 ∗ A8 ∗ A9 ∗ A10 ∗ A11 ∗ A12) ∗ (B2 ∗ B3 ∗ B4 ∗ B5 ∗ B6 ∗ B7 ∗ B8 ∗ B9 ∗ B10 ∗ B11 ∗ B12) ∗ A13 ∗ A14 ∗ B13 ∗ B14) := by
    iintro ⟨⟨A2, B2⟩, ⟨A3, B3⟩, ⟨A4, B4⟩, ⟨A5, B5⟩, ⟨A6, B6⟩, ⟨A7, B7⟩, ⟨A8, B8⟩, ⟨A9, B9⟩, ⟨A10, B10⟩, ⟨A11, B11⟩, ⟨A12, B12⟩, ⟨A13, B13⟩, ⟨A14, B14⟩⟩
    isplitl [A2 A3 A4 A5 A6 A7 A8 A9 A10 A11 A12]
    · isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact A12
    isplitl [B2 B3 B4 B5 B6 B7 B8 B9 B10 B11 B12]
    · isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      iexact B12
    isplitl [A13]; · iexact A13
    isplitl [A14]; · iexact A14
    isplitl [B13]; · iexact B13
    iexact B14
  have h2 : iprop((A2 ∗ A3 ∗ A4 ∗ A5 ∗ A6 ∗ A7 ∗ A8 ∗ A9 ∗ A10 ∗ A11 ∗ A12) ∗ (B2 ∗ B3 ∗ B4 ∗ B5 ∗ B6 ∗ B7 ∗ B8 ∗ B9 ∗ B10 ∗ B11 ∗ B12) ∗ A13 ∗ A14 ∗ B13 ∗ B14)
      ⊢ iprop((A2 ∗ B2) ∗ (A3 ∗ B3) ∗ (A4 ∗ B4) ∗ (A5 ∗ B5) ∗ (A6 ∗ B6) ∗ (A7 ∗ B7) ∗ (A8 ∗ B8) ∗ (A9 ∗ B9) ∗ (A10 ∗ B10) ∗ (A11 ∗ B11) ∗ (A12 ∗ B12) ∗ (A13 ∗ B13) ∗ (A14 ∗ B14)) := by
    iintro ⟨⟨A2, A3, A4, A5, A6, A7, A8, A9, A10, A11, A12⟩, ⟨B2, B3, B4, B5, B6, B7, B8, B9, B10, B11, B12⟩, A13, A14, B13, B14⟩
    isplitl [A2 B2]; · isplitl [A2] <;> iassumption
    isplitl [A3 B3]; · isplitl [A3] <;> iassumption
    isplitl [A4 B4]; · isplitl [A4] <;> iassumption
    isplitl [A5 B5]; · isplitl [A5] <;> iassumption
    isplitl [A6 B6]; · isplitl [A6] <;> iassumption
    isplitl [A7 B7]; · isplitl [A7] <;> iassumption
    isplitl [A8 B8]; · isplitl [A8] <;> iassumption
    isplitl [A9 B9]; · isplitl [A9] <;> iassumption
    isplitl [A10 B10]; · isplitl [A10] <;> iassumption
    isplitl [A11 B11]; · isplitl [A11] <;> iassumption
    isplitl [A12 B12]; · isplitl [A12] <;> iassumption
    isplitl [A13 B13]; · isplitl [A13] <;> iassumption
    isplitl [A14] <;> iassumption
  exact BI.Entails.antisymm h1 h2

set_option maxHeartbeats 1000000 in
theorem arrays_res : arrays d X g13 g14 = every (tileRes d X g13 g14) := by
  have e : tileRes d X g13 g14 = fun L => tileRes d X g13 g14 L := rfl
  rw [e]
  unfold arrays tileRes insA insB
  rw [whole2, whole3, whole4, whole5, whole6, whole7, whole8, whole9, whole10, whole11, whole12, whole13, whole14]
  simp only [every_sep]
  exact regroup _ _ _ _ _ _ _ _ _ _ _ _ _ _ _ _ _ _ _ _ _ _ _ _ _ _

theorem every_mono {Φ Ψ : grid0.Coords → sProp 𝕄} (h : ∀ L, Φ L ⊢ Ψ L) : every Φ ⊢ every Ψ :=
  bigSep_mono fun _ _ => bigSep_mono fun _ _ => h _

theorem done_arrays : every (tileDone d X) ⊢ arrays d X (exAll X) (sdAll X) := by
  rw [arrays_res]
  exact every_mono (tileDone_res d X)

end Res

/-! ## A tile's task -/

theorem tile_body (hF : (K (F := F)).Facts) (d : Dev nD) (L : grid0.Coords) (X : Cont F tileArgs) (g13 g14 : (⟨S64x4096, .f32⟩ : BufTy).Contents (Elt F))
    (O : CellTallies nD τ sig (HIx 1)) (W : Waits sig (HIx 1)) (hO : ∀ g, O g none = 0) :
    iprop(levAts (K (F := F)).L (K (F := F)).lev ∗ emp ∗ tileRes d X g13 g14 L
        ∗ scopedBufs (V d (cV L) (jV L)) ∗ scopedSems0 (V d (cV L) (jV L)) ∗ owes (V d (cV L) (jV L)) O W)
      ⊢ twp d L (tileArgs.app (cc0__sc_body (F := F) L)) fun _ => iprop(tileDone d X L
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems_eq, ownBufs_eq]
  have hpost : ∀ (R1 R2 : sProp 𝕄), iprop(tilePost d L tileArgs X O W ∗ R1 ∗ R2) ⊢ iprop(tileDone d X L
      ∗ ((bufs (F := F) d L tileArgs ∗ bufsB (F := F) d L tileArgs) ∗ R1) ∗ (sems (F := F) d L tileArgs ∗ R2)
      ∗ ∃ W', ⌜∀ p ∈ W', p ∈ W ∨ p.2 = none⌝ ∗ owes (V d (cV L) (jV L)) O W') := by
    intro R1 R2
    unfold tilePost tileDone
    iintro ⟨⟨HA, HB, H1, H2, H3, H4, H5, H6, H7, H8⟩, HR1, HR2⟩
    isplitl [HA HB H1 H2 H3 H4]
    · isplitl [HA]; · iexact HA
      isplitl [HB]; · iexact HB
      isplitl [H1]; · iexact H1
      isplitl [H2]; · iexact H2
      isplitl [H3]; · iexact H3
      iexact H4
    isplitl [H5 H6 HR1]
    · isplitl [H5 H6]
      · isplitl [H5] <;> iassumption
      · iexact HR1
    isplitl [H7 HR2]
    · isplitl [H7] <;> iassumption
    iexact H8
  refine ent_trans ?_ (wp_mono Idealize.ShloMosaic.frame _ _ fun _ => hpost _ _)
  refine ent_trans ?_ (wp_frame_r _ _ _)
  unfold tileRes
  iintro ⟨#Hlv, -, ⟨HA, HB, H1, H2, H3, H4⟩, ⟨⟨H5, H6⟩, HR1⟩, ⟨H7, HR2⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  isplitl [HA HB H1 H2 H3 H4 H5 H6 H7 HO Hmw]
  · iapply (tile_core d L tileArgs X g13 g14 O W)
    isplitl [HA]; · iexact HA
    isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HO]; · iexact HO
    iexact Hmw
  isplitl [HR1] <;> iassumption

end Cert.Proof.Tile

end
-- ==== Proof.Launch.lean ====
/-
  The launch: what the call takes for each tile and brings back, `@main` on the TensorCore around it, and the program's
  run with its two results.
-/
module

public import proofs.«01_k».proof.Proof.Whole

@[expose] public section

noncomputable section

namespace Cert.Proof.Tile

open Cert.KernelIdeal Cert.KernelIdeal.Gen Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## `@main`'s operations before the call -/

/-- A TensorCore array as the device names it. -/
abbrev dv (b : Ref sig .tc) : DevRef τ sig := Proc.devRef .tc b

abbrev op0 : HloOp τ sig (Elt F) :=
  StableHlo.nary ![main_arg10, main_arg11, main_arg12] main_v0 (fun u => (concatenate S64x6 1 [⟨S64x2, (u 0 : (⟨S64x2, .f32⟩ : BufTy).Contents (Elt F))⟩, ⟨S64x2, (u 1 : (⟨S64x2, .f32⟩ : BufTy).Contents (Elt F))⟩, ⟨S64x2, (u 2 : (⟨S64x2, .f32⟩ : BufTy).Contents (Elt F))⟩] concatenates_S64x2_S64x2_S64x2_S64x6_d1 : (⟨S64x6, .f32⟩ : BufTy).Contents (Elt F)))
abbrev op1 : HloOp τ sig (Elt F) :=
  StableHlo.unary main_v0 main_v1 (broadcastInDim S64x6x16 ![0, 1] bcast_S64x6_S64x6x16_0_1 : (⟨S64x6, .f32⟩ : BufTy).Contents (Elt F) → (⟨S64x6x16, .f32⟩ : BufTy).Contents (Elt F))
abbrev op2 : HloOp τ sig (Elt F) := StableHlo.reshape main_v1 main_v2 (rfl : (.f32 : EltTy) = .f32) shapeCasts_S64x6x16_S64x96

/-- The arrays' contents at the launch, and when the call starts. -/
def V0 (d : Dev nD) : Valuation τ sig (Elt F) := fun b => m (d, b)
def V3 (d : Dev nD) : Valuation τ sig (Elt F) := op2.result (op1.result (op0.result (V0 m d)))

theorem V3_of (d : Dev nD) {b : DevRef τ sig} (h0 : b ∉ ({dv main_v0} : Finset (DevRef τ sig))) (h1 : b ∉ ({dv main_v1} : Finset (DevRef τ sig)))
    (h2 : b ∉ ({dv main_v2} : Finset (DevRef τ sig))) : V3 m d b = m (d, b) :=
  ((op2.result_of_not_mem _ h2).trans (op1.result_of_not_mem _ h1)).trans (op0.result_of_not_mem _ h0)

/-- What the kernel's operands hold when the call starts. -/
def opd (d : Dev nD) : Cont F tileArgs where
  f2 := m ((SparseCore.T d).loc main_arg0)
  f3 := m ((SparseCore.T d).loc main_arg1)
  f4 := m ((SparseCore.T d).loc main_arg2)
  f5 := m ((SparseCore.T d).loc main_arg3)
  f6 := m ((SparseCore.T d).loc main_arg4)
  f7 := m ((SparseCore.T d).loc main_arg5)
  f8 := m ((SparseCore.T d).loc main_arg6)
  f9 := m ((SparseCore.T d).loc main_arg7)
  f10 := m ((SparseCore.T d).loc main_arg8)
  f11 := m ((SparseCore.T d).loc main_arg9)
  f12 := V3 m d (dv main_v2)

/-! ## The call -/

theorem nCore_zero : (K (F := F)).nCore 0 = 2 := rfl
theorem nSub_zero : (K (F := F)).nSub 0 = 16 := rfl

/-- A tile's part of the call, before and after. -/
def goAt (d : Dev nD) (c : Fin 2) (i : Fin 16) : sProp 𝕄 :=
  tileRes d (opd m d) (m ((SparseCore.T d).loc main_v3_0)) (m ((SparseCore.T d).loc main_v3_1)) (coordsV c i)
def tdAt (d : Dev nD) (c : Fin 2) (i : Fin 16) : sProp 𝕄 := tileDone d (opd m d) (coordsV c i)

section Storable

variable (d : Dev nD) (L : grid0.Coords) (a : Args) (X : Cont F a)

instance storable_own {sp : Space} {s : Shape} (r : Memref sig .scVector sp s .f32) (f : r.view.ty.Contents (Elt F)) :
    BI.Storable (upEmb : UEmb _ 𝕄) (own d L r f) := inferInstance
instance storable_ownAt {sp : Space} {s : Shape} (r : Memref sig .scVector sp s .f32) (v : FVec F s .f32) :
    BI.Storable (upEmb : UEmb _ 𝕄) (ownAt d L r v) := by
  unfold ownAt; infer_instance
set_option synthInstance.maxHeartbeats 200000 in
instance storable_insA : BI.Storable (upEmb : UEmb _ 𝕄) (insA d L a X) := by
  unfold insA; infer_instance
set_option synthInstance.maxHeartbeats 200000 in
instance storable_insB : BI.Storable (upEmb : UEmb _ 𝕄) (insB d L a X) := by
  unfold insB; infer_instance
instance storable_res (X : Cont F tileArgs) (g13 g14 : (⟨S64x4096, .f32⟩ : BufTy).Contents (Elt F)) :
    BI.Storable (upEmb : UEmb _ 𝕄) (tileRes d X g13 g14 L) := by
  unfold tileRes; infer_instance
instance storable_done (X : Cont F tileArgs) : BI.Storable (upEmb : UEmb _ 𝕄) (tileDone d X L) := by
  unfold tileDone; infer_instance

end Storable

instance storable_go (d : Dev nD) (c : Fin 2) (i : Fin 16) : BI.Storable (upEmb : UEmb _ 𝕄) (goAt m d c i) :=
  storable_res d _ _ _ _
instance storable_td (d : Dev nD) (c : Fin 2) (i : Fin 16) : BI.Storable (upEmb : UEmb _ 𝕄) (tdAt m d c i) :=
  storable_done d _ _

/-- A SparseCore's part of the call, before and after. -/
def stAt (d : Dev nD) (c : Fin 2) : sProp 𝕄 := bigSep Finset.univ fun i : Fin 16 => goAt m d c i
def dnAt (d : Dev nD) (c : Fin 2) : sProp 𝕄 := bigSep Finset.univ fun i : Fin 16 => tdAt m d c i

instance storable_st (d : Dev nD) (c : Fin 2) : BI.Storable (upEmb : UEmb _ 𝕄) (stAt m d c) := by
  unfold stAt; infer_instance
instance storable_dn (d : Dev nD) (c : Fin 2) : BI.Storable (upEmb : UEmb _ 𝕄) (dnAt m d c) := by
  unfold dnAt; infer_instance

/-- The call hands each SparseCore its tiles' rows, and each tile its own two. -/
def P : (K (F := F)).Pay (nD := nD) (Val := Elt F) (Name := ℕ) (U := UU) where
  st := fun q d c => match q with | 0 => stAt m d (Fin.cast nCore_zero c)
  dn := fun q d c => match q with | 0 => dnAt m d (Fin.cast nCore_zero c)
  go := fun q d c i => match q with | 0 => goAt m d (Fin.cast nCore_zero c) (Fin.cast nSub_zero i)
  td := fun q d c i => match q with | 0 => tdAt m d (Fin.cast nCore_zero c) (Fin.cast nSub_zero i)
  x := fun _ _ => iprop(emp)

instance P_storable : (P (F := F) m).IsStorable where
  st q d c := match q with | 0 => storable_st m d _
  dn q d c := match q with | 0 => storable_dn m d _
  go q d c i := match q with | 0 => storable_go m d _ _
  td q d c i := match q with | 0 => storable_td m d _ _

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem P_st (d : Dev nD) (c : Fin ((K (F := F)).nCore 0)) : (P m).st 0 d c = stAt m d (Fin.cast nCore_zero c) := by
  unfold P; dsimp only
theorem P_dn (d : Dev nD) (c : Fin ((K (F := F)).nCore 0)) : (P m).dn 0 d c = dnAt m d (Fin.cast nCore_zero c) := by
  unfold P; dsimp only
theorem P_go (d : Dev nD) (c : Fin ((K (F := F)).nCore 0)) (i : Fin ((K (F := F)).nSub 0)) :
    (P m).go 0 d c i = goAt m d (Fin.cast nCore_zero c) (Fin.cast nSub_zero i) := by
  unfold P; dsimp only
theorem P_td (d : Dev nD) (c : Fin ((K (F := F)).nCore 0)) (i : Fin ((K (F := F)).nSub 0)) :
    (P m).td 0 d c i = tdAt m d (Fin.cast nCore_zero c) (Fin.cast nSub_zero i) := by
  unfold P; dsimp only

theorem vecSplit : (K (F := F)).VecSplit' (P m) 0 := by
  unfold SparseCore.Cfg.VecSplit'
  intro d c
  simp only [P_st, P_dn, P_go, P_td]
  rw [bigSep_tasks (F := F) (fun i => goAt m d (Fin.cast nCore_zero c) i), bigSep_tasks (F := F) (fun i => tdAt m d (Fin.cast nCore_zero c) i)]
  unfold stAt dnAt
  iintro H; imodintro
  isplitl [H]; · iexact H
  iintro H
  iexact H

theorem defs₀_vector (c : Fin τ.nSC) (s : Fin τ.nSub) :
    defs₀ (F := F) (.scVector c s) 0 ()
      = SparseCore.onTile hcore0 hsub0 (fun c s => tileArgs.app (cc0__sc_body (F := F) (coordsV c s))) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF d (coordsV ⟨_, hci.1⟩ ⟨_, hci.2⟩) (opd m d) _ _ O W hO).trans (wp_mono frame _ _ fun _ => obl_post)

/-! ## The launch element: the handshakes' rounds; nothing of the kernel's own -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

/-- The TensorCore's arrays, all unscoped. -/
abbrev tcArrs : Finset (DevRef τ sig) :=
  {dv main_arg0, dv main_arg1, dv main_arg2, dv main_arg3, dv main_arg4, dv main_arg5, dv main_arg6, dv main_arg7, dv main_arg8, dv main_arg9, dv main_arg10, dv main_arg11, dv main_arg12, dv main_v0, dv main_v1, dv main_v2, dv main_v3_0, dv main_v3_1}

omit [FloatOps F] [Named F] in
theorem unscoped_held (d : Dev nD) : (unscopedBufs d (fun b => m ((SparseCore.T d).loc b)) : sProp 𝕄) = held (SparseCore.T d) tcArrs (V0 m d) := by
  unfold unscopedBufs held
  rw [show tcArrs = (Finset.univ.filter fun b : Ref sig .tc => ¬ b.isScoped).image (fun b : Ref sig .tc => (dv b : DevRef τ sig)) by decide +kernel]
  have inj : Function.Injective fun b : Ref sig .tc => (dv b : DevRef τ sig) := fun _ _ h => Proc.devRef_injective _ h
  have h := bigSep_image_of_injOn (s := Finset.univ.filter fun b : Ref sig .tc => ¬ b.isScoped) inj.injOn
    (fun b => (((d, b) : Loc nD τ sig) ↦{fullShare} V0 m d b : sProp 𝕄))
  exact h.symm

omit [FloatOps F] [Named F] in
theorem held_tcArrs (d : Dev nD) (W : Valuation τ sig (Elt F)) :
    (held (SparseCore.T d) tcArrs W : sProp 𝕄) = iprop(((SparseCore.T d).loc main_arg0 ↦{fullShare} W (dv main_arg0))
      ∗ ((SparseCore.T d).loc main_arg1 ↦{fullShare} W (dv main_arg1))
      ∗ ((SparseCore.T d).loc main_arg2 ↦{fullShare} W (dv main_arg2))
      ∗ ((SparseCore.T d).loc main_arg3 ↦{fullShare} W (dv main_arg3))
      ∗ ((SparseCore.T d).loc main_arg4 ↦{fullShare} W (dv main_arg4))
      ∗ ((SparseCore.T d).loc main_arg5 ↦{fullShare} W (dv main_arg5))
      ∗ ((SparseCore.T d).loc main_arg6 ↦{fullShare} W (dv main_arg6))
      ∗ ((SparseCore.T d).loc main_arg7 ↦{fullShare} W (dv main_arg7))
      ∗ ((SparseCore.T d).loc main_arg8 ↦{fullShare} W (dv main_arg8))
      ∗ ((SparseCore.T d).loc main_arg9 ↦{fullShare} W (dv main_arg9))
      ∗ ((SparseCore.T d).loc main_arg10 ↦{fullShare} W (dv main_arg10))
      ∗ ((SparseCore.T d).loc main_arg11 ↦{fullShare} W (dv main_arg11))
      ∗ ((SparseCore.T d).loc main_arg12 ↦{fullShare} W (dv main_arg12))
      ∗ ((SparseCore.T d).loc main_v0 ↦{fullShare} W (dv main_v0))
      ∗ ((SparseCore.T d).loc main_v1 ↦{fullShare} W (dv main_v1))
      ∗ ((SparseCore.T d).loc main_v2 ↦{fullShare} W (dv main_v2))
      ∗ ((SparseCore.T d).loc main_v3_0 ↦{fullShare} W (dv main_v3_0))
      ∗ ((SparseCore.T d).loc main_v3_1 ↦{fullShare} W (dv main_v3_1))) := by
  unfold held tcArrs
  rw [SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), SparseCore.bigSep_insert' (by decide +kernel), bigSep_singleton]

/-- When the call starts. -/
theorem held_V3 (d : Dev nD) :
    (held (SparseCore.T d) tcArrs (V3 m d) : sProp 𝕄) = iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_arg3 ↦{fullShare} m ((SparseCore.T d).loc main_arg3))
      ∗ ((SparseCore.T d).loc main_arg4 ↦{fullShare} m ((SparseCore.T d).loc main_arg4))
      ∗ ((SparseCore.T d).loc main_arg5 ↦{fullShare} m ((SparseCore.T d).loc main_arg5))
      ∗ ((SparseCore.T d).loc main_arg6 ↦{fullShare} m ((SparseCore.T d).loc main_arg6))
      ∗ ((SparseCore.T d).loc main_arg7 ↦{fullShare} m ((SparseCore.T d).loc main_arg7))
      ∗ ((SparseCore.T d).loc main_arg8 ↦{fullShare} m ((SparseCore.T d).loc main_arg8))
      ∗ ((SparseCore.T d).loc main_arg9 ↦{fullShare} m ((SparseCore.T d).loc main_arg9))
      ∗ ((SparseCore.T d).loc main_arg10 ↦{fullShare} m ((SparseCore.T d).loc main_arg10))
      ∗ ((SparseCore.T d).loc main_arg11 ↦{fullShare} m ((SparseCore.T d).loc main_arg11))
      ∗ ((SparseCore.T d).loc main_arg12 ↦{fullShare} m ((SparseCore.T d).loc main_arg12))
      ∗ ((SparseCore.T d).loc main_v0 ↦{fullShare} V3 m d (dv main_v0))
      ∗ ((SparseCore.T d).loc main_v1 ↦{fullShare} V3 m d (dv main_v1))
      ∗ ((SparseCore.T d).loc main_v2 ↦{fullShare} V3 m d (dv main_v2))
      ∗ ((SparseCore.T d).loc main_v3_0 ↦{fullShare} m ((SparseCore.T d).loc main_v3_0))
      ∗ ((SparseCore.T d).loc main_v3_1 ↦{fullShare} m ((SparseCore.T d).loc main_v3_1))) := by
  rw [held_tcArrs]
  rw [V3_of m d (b := dv main_arg0) (by decide) (by decide) (by decide)]
  rw [V3_of m d (b := dv main_arg1) (by decide) (by decide) (by decide)]
  rw [V3_of m d (b := dv main_arg2) (by decide) (by decide) (by decide)]
  rw [V3_of m d (b := dv main_arg3) (by decide) (by decide) (by decide)]
  rw [V3_of m d (b := dv main_arg4) (by decide) (by decide) (by decide)]
  rw [V3_of m d (b := dv main_arg5) (by decide) (by decide) (by decide)]
  rw [V3_of m d (b := dv main_arg6) (by decide) (by decide) (by decide)]
  rw [V3_of m d (b := dv main_arg7) (by decide) (by decide) (by decide)]
  rw [V3_of m d (b := dv main_arg8) (by decide) (by decide) (by decide)]
  rw [V3_of m d (b := dv main_arg9) (by decide) (by decide) (by decide)]
  rw [V3_of m d (b := dv main_arg10) (by decide) (by decide) (by decide)]
  rw [V3_of m d (b := dv main_arg11) (by decide) (by decide) (by decide)]
  rw [V3_of m d (b := dv main_arg12) (by decide) (by decide) (by decide)]
  rw [V3_of m d (b := dv main_v3_0) (by decide) (by decide) (by decide)]
  rw [V3_of m d (b := dv main_v3_1) (by decide) (by decide) (by decide)]

theorem st0_eq (d : Dev nD) : (bigSep Finset.univ fun c : Fin ((K (F := F)).nCore 0) => (P m).st 0 d c)
    = arrays d (opd m d) (m ((SparseCore.T d).loc main_v3_0)) (m ((SparseCore.T d).loc main_v3_1)) := by
  simp only [P_st]
  rw [arrays_res, bigSep_cores (F := F) fun c => stAt m d c]
  unfold every stAt goAt
  with_reducible rfl
theorem dn0_le (d : Dev nD) : (bigSep Finset.univ fun c : Fin ((K (F := F)).nCore 0) => (P m).dn 0 d c)
    ⊢ arrays d (opd m d) (exAll (opd m d)) (sdAll (opd m d)) := by
  have h := done_arrays d (opd m d)
  simp only [P_dn]
  rw [bigSep_cores (F := F) fun c => dnAt m d c]
  unfold dnAt tdAt
  unfold every at h
  exact h

/-- What `@main` leaves: the arguments as launched, and the two results. -/
def FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_arg3 ↦{fullShare} m ((SparseCore.T d).loc main_arg3))
    ∗ ((SparseCore.T d).loc main_arg4 ↦{fullShare} m ((SparseCore.T d).loc main_arg4))
    ∗ ((SparseCore.T d).loc main_arg5 ↦{fullShare} m ((SparseCore.T d).loc main_arg5))
    ∗ ((SparseCore.T d).loc main_arg6 ↦{fullShare} m ((SparseCore.T d).loc main_arg6))
    ∗ ((SparseCore.T d).loc main_arg7 ↦{fullShare} m ((SparseCore.T d).loc main_arg7))
    ∗ ((SparseCore.T d).loc main_arg8 ↦{fullShare} m ((SparseCore.T d).loc main_arg8))
    ∗ ((SparseCore.T d).loc main_arg9 ↦{fullShare} m ((SparseCore.T d).loc main_arg9))
    ∗ ((SparseCore.T d).loc main_arg10 ↦{fullShare} m ((SparseCore.T d).loc main_arg10))
    ∗ ((SparseCore.T d).loc main_arg11 ↦{fullShare} m ((SparseCore.T d).loc main_arg11))
    ∗ ((SparseCore.T d).loc main_arg12 ↦{fullShare} m ((SparseCore.T d).loc main_arg12))
    ∗ ((SparseCore.T d).loc main_v3_0 ↦{fullShare} exAll (opd m d))
    ∗ ((SparseCore.T d).loc main_v3_1 ↦{fullShare} sdAll (opd m d)))

theorem sub0 : (op0 (F := F)).bufs ⊆ tcArrs :=
  show (insert (dv main_v0) (Finset.univ.image fun i : Fin 3 => dv (![main_arg10, main_arg11, main_arg12] i))) ⊆ tcArrs by decide +kernel
theorem sub1 : (op1 (F := F)).bufs ⊆ tcArrs := show ({dv main_v0, dv main_v1} : Finset (DevRef τ sig)) ⊆ tcArrs by decide +kernel
theorem sub2 : (op2 (F := F)).bufs ⊆ tcArrs := show ({dv main_v1, dv main_v2} : Finset (DevRef τ sig)) ⊆ tcArrs by decide +kernel

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := tcArrs) sub0 (V := V0 m d)) $$ [Hb Hheld]
  · isplitl [Hb] <;> iassumption
  iintro ⟨Hb, Hheld⟩
  rw [wp_ret]; imodintro
  iapply (wp_hlo_within 𝒱 (SparseCore.T d) none Set.univ (op := op1) (S := tcArrs) sub1 (V := op0.result (V0 m d))) $$ [Hb Hheld]
  · isplitl [Hb] <;> iassumption
  iintro ⟨Hb, Hheld⟩
  rw [wp_ret]; imodintro
  iapply (wp_hlo_within 𝒱 (SparseCore.T d) none Set.univ (op := op2) (S := tcArrs) sub2 (V := op1.result (op0.result (V0 m d)))) $$ [Hb Hheld]
  · isplitl [Hb] <;> iassumption
  iintro ⟨Hb, Hheld⟩
  rw [wp_ret]; imodintro
  ihave Hh := (Entails.of_eq (show (held (SparseCore.T d) tcArrs (op2.result (op1.result (op0.result (V0 m d)))) : sProp 𝕄) = _ from held_V3 (F := F) m d)) $$ Hheld
  icases Hh with ⟨H0, H1, H2, H3, H4, H5, H6, H7, H8, H9, H10, H11, H12, -, -, H15, H16, H17⟩
  iapply ((K (F := F)).wp_run (D (F := F)) 𝒱 (EH := EH) (P := P m) κ d 0) $$ [Hst H0 H1 H2 H3 H4 H5 H6 H7 H8 H9 H10 H11 H12 H15 H16 H17 Hb Hts]
  isplitr; · iexact Hctx
  isplitl [Hst]; · iexact Hst
  isplitl [H0 H1 H2 H3 H4 H5 H6 H7 H8 H9 H15 H16 H17]
  · rw [st0_eq]
    unfold arrays
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    iexact H17
  iintro ⟨Hst, Hdn⟩
  ihave Hdn' := (dn0_le m d) $$ Hdn
  unfold arrays
  icases Hdn' with ⟨H0, H1, H2, H3, H4, H5, H6, H7, H8, H9, -, H16, H17⟩
  imodintro
  isplitl [Hst]; · iexact Hst
  isplitr [Hb Hts]
  · unfold FIN
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H16]; · iexact H16
    iexact H17
  isplitl [Hb] <;> iassumption

omit [FloatOps F] [Named F] in
/-- A whole array held is what the memory has there; and so on with the rest. -/
theorem agree_cons {s' : Phys nD τ sig (Elt F)} {ℓ : Loc nD τ sig} {f : Buf (Elt F) ℓ} {R : sProp 𝕄} {q : Prop}
    (h : iprop(R ∗ SI s') ⊢ (⌜q⌝ : sProp 𝕄)) : iprop(((ℓ ↦{fullShare} f) ∗ R) ∗ SI s') ⊢ (⌜s'.mem.mem ℓ = f ∧ q⌝ : sProp 𝕄) := by
  iintro ⟨⟨Hi, HR⟩, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  ihave H := h $$ [HR HSI]
  · isplitl [HR] <;> iassumption
  icases H with %h2
  ipureintro; exact ⟨funext fun i => h1 i (Finset.mem_univ i), h2⟩

omit [FloatOps F] [Named F] in
theorem agree_one {s' : Phys nD τ sig (Elt F)} {ℓ : Loc nD τ sig} {f : Buf (Elt F) ℓ} :
    iprop((ℓ ↦{fullShare} f) ∗ SI s') ⊢ (⌜s'.mem.mem ℓ = f⌝ : sProp 𝕄) := by
  iintro ⟨Hi, HSI⟩
  ihave H := (SI_pointsTo_agree (st := s') (ℓ := ℓ) (I := Finset.univ) (q := fullShare) (f := f)) $$ [HSI Hi]
  · isplitl [HSI] <;> iassumption
  icases H with %h1
  ipureintro; exact funext fun i => h1 i (Finset.mem_univ i)

/-- What the run leaves in a memory. -/
def left (d : Dev nD) (w : (ℓ : Loc nD τ sig) → Buf (Elt F) ℓ) : Prop :=
  w ((SparseCore.T d).loc main_arg0) = m ((SparseCore.T d).loc main_arg0)
  ∧ w ((SparseCore.T d).loc main_arg1) = m ((SparseCore.T d).loc main_arg1)
  ∧ w ((SparseCore.T d).loc main_arg2) = m ((SparseCore.T d).loc main_arg2)
  ∧ w ((SparseCore.T d).loc main_arg3) = m ((SparseCore.T d).loc main_arg3)
  ∧ w ((SparseCore.T d).loc main_arg4) = m ((SparseCore.T d).loc main_arg4)
  ∧ w ((SparseCore.T d).loc main_arg5) = m ((SparseCore.T d).loc main_arg5)
  ∧ w ((SparseCore.T d).loc main_arg6) = m ((SparseCore.T d).loc main_arg6)
  ∧ w ((SparseCore.T d).loc main_arg7) = m ((SparseCore.T d).loc main_arg7)
  ∧ w ((SparseCore.T d).loc main_arg8) = m ((SparseCore.T d).loc main_arg8)
  ∧ w ((SparseCore.T d).loc main_arg9) = m ((SparseCore.T d).loc main_arg9)
  ∧ w ((SparseCore.T d).loc main_arg10) = m ((SparseCore.T d).loc main_arg10)
  ∧ w ((SparseCore.T d).loc main_arg11) = m ((SparseCore.T d).loc main_arg11)
  ∧ w ((SparseCore.T d).loc main_arg12) = m ((SparseCore.T d).loc main_arg12)
  ∧ w ((SparseCore.T d).loc main_v3_0) = exAll (opd m d)
  ∧ w ((SparseCore.T d).loc main_v3_1) = sdAll (opd m d)

theorem hfin (d : Dev nD) (s' : Phys nD τ sig (Elt F)) : iprop(FIN m d ∗ SI s') ⊢ (⌜left m d s'.mem.mem⌝ : sProp 𝕄) := by
  unfold FIN left
  exact agree_cons (agree_cons (agree_cons (agree_cons (agree_cons (agree_cons (agree_cons (agree_cons (agree_cons (agree_cons (agree_cons (agree_cons (agree_cons (agree_cons (agree_one))))))))))))))

/-! ## The program's run -/

theorem run_main [∀ e, Nonempty (Elt F e)] :
    θ_run (defs (F := F)) (threads (F := F)) ⟨m, fun _ => 0, ρ⟩ (fun r => (∀ c : Dev nD, left m c r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s' => left m d s'.mem.mem) (hfin m)
    (fun r => (∀ c : Dev nD, left m c r.2.mem) ∧ r.2.sem = fun _ => 0) (fun _ h hz => ⟨h, hz⟩)

end Cert.Proof.Tile

end
-- ==== Proof.Frames.lean ====
/-
  The frames of the kernel and of its ideal counterpart. The two programs are one text but for two constants, which the
  counterpart names; read with each name standing for the constant's own bits, the counterpart is the kernel.
-/
module

public import proofs.«01_k».proof.Proof.Launch
public import proofs.«01_k».proof.Proof.Gen.Kernel
public import proofs.«01_k».proof.Proof.Gen.Kernel.Skeleton

@[expose] public section

noncomputable section

namespace Cert.Proof.Frames

open Idealize.ShloMosaic Idealize.SL.Sem

/-- The ideal counterpart's run, at its ideal reading. -/
theorem frame_KernelIdeal : Cert.quiescent_KernelIdeal := fun m ρ _ =>
  (θ_run Cert.KernelIdeal.defs _ _).mono (fun _ h => ⟨fun c => by
    obtain ⟨h0, h1, h2, h3, h4, h5, h6, h7, h8, h9, h10, h11, h12, -, -⟩ := h.1 c
    exact ⟨h0, h1, h2, h3, h4, h5, h6, h7, h8, h9, h10, h11, h12⟩, h.2⟩) (Cert.Proof.Tile.run_main (F := Ideal) m ρ)

/-- A named constant read as the bits it was written with. -/
@[reducible] def namedBits : Named Bits where
  named _ _ {φ} b := (FloatOps.ofBits (F := Bits) φ b : Bits φ)

attribute [local instance] namedBits

set_option maxRecDepth 100000 in
set_option maxHeartbeats 4000000 in
theorem run_Kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩
      (fun r => (∀ c : Dev Cert.KernelIdeal.nD, Cert.Proof.Tile.left (F := Bits) m c r.2.mem) ∧ r.2.sem = fun _ => 0) :=
  Cert.Proof.Tile.run_main (F := Bits) m ρ

theorem frame_Kernel : Cert.quiescent_Kernel := fun m ρ _ =>
  (θ_run Cert.Kernel.defs _ _).mono (fun _ h => ⟨fun c => by
    obtain ⟨h0, h1, h2, h3, h4, h5, h6, h7, h8, h9, h10, h11, h12, -, -⟩ := h.1 c
    exact ⟨h0, h1, h2, h3, h4, h5, h6, h7, h8, h9, h10, h11, h12⟩, h.2⟩) (run_Kernel m ρ)

/-- The kernel and its idealised form differ in the two named constants only: 1/340 and 1/5. -/
theorem preserves : Cert.preserves_Kernel_KernelIdeal :=
  ⟨IdealRules.named_const.statement Cert.KernelIdeal.κ "inv_340" .f32 0x3B40C0C1#32 ((340⁻¹ : ℝ) : EReal) rfl,
    IdealRules.named_const.statement Cert.KernelIdeal.κ "inv_5" .f32 0x3E4CCCCD#32 ((5⁻¹ : ℝ) : EReal) rfl⟩

end Cert.Proof.Frames

end
-- ==== Proof.RefFrame.lean ====
/-
  The reference's run: its loop as twenty steps of one state, the results it ends at, and its frame.
-/
module

public import proofs.«01_k».proof.Defs
public import proofs.«01_k».proof.Proof.Gen.ReferenceIdeal.StepRun
public import Idealize.ShloMosaic.Lib.Quiescent

@[expose] public section

noncomputable section

namespace Cert.Proof.RefFrame

open Idealize.ShloMosaic Idealize.SL.Sem Cert.ReferenceIdeal Cert.ReferenceIdeal.Step

variable {F : FTy → Type} [FloatOps F]

/-- The states of the loop: the first, and each the step of the one before. -/
def state (s : State F) : ℕ → State F
  | 0 => s
  | n + 1 => step n (state s n)

/-- The reference ends with its arguments as they were; it has no semaphore. -/
theorem frame_ReferenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩) (Cert.ReferenceIdeal.StepRun.run_iter (F := Ideal) m ρ
      (fun c => state (Cert.ReferenceIdeal.StepRun.initState m c)) (fun _ => rfl) (fun _ _ => rfl))

end Cert.Proof.RefFrame

end
-- ==== Proof.Exact.lean ====
/-
  Elements that are real numbers: what the float operations make of them in the extended reals, and the float words used.
-/
module

public import proofs.«01_k».proof.Proof.Spec
public import Idealize.ShloMosaic.Lib.IdealHost
public import Idealize.ShloMosaic.Lib.Pipeline.Value
public import Idealize.ShloMosaic.Lib.Pointwise.Reduce

@[expose] public section

noncomputable section

namespace Cert.Proof.Exact

open Idealize.ShloMosaic

variable {s t u : Shape}

/-- Element `i` of `v` is the real number `x`. -/
def At (v : FVec Ideal s .f32) (i : s.Idx) (x : ℝ) : Prop := v i = (x : EReal)

/-- The real number that is the inverse of `y`, zero for an infinite `y`. -/
def inv (y : EReal) : ℝ := (y⁻¹).toReal

theorem coe_inv {y : EReal} (h : y ≠ 0) : ((inv y : ℝ) : EReal) = y⁻¹ := by
  unfold inv
  induction y with
  | bot => simp
  | top => simp
  | coe r =>
    rw [← EReal.coe_inv]
    simp

theorem div_coe (x : ℝ) {y : EReal} (h : y ≠ 0) : Ideal.div (x : EReal) y = ((x * inv y : ℝ) : EReal) := by
  unfold Ideal.div
  rw [if_neg h, EReal.coe_mul, coe_inv h]

theorem inv_coe (y : ℝ) : inv (y : EReal) = y⁻¹ := by
  unfold inv
  rw [← EReal.coe_inv]
  exact EReal.toReal_coe _

section Ops

variable {v w : FVec Ideal s .f32} {i : s.Idx} {x y : ℝ}

theorem At.add (hv : At v i x) (hw : At w i y) : At (addf v w) i (x + y) := by
  unfold At at *
  show v i + w i = _
  rw [hv, hw, EReal.coe_add]
theorem At.sub (hv : At v i x) (hw : At w i y) : At (subf v w) i (x - y) := by
  unfold At at *
  show v i - w i = _
  rw [hv, hw, EReal.coe_sub]
theorem At.mul (hv : At v i x) (hw : At w i y) : At (mulf v w) i (x * y) := by
  unfold At at *
  show v i * w i = _
  rw [hv, hw, EReal.coe_mul]
theorem At.neg (hv : At v i x) : At (Host.negf v) i (-x) := by
  unfold At at *
  show -(v i) = _
  rw [hv, EReal.coe_neg]
/-- A quotient by an element that is not zero, in a kernel and on the host. -/
theorem At.divE (hv : At v i x) (hw : w i ≠ (0 : EReal)) : At (divf v w) i (x * inv (w i)) := by
  unfold At at *
  show Ideal.div (v i) (w i) = _
  rw [hv, div_coe x hw]
theorem At.hdivE (hv : At v i x) (hw : w i ≠ (0 : EReal)) : At (Host.divf v w) i (x * inv (w i)) := by
  unfold At at *
  show Ideal.div (v i) (w i) = _
  rw [hv, div_coe x hw]
theorem At.hdiv (hv : At v i x) (hw : At w i y) (hy : y ≠ 0) : At (Host.divf v w) i (x / y) := by
  have h0 : w i ≠ (0 : EReal) := by rw [hw]; exact_mod_cast hy
  have := hv.hdivE h0
  rw [show w i = (y : EReal) from hw, inv_coe] at this
  rwa [div_eq_mul_inv]
theorem At.of_eq (hv : At v i x) (h : x = y) : At v i y := h ▸ hv

/-- An element read from another array's. -/
theorem At.read {v : FVec Ideal s .f32} {w : FVec Ideal t .f32} {i : s.Idx} {k : t.Idx} {x : ℝ} (hw : At w k x) (h : v i = w k) : At v i x :=
  h.trans hw

theorem At.bcast {w : FVec Ideal s .f32} {k : s.Idx} {x : ℝ} (hw : At w k x) (dims : Fin s.rank → Fin t.rank) (h : s.BroadcastsInDim t dims)
    (j : t.Idx) (hk : ∀ a : Fin s.rank, (k a).val = if s.size a = 1 then 0 else (j (dims a)).val) : At (broadcastInDim t dims h w) j x :=
  hw.read (broadcastInDim_apply dims h w j k hk)

theorem At.cast {w : FVec Ideal s .f32} {k : s.Idx} {x : ℝ} (hw : At w k x) (h : s.ShapeCasts t) (j : t.Idx)
    (hk : (s.rowMajor k).val = (t.rowMajor j).val) : At (shapeCast t w h) j x :=
  hw.read (shapeCast_apply w h j k hk)

end Ops

/-! ### The float words -/

/-- The step length, 0.05 as a float. -/
def lr : ℝ := 13421773 / 2 ^ 28

theorem w0 : Ideal.ofBits .f32 0x00000000#32 = ((0 : ℝ) : EReal) := by simp
theorem w1 : Ideal.ofBits .f32 0x3F800000#32 = ((1 : ℝ) : EReal) := by simp
theorem whalf : Ideal.ofBits .f32 0x3F000000#32 = ((1 / 2 : ℝ) : EReal) := by
  simp [Ideal.ofBits, Ideal.ieee, -EReal.coe_mul]; norm_num
theorem wmhalf : Ideal.ofBits .f32 0xBF000000#32 = ((-(1 / 2) : ℝ) : EReal) := by
  simp [Ideal.ofBits, Ideal.ieee, -EReal.coe_mul]; norm_num
theorem w3half : Ideal.ofBits .f32 0x3FC00000#32 = ((3 / 2 : ℝ) : EReal) := by
  simp [Ideal.ofBits, Ideal.ieee, -EReal.coe_mul]; norm_num
theorem wm3half : Ideal.ofBits .f32 0xBFC00000#32 = ((-(3 / 2) : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num
theorem wm2 : Ideal.ofBits .f32 0xC0000000#32 = ((-2 : ℝ) : EReal) := by
  simp [Ideal.ofBits, Ideal.ieee, -EReal.coe_mul]; norm_num
theorem w6 : Ideal.ofBits .f32 0x40C00000#32 = ((6 : ℝ) : EReal) := by
  simp [Ideal.ofBits, Ideal.ieee, -EReal.coe_mul]; norm_num
theorem wm6 : Ideal.ofBits .f32 0xC0C00000#32 = ((-6 : ℝ) : EReal) := by
  simp [Ideal.ofBits, Ideal.ieee, -EReal.coe_mul]; norm_num
theorem w4 : Ideal.ofBits .f32 0x40800000#32 = ((4 : ℝ) : EReal) := by
  simp [Ideal.ofBits, Ideal.ieee, -EReal.coe_mul]; norm_num
theorem w16 : Ideal.ofBits .f32 0x41800000#32 = ((16 : ℝ) : EReal) := by
  simp [Ideal.ofBits, Ideal.ieee, -EReal.coe_mul]; norm_num
theorem w4th : Ideal.ofBits .f32 0x3E800000#32 = ((1 / 4 : ℝ) : EReal) := by
  simp [Ideal.ofBits, Ideal.ieee, -EReal.coe_mul]; norm_num
theorem w16th : Ideal.ofBits .f32 0x3D800000#32 = ((1 / 16 : ℝ) : EReal) := by
  simp [Ideal.ofBits, Ideal.ieee, -EReal.coe_mul]; norm_num
theorem wlr : Ideal.ofBits .f32 0x3D4CCCCD#32 = ((lr : ℝ) : EReal) := by
  simp [Ideal.ofBits, Ideal.ieee, -EReal.coe_mul, lr]; norm_num
theorem wmlr : Ideal.ofBits .f32 0xBD4CCCCD#32 = ((-lr : ℝ) : EReal) := by
  simp [Ideal.ofBits, Ideal.ieee, -EReal.coe_mul, lr]; norm_num
theorem wtop : Ideal.ofBits .f32 0x7F800000#32 = (⊤ : EReal) := by
  simp [Ideal.ofBits, Ideal.ieee]

theorem At.const {b : BitVec 32} {x : ℝ} (h : Ideal.ofBits .f32 b = (x : EReal)) (i : s.Idx) : At (constant (F := Ideal) s .f32 b) i x := h
theorem At.kf {b : BitVec 32} {x : ℝ} (h : Ideal.ofBits .f32 b = (x : EReal)) (i : Cert.KernelIdeal.S16.Idx) : At (Spec.kf (F := Ideal) b) i x := h

/-! ### Deviations and scales -/

/-- `|x| + 1/2`, at least a half. -/
def devE (x : EReal) : EReal := max x (-x) + ((1 / 2 : ℝ) : EReal)

theorem devE_pos (x : EReal) : 0 < devE x := by
  have h : (0 : EReal) ≤ max x (-x) := by
    rcases le_total 0 x with h | h
    · exact le_max_of_le_left h
    · exact le_max_of_le_right (by rwa [EReal.neg_nonneg])
  have h2 : (0 : EReal) < ((1 / 2 : ℝ) : EReal) := by exact_mod_cast (by norm_num : (0 : ℝ) < 1 / 2)
  exact lt_of_lt_of_le h2 (by simpa [devE] using add_le_add_left h ((1 / 2 : ℝ) : EReal))

theorem dev2_ne (x : EReal) : devE x * devE x ≠ 0 := (EReal.mul_pos (devE_pos x) (devE_pos x)).ne'
theorem two_dev2_ne (x : EReal) : ((2 : ℝ) : EReal) * (devE x * devE x) ≠ 0 :=
  (EReal.mul_pos (by exact_mod_cast (by norm_num : (0 : ℝ) < 2)) (EReal.mul_pos (devE_pos x) (devE_pos x))).ne'

/-- The inverse square of `|x| + 1/2`. -/
def ivE (x : EReal) : ℝ := inv (devE x * devE x)

theorem inv_two_dev2 (x : EReal) : inv (((2 : ℝ) : EReal) * (devE x * devE x)) = 1 / 2 * ivE x := by
  have key : ∀ y : EReal, 0 < y → inv (((2 : ℝ) : EReal) * y) = 1 / 2 * inv y := by
    intro y hy
    induction y with
    | bot => exact absurd hy (by simp)
    | top => rw [EReal.coe_mul_top_of_pos (by norm_num)]; simp [inv]
    | coe r => rw [← EReal.coe_mul, inv_coe, inv_coe, mul_inv]; norm_num
  exact key _ (EReal.mul_pos (devE_pos x) (devE_pos x))

end Cert.Proof.Exact

end
-- ==== Proof.Segment.lean ====
/-
  One sixteen-column segment over the real numbers: the reference's gradient step on it, the kernel's step on the
  displacements from the means, and that they are the same step.
-/
module

public import proofs.«01_k».proof.Proof.Exact

@[expose] public section

noncomputable section

namespace Cert.Proof.Exact

open Cert.Proof.Spec (sg gOf qOf)

/-- The numbers a segment's step depends on: the means and the inverse squared deviations of its columns, of its four
    four-column segments' slopes and means and of its own, the norms' offsets, the first norm's scale and the inverses
    of the two other scales. -/
structure Seg where
  m1 : Fin 16 → ℝ
  i1 : Fin 16 → ℝ
  m4s : Fin 4 → ℝ
  i4s : Fin 4 → ℝ
  m4m : Fin 4 → ℝ
  i4m : Fin 4 → ℝ
  m16s : ℝ
  i16s : ℝ
  m16m : ℝ
  i16m : ℝ
  n0 : ℝ
  h : ℝ
  n4 : ℝ
  r4 : ℝ
  n16 : ℝ
  r16 : ℝ

/-! ### The reference's step -/

/-- A column off the first norm. -/
def un (S : Seg) (e : Fin 16 → ℝ) (j : Fin 16) : ℝ := e j * S.h + S.n0

/-- The centred abscissae of four and of sixteen columns. -/
def x4 (q : Fin 4) : ℝ := q.val - 3 / 2
def x16 (j : Fin 16) : ℝ := j.val - 15 / 2

/-- The means and the fitted slopes. -/
def mean4 (u : Fin 16 → ℝ) (g : Fin 4) : ℝ := (∑ q, u (sg g q)) / 4
def slope4 (u : Fin 16 → ℝ) (g : Fin 4) : ℝ := (∑ q, x4 q * (u (sg g q) - mean4 u g)) / 5
def mean16 (u : Fin 16 → ℝ) : ℝ := (∑ j, u j) / 16
def slope16 (u : Fin 16 → ℝ) : ℝ := (∑ j, x16 j * (u j - mean16 u)) / 340

/-- The derivative in `v` of half the squared distance of the normed `v` from `μ`, in deviations. -/
def pull (i v n r μ : ℝ) : ℝ := i * ((v - n) * r - μ) * r

/-- The gradient at a column, and the step. -/
def grad (S : Seg) (e : Fin 16 → ℝ) (j : Fin 16) : ℝ :=
  (pull S.i16m (mean16 (un S e)) S.n16 S.r16 S.m16m / 16 + x16 j * (pull S.i16s (slope16 (un S e)) S.n16 S.r16 S.m16s / 340)
    + pull (S.i4m (gOf j)) (mean4 (un S e) (gOf j)) S.n4 S.r4 (S.m4m (gOf j)) / 4
    + x4 (qOf j) * (pull (S.i4s (gOf j)) (slope4 (un S e) (gOf j)) S.n4 S.r4 (S.m4s (gOf j)) / 5)) * S.h
    + S.i1 j * (e j - S.m1 j)
def stepE (S : Seg) (e : Fin 16 → ℝ) (j : Fin 16) : ℝ := e j - lr * grad S e j

/-! ### The kernel's step -/

def sum4 (z : Fin 16 → ℝ) (g : Fin 4) : ℝ := z (sg g 0) + z (sg g 1) + z (sg g 2) + z (sg g 3)
def slo4 (z : Fin 16 → ℝ) (g : Fin 4) : ℝ := 3 / 2 * (z (sg g 3) - z (sg g 0)) + 1 / 2 * (z (sg g 2) - z (sg g 1))
def sum16 (z : Fin 16 → ℝ) : ℝ := sum4 z 0 + sum4 z 1 + (sum4 z 2 + sum4 z 3)
def slo16 (z : Fin 16 → ℝ) : ℝ :=
  slo4 z 0 + slo4 z 1 + (slo4 z 2 + slo4 z 3) + (-6 * sum4 z 0 - 2 * sum4 z 1 + 2 * sum4 z 2 + 6 * sum4 z 3)

def v6 (g : Fin 4) : ℝ := 4 * g.val - 6

structure CoefR where
  d : Fin 16 → ℝ
  p16m : ℝ
  p16s : ℝ
  p4m : Fin 4 → ℝ
  p4s : Fin 4 → ℝ
  qb : Fin 4 → ℝ
  qs : Fin 4 → ℝ

def stepR (C : CoefR) (z : Fin 16 → ℝ) (j : Fin 16) : ℝ :=
  z j * C.d j + (sum4 z (gOf j) * C.p4m (gOf j) + C.qb (gOf j) + sum16 z * C.p16m + v6 (gOf j) * (slo16 z * C.p16s)
    + x4 (qOf j) * (slo4 z (gOf j) * C.p4s (gOf j) + C.qs (gOf j) + slo16 z * C.p16s))

def slopeR (la a i : ℝ) : ℝ := la * a * i
def offR (la a c t m i : ℝ) : ℝ := la * ((t * a + c) * i - m * i)

/-- A level's scale over its length or its squared abscissae, and its offset for the mean and for the slope. -/
def a16 (S : Seg) : ℝ := S.h * (1 * S.r16) * (1 / 16)
def d16 (S : Seg) : ℝ := S.h * (1 * S.r16) * 340⁻¹
def a4 (S : Seg) : ℝ := S.h * (1 * S.r4) * (1 / 4)
def d4 (S : Seg) : ℝ := S.h * (1 * S.r4) * 5⁻¹
def c16 (S : Seg) : ℝ := (S.n0 - S.n16) * (1 * S.r16)
def c4 (S : Seg) : ℝ := (S.n0 - S.n4) * (1 * S.r4)
def e16 (S : Seg) : ℝ := 0 - S.n16 * (1 * S.r16)
def e4 (S : Seg) : ℝ := 0 - S.n4 * (1 * S.r4)

def coefR (S : Seg) : CoefR where
  d j := 1 - lr * S.i1 j
  p16m := slopeR (-lr * a16 S) (a16 S) S.i16m
  p16s := slopeR (-lr * d16 S) (d16 S) S.i16s
  p4m g := slopeR (-lr * a4 S) (a4 S) (S.i4m g)
  p4s g := slopeR (-lr * d4 S) (d4 S) (S.i4s g)
  qb g := offR (-lr * a16 S) (a16 S) (c16 S) (sum16 S.m1) S.m16m S.i16m
    + offR (-lr * a4 S) (a4 S) (c4 S) (sum4 S.m1 g) (S.m4m g) (S.i4m g)
    + v6 g * offR (-lr * d16 S) (d16 S) (e16 S) (slo16 S.m1) S.m16s S.i16s
  qs g := offR (-lr * d16 S) (d16 S) (e16 S) (slo16 S.m1) S.m16s S.i16s
    + offR (-lr * d4 S) (d4 S) (e4 S) (slo4 S.m1 g) (S.m4s g) (S.i4s g)

/-! ### They are the same -/

theorem sum4_add (z m : Fin 16 → ℝ) (g : Fin 4) : sum4 (fun j => z j + m j) g = sum4 z g + sum4 m g := by unfold sum4; ring
theorem slo4_add (z m : Fin 16 → ℝ) (g : Fin 4) : slo4 (fun j => z j + m j) g = slo4 z g + slo4 m g := by unfold slo4; ring
theorem sum16_add (z m : Fin 16 → ℝ) : sum16 (fun j => z j + m j) = sum16 z + sum16 m := by unfold sum16; simp only [sum4_add]; ring
theorem slo16_add (z m : Fin 16 → ℝ) : slo16 (fun j => z j + m j) = slo16 z + slo16 m := by
  unfold slo16; simp only [sum4_add, slo4_add]; ring

theorem sum_x4 : ∑ q, x4 q = 0 := by simp [Fin.sum_univ_succ, x4]; norm_num
theorem sum_x16 : ∑ j, x16 j = 0 := by simp [Fin.sum_univ_succ, x16]; norm_num
theorem sum_x4_sq : ∑ q, x4 q * x4 q = 5 := by simp [Fin.sum_univ_succ, x4]; norm_num
theorem sum_x16_sq : ∑ j, x16 j * x16 j = 340 := by simp [Fin.sum_univ_succ, x16]; norm_num

theorem mean4_un (S : Seg) (e : Fin 16 → ℝ) (g : Fin 4) : mean4 (un S e) g = sum4 e g * S.h / 4 + S.n0 := by
  simp only [mean4, un, sum4, Fin.sum_univ_four]; ring

theorem slope4_un (S : Seg) (e : Fin 16 → ℝ) (g : Fin 4) : slope4 (un S e) g = slo4 e g * S.h / 5 := by
  simp only [slope4, mean4, un, slo4, x4, Fin.sum_univ_four]; norm_num; ring

/-- A sum over the sixteen columns, four by four. -/
theorem sum_sg (f : Fin 16 → ℝ) : ∑ j, f j = ∑ g, ∑ q, f (sg g q) := by
  simp only [Fin.sum_univ_four]
  simp only [Fin.sum_univ_succ, Fin.sum_univ_zero]
  simp only [sg]
  ring_nf
  rfl

theorem x16_sg (g q : Fin 4) : x16 (sg g q) = v6 g + x4 q := by
  simp only [x16, sg, v6, x4]; push_cast; ring

theorem sum16_eq (e : Fin 16 → ℝ) : ∑ j, e j = sum16 e := by
  rw [sum_sg]; simp only [Fin.sum_univ_four, sum16, sum4]; ring

theorem slo16_eq (e : Fin 16 → ℝ) : ∑ j, x16 j * e j = slo16 e := by
  rw [sum_sg]; simp only [x16_sg, Fin.sum_univ_four, slo16, slo4, sum4, v6, x4]; norm_num; ring

theorem mean16_un (S : Seg) (e : Fin 16 → ℝ) : mean16 (un S e) = sum16 e * S.h / 16 + S.n0 := by
  simp only [mean16, un, Finset.sum_add_distrib, ← Finset.sum_mul, sum16_eq, Finset.sum_const, Finset.card_univ, Fintype.card_fin]
  simp only [nsmul_eq_mul]; push_cast; ring

theorem slope16_un (S : Seg) (e : Fin 16 → ℝ) : slope16 (un S e) = slo16 e * S.h / 340 := by
  have h : ∀ m : ℝ, ∑ j, x16 j * (un S e j - m) = slo16 e * S.h := by
    intro m
    have h1 : ∀ j, x16 j * (un S e j - m) = x16 j * e j * S.h + x16 j * (S.n0 - m) := fun j => by unfold un; ring
    simp only [h1, Finset.sum_add_distrib, ← Finset.sum_mul, slo16_eq, sum_x16]; ring
  unfold slope16
  rw [h]

theorem x16_eq (j : Fin 16) : x16 j = v6 (gOf j) + x4 (qOf j) := by
  rw [← x16_sg]
  congr 1
  apply Fin.ext
  simp only [sg, gOf, qOf]
  omega

/-- The reference's step on the columns is the kernel's step on their displacements. -/
theorem stepE_add (S : Seg) (z : Fin 16 → ℝ) (j : Fin 16) :
    stepE S (fun i => z i + S.m1 i) j = stepR (coefR S) z j + S.m1 j := by
  simp only [stepE, grad, pull, mean4_un, slope4_un, mean16_un, slope16_un, sum4_add, slo4_add, sum16_add, slo16_add, x16_eq,
    stepR, coefR, slopeR, offR, a16, d16, a4, d4, c16, c4, e16, e4]
  generalize sum4 z (gOf j) = a1
  generalize sum4 S.m1 (gOf j) = a2
  generalize slo4 z (gOf j) = a3
  generalize slo4 S.m1 (gOf j) = a4
  generalize sum16 z = a5
  generalize sum16 S.m1 = a6
  generalize slo16 z = a7
  generalize slo16 S.m1 = a8
  ring

end Cert.Proof.Exact

end
-- ==== Proof.KernelReal.lean ====
/-
  The kernel's row over the extended reals: where a row's numbers are real, its twenty steps are steps over the reals.
-/
module

public import proofs.«01_k».proof.Proof.Segment

@[expose] public section

noncomputable section

namespace Cert.Proof.Exact

open Idealize.ShloMosaic Cert.KernelIdeal
open Cert.Proof.Spec (sg gOf qOf col16 col4 col1 Row Lanes)

variable {l : S16.Idx}

section Sums

variable {z : Fin 16 → Lanes Ideal} {x : Fin 16 → ℝ}

theorem at_sum4 (h : ∀ j, At (z j) l (x j)) (g : Fin 4) : At (Spec.sum4 z g) l (sum4 x g) := (((h _).add (h _)).add (h _)).add (h _)
theorem at_slo4 (h : ∀ j, At (z j) l (x j)) (g : Fin 4) : At (Spec.slo4 z g) l (slo4 x g) :=
  ((At.kf w3half l).mul ((h _).sub (h _))).add ((At.kf whalf l).mul ((h _).sub (h _)))
theorem at_sum16 (h : ∀ j, At (z j) l (x j)) : At (Spec.sum16 z) l (sum16 x) :=
  ((at_sum4 h 0).add (at_sum4 h 1)).add ((at_sum4 h 2).add (at_sum4 h 3))
theorem at_slo16 (h : ∀ j, At (z j) l (x j)) : At (Spec.slo16 z) l (slo16 x) :=
  (((at_slo4 h 0).add (at_slo4 h 1)).add ((at_slo4 h 2).add (at_slo4 h 3))).add
    (((((At.kf wm6 l).mul (at_sum4 h 0)).sub ((At.kf w2 l).mul (at_sum4 h 1))).add ((At.kf w2 l).mul (at_sum4 h 2))).add
      ((At.kf w6 l).mul (at_sum4 h 3)))

end Sums

theorem at_w6 (g : Fin 4) : At (Spec.kf (F := Ideal) (Spec.w6 g)) l (v6 g) := by
  match g with
  | 0 => exact (At.kf wm6 l).of_eq (by norm_num [v6])
  | 1 => exact (At.kf wm2 l).of_eq (by norm_num [v6])
  | 2 => exact (At.kf w2 l).of_eq (by norm_num [v6])
  | 3 => exact (At.kf w6 l).of_eq (by norm_num [v6])

theorem at_w32 (q : Fin 4) : At (Spec.kf (F := Ideal) (Spec.w32 q)) l (x4 q) := by
  match q with
  | 0 => exact (At.kf wm3half l).of_eq (by norm_num [x4])
  | 1 => exact (At.kf wmhalf l).of_eq (by norm_num [x4])
  | 2 => exact (At.kf whalf l).of_eq (by norm_num [x4])
  | 3 => exact (At.kf w3half l).of_eq (by norm_num [x4])

/-- A chunk's coefficients at a lane. -/
structure CoefAt (C : Spec.Coef Ideal) (l : S16.Idx) (D : CoefR) : Prop where
  d : ∀ j, At (C.d j) l (D.d j)
  p16m : At C.p16m l D.p16m
  p16s : At C.p16s l D.p16s
  p4m : ∀ g, At (C.p4m g) l (D.p4m g)
  p4s : ∀ g, At (C.p4s g) l (D.p4s g)
  qb : ∀ g, At (C.qb g) l (D.qb g)
  qs : ∀ g, At (C.qs g) l (D.qs g)

theorem at_step {C : Spec.Coef Ideal} {D : CoefR} (hC : CoefAt C l D) {z : Fin 16 → Lanes Ideal} {x : Fin 16 → ℝ}
    (h : ∀ j, At (z j) l (x j)) (j : Fin 16) : At (Spec.step C z j) l (stepR D x j) :=
  ((h j).mul (hC.d j)).add
    (((((at_sum4 h _).mul (hC.p4m _)).add (hC.qb _)).add ((at_sum16 h).mul hC.p16m)).add ((at_w6 _).mul ((at_slo16 h).mul hC.p16s))
      |>.add ((at_w32 _).mul ((((at_slo4 h _).mul (hC.p4s _)).add (hC.qs _)).add ((at_slo16 h).mul hC.p16s))))

/-- The displacements after `n` pairs of steps. -/
def dispR (D : CoefR) : ℕ → Fin 16 → ℝ
  | 0 => fun _ => 0
  | n + 1 => stepR D (stepR D (dispR D n))

theorem at_displ {C : Spec.Coef Ideal} {D : CoefR} (hC : CoefAt C l D) : ∀ (n : ℕ) (j : Fin 16), At (Spec.displ C n j) l (dispR D n j)
  | 0, _ => At.kf w0 l
  | n + 1, j => at_step hC (at_step hC (at_displ hC n)) j

/-! ### The coefficients -/

theorem dev_apply (s : Lanes Ideal) : Spec.dev s l = devE (s l) := by
  show max (s l) (-(s l)) + Ideal.ofBits .f32 0x3F000000#32 = _
  rw [whalf]; rfl

theorem dev2_apply (s : Lanes Ideal) : mulf (Spec.dev s) (Spec.dev s) l = devE (s l) * devE (s l) := by
  show Spec.dev s l * Spec.dev s l = _
  rw [dev_apply]

theorem at_iv (s : Lanes Ideal) : At (Spec.iv s) l (ivE (s l)) := by
  have h := (At.kf w1 l).divE (w := mulf (Spec.dev s) (Spec.dev s)) (by rw [dev2_apply]; exact dev2_ne _)
  rw [dev2_apply] at h
  exact h.of_eq (one_mul _)

theorem at_decay (s : Lanes Ideal) : At (Spec.decay s) l (1 - lr * ivE (s l)) := by
  have h := (At.kf wlr l).divE (w := mulf (Spec.dev s) (Spec.dev s)) (by rw [dev2_apply]; exact dev2_ne _)
  rw [dev2_apply] at h
  exact (At.kf w1 l).sub h

theorem at_recip {n : Lanes Ideal} (hn : n l + ((1 / 2 : ℝ) : EReal) ≠ 0) :
    At (Spec.recip n) l (1 * inv (n l + ((1 / 2 : ℝ) : EReal))) := by
  have e : addf n (Spec.kf 0x3F000000#32) l = n l + ((1 / 2 : ℝ) : EReal) := by
    show n l + Ideal.ofBits .f32 0x3F000000#32 = _
    rw [whalf]
  have h := (At.kf w1 l).divE (w := addf n (Spec.kf 0x3F000000#32)) (by rw [e]; exact hn)
  rwa [e] at h

theorem at_slope {la a : Lanes Ideal} {x y : ℝ} (hl : At la l x) (ha : At a l y) (s : Lanes Ideal) :
    At (Spec.slopeOf la a s) l (slopeR x y (ivE (s l))) := (hl.mul ha).mul (at_iv s)

theorem at_off {la a c t m : Lanes Ideal} {x y z w v : ℝ} (hl : At la l x) (ha : At a l y) (hc : At c l z) (ht : At t l w) (hm : At m l v)
    (s : Lanes Ideal) : At (Spec.offOf la a c t m s) l (offR x y z w v (ivE (s l))) :=
  hl.mul ((((ht.mul ha).add hc).mul (at_iv s)).sub (hm.mul (at_iv s)))

/-- The numbers of a row, at a segment: lane `l` of chunk `c`. -/
structure RowAt (R : Row Ideal) (c : ℕ) (l : S16.Idx) (S : Seg) : Prop where
  m1 : ∀ j : Fin 16, At (col16 R.m1 c j.val) l (S.m1 j)
  i1 : ∀ j : Fin 16, ivE (col16 R.s1 c j.val l) = S.i1 j
  m4s : ∀ g : Fin 4, At (col4 R.m4s c g.val) l (S.m4s g)
  i4s : ∀ g : Fin 4, ivE (col4 R.s4s c g.val l) = S.i4s g
  m4m : ∀ g : Fin 4, At (col4 R.m4m c g.val) l (S.m4m g)
  i4m : ∀ g : Fin 4, ivE (col4 R.s4m c g.val l) = S.i4m g
  m16s : At (col1 R.m16s c) l S.m16s
  i16s : ivE (col1 R.s16s c l) = S.i16s
  m16m : At (col1 R.m16m c) l S.m16m
  i16m : ivE (col1 R.s16m c l) = S.i16m
  n0 : At (Spec.norm R.nb 0) l S.n0
  h : At (addf (Spec.norm R.nb 1) (Spec.kf 0x3F000000#32)) l S.h
  n4 : At (Spec.norm R.nb 2) l S.n4
  s4 : Spec.norm R.nb 3 l + ((1 / 2 : ℝ) : EReal) ≠ 0
  r4 : inv (Spec.norm R.nb 3 l + ((1 / 2 : ℝ) : EReal)) = S.r4
  n16 : At (Spec.norm R.nb 4) l S.n16
  s16 : Spec.norm R.nb 5 l + ((1 / 2 : ℝ) : EReal) ≠ 0
  r16 : inv (Spec.norm R.nb 5 l + ((1 / 2 : ℝ) : EReal)) = S.r16

section Coefs

variable {R : Row Ideal} {c : ℕ} {S : Seg} (H : RowAt R c l S)

include H

theorem at_recip4 : At (Spec.recip (Spec.norm R.nb 3)) l (1 * S.r4) := H.r4 ▸ at_recip H.s4
theorem at_recip16 : At (Spec.recip (Spec.norm R.nb 5)) l (1 * S.r16) := H.r16 ▸ at_recip H.s16

theorem at_340 : At (broadcast S16 (Named.named κ "inv_340" (φ := .f32) 0x3B40C0C1#32) : Lanes Ideal) l (340⁻¹ : ℝ) :=
  IdealRules.named_const.ideal_named_scalar _ _ _ _ rfl
theorem at_5 : At (broadcast S16 (Named.named κ "inv_5" (φ := .f32) 0x3E4CCCCD#32) : Lanes Ideal) l (5⁻¹ : ℝ) :=
  IdealRules.named_const.ideal_named_scalar _ _ _ _ rfl

theorem at_a16 : At (Spec.consts R.nb).a16 l (a16 S) := (H.h.mul (at_recip16 H)).mul (At.kf w16th l)
theorem at_d16 : At (Spec.consts R.nb).d16 l (d16 S) := (H.h.mul (at_recip16 H)).mul (at_340 H)
theorem at_a4 : At (Spec.consts R.nb).a4 l (a4 S) := (H.h.mul (at_recip4 H)).mul (At.kf w4th l)
theorem at_d4 : At (Spec.consts R.nb).d4 l (d4 S) := (H.h.mul (at_recip4 H)).mul (at_5 H)
theorem at_c16 : At (Spec.consts R.nb).c16 l (c16 S) := (H.n0.sub H.n16).mul (at_recip16 H)
theorem at_c4 : At (Spec.consts R.nb).c4 l (c4 S) := (H.n0.sub H.n4).mul (at_recip4 H)
theorem at_e16 : At (Spec.consts R.nb).e16 l (e16 S) := (At.kf w0 l).sub (H.n16.mul (at_recip16 H))
theorem at_e4 : At (Spec.consts R.nb).e4 l (e4 S) := (At.kf w0 l).sub (H.n4.mul (at_recip4 H))
theorem at_la16 : At (Spec.consts R.nb).la16 l (-lr * a16 S) := (At.kf wmlr l).mul (at_a16 H)
theorem at_ld16 : At (Spec.consts R.nb).ld16 l (-lr * d16 S) := (At.kf wmlr l).mul (at_d16 H)
theorem at_la4 : At (Spec.consts R.nb).la4 l (-lr * a4 S) := (At.kf wmlr l).mul (at_a4 H)
theorem at_ld4 : At (Spec.consts R.nb).ld4 l (-lr * d4 S) := (At.kf wmlr l).mul (at_d4 H)

theorem at_q16m : At (Spec.offOf (Spec.consts R.nb).la16 (Spec.consts R.nb).a16 (Spec.consts R.nb).c16
    (Spec.sum16 fun j : Fin 16 => col16 R.m1 c j.val) (col1 R.m16m c) (col1 R.s16m c)) l
    (offR (-lr * a16 S) (a16 S) (c16 S) (sum16 S.m1) S.m16m S.i16m) :=
  H.i16m ▸ at_off (at_la16 H) (at_a16 H) (at_c16 H) (at_sum16 H.m1) H.m16m _
theorem at_q16s : At (Spec.offOf (Spec.consts R.nb).ld16 (Spec.consts R.nb).d16 (Spec.consts R.nb).e16
    (Spec.slo16 fun j : Fin 16 => col16 R.m1 c j.val) (col1 R.m16s c) (col1 R.s16s c)) l
    (offR (-lr * d16 S) (d16 S) (e16 S) (slo16 S.m1) S.m16s S.i16s) :=
  H.i16s ▸ at_off (at_ld16 H) (at_d16 H) (at_e16 H) (at_slo16 H.m1) H.m16s _

/-- A chunk's coefficients are the segment's. -/
theorem at_coef : CoefAt (Spec.coefOf (Spec.consts R.nb) R c) l (coefR S) where
  d j := (at_decay (col16 R.s1 c j.val)).of_eq (by rw [H.i1 j]; rfl)
  p16m := (at_slope (at_la16 H) (at_a16 H) (col1 R.s16m c)).of_eq (by rw [H.i16m]; rfl)
  p16s := (at_slope (at_ld16 H) (at_d16 H) (col1 R.s16s c)).of_eq (by rw [H.i16s]; rfl)
  p4m g := (at_slope (at_la4 H) (at_a4 H) (col4 R.s4m c g.val)).of_eq (by rw [H.i4m]; rfl)
  p4s g := (at_slope (at_ld4 H) (at_d4 H) (col4 R.s4s c g.val)).of_eq (by rw [H.i4s]; rfl)
  qb g := (((at_q16m H).add (at_off (at_la4 H) (at_a4 H) (at_c4 H) (at_sum4 H.m1 g) (H.m4m g) (col4 R.s4m c g.val))).add
    ((at_w6 g).mul (at_q16s H))).of_eq (by rw [H.i4m]; rfl)
  qs g := ((at_q16s H).add (at_off (at_ld4 H) (at_d4 H) (at_e4 H) (at_slo4 H.m1 g) (H.m4s g) (col4 R.s4s c g.val))).of_eq
    (by rw [H.i4s]; rfl)

/-- The row's first result at a column of the segment. -/
theorem at_ex (j : Fin 16) : At (Spec.exAt R c j) l (dispR (coefR S) 10 j + S.m1 j) :=
  (at_displ (at_coef H) 10 j).add (H.m1 j)

end Coefs

/-- The reference's steps from the means. -/
def walk (S : Seg) : ℕ → Fin 16 → ℝ
  | 0 => S.m1
  | n + 1 => stepE S (walk S n)

/-- Twenty of them are the kernel's ten pairs. -/
theorem walk_eq (S : Seg) : ∀ n : ℕ, walk S (2 * n) = fun j => dispR (coefR S) n j + S.m1 j
  | 0 => by funext j; simp [walk, dispR]
  | n + 1 => by
    funext j
    show stepE S (stepE S (walk S (2 * n))) j = _
    rw [walk_eq S n]
    have h : stepE S (fun j => dispR (coefR S) n j + S.m1 j) = fun j => stepR (coefR S) (dispR (coefR S) n) j + S.m1 j :=
      funext fun j => stepE_add S _ j
    rw [h, stepE_add]
    rfl

end Cert.Proof.Exact

end
-- ==== Proof.RefReal.lean ====
/-
  The reference's step over the extended reals: at the sixteen columns of one segment, where the segment's numbers are
  real, a step of the reference is the segment's step over the reals.
-/
module

public import proofs.«01_k».proof.Proof.Segment
public import proofs.«01_k».proof.Proof.RefFrame

@[expose] public section

noncomputable section

namespace Cert.Proof.Exact

open Idealize.ShloMosaic Cert.ReferenceIdeal Cert.ReferenceIdeal.Gen Cert.ReferenceIdeal.Step
open Cert.Proof.Spec (sg gOf qOf)

/-! ### Reductions, slices and reshapes at an element -/

theorem coe_sum {n : ℕ} (f : Fin n → ℝ) : ((∑ q, f q : ℝ) : EReal) = ∑ q, (f q : EReal) := by
  induction n with
  | zero => simp
  | succ n ih => rw [Fin.sum_univ_succ, Fin.sum_univ_succ, EReal.coe_add, ih]

theorem red3 {a b n : ℕ} {v : FVec Ideal ⟨3, ![a, b, n]⟩ .f32} {init : FVec Ideal S_ .f32}
    (h : Shape.ReducesTo ⟨3, ![a, b, n]⟩ [2] ⟨2, ![a, b]⟩) (hu : 0 < S_.numel) {r : Fin a} {t : Fin b} {f : Fin n → ℝ}
    (hi : ∀ k, At init k 0) (hv : ∀ q, At v (ix3 r t q) (f q)) : At (Host.reduceAdd v init h hu) (ix2 r t) (∑ q, f q) := by
  unfold At at *
  rw [Host.reduceAdd_apply, Ideal.hostReduceAdd_def, Ideal.hostReduceAdd_r3_a2, hi, coe_sum]
  refine (zero_add _).trans (Finset.sum_congr rfl fun q _ => hv q)

theorem red1 {n : ℕ} {v : FVec Ideal ⟨1, ![n]⟩ .f32} {init : FVec Ideal S_ .f32}
    (h : Shape.ReducesTo ⟨1, ![n]⟩ [0] S_) (hu : 0 < S_.numel) {f : Fin n → ℝ}
    (hi : ∀ k, At init k 0) (hv : ∀ q, At v (ix1 q) (f q)) (k : S_.Idx) : At (Host.reduceAdd v init h hu) k (∑ q, f q) := by
  unfold At at *
  rw [Host.reduceAdd_apply, Ideal.hostReduceAdd_def, Ideal.hostReduceAdd_r1_a0, hi, coe_sum]
  refine (zero_add _).trans (Finset.sum_congr rfl fun q _ => hv q)

/-- A scalar read everywhere. -/
theorem At.bc0 {t : Shape} {w : FVec Ideal S_ .f32} {x : ℝ} (hw : ∀ k, At w k x) {d : Fin 0 → Fin t.rank} (h : S_.BroadcastsInDim t d)
    (j : t.Idx) : At (broadcastInDim t d h w) j x := hw _

theorem slice0 (x : FVec Ideal S64x2 .f32) (h : S64x2.Slices ![0, 0] S64x1) (r : Fin 64) :
    extractStridedSlice S64x1 ![0, 0] x h (ix2 r 0) = x (ix2 r 0) := by
  refine congrArg x (funext fun a => Fin.ext ?_)
  match a with
  | ⟨0, _⟩ => exact Nat.zero_add _
  | ⟨1, _⟩ => rfl
theorem slice1 (x : FVec Ideal S64x2 .f32) (h : S64x2.Slices ![0, 1] S64x1) (r : Fin 64) :
    extractStridedSlice S64x1 ![0, 1] x h (ix2 r 0) = x (ix2 r 1) := by
  refine congrArg x (funext fun a => Fin.ext ?_)
  match a with
  | ⟨0, _⟩ => exact Nat.zero_add _
  | ⟨1, _⟩ => rfl

theorem bcast_row {b : ℕ} (w : FVec Ideal S64x1 .f32) (h : S64x1.BroadcastsInDim ⟨2, ![64, b]⟩ ![0, 1]) (r : Fin 64) (p : Fin b) :
    broadcastInDim ⟨2, ![64, b]⟩ ![0, 1] h w (ix2 r p) = w (ix2 r 0) :=
  broadcastInDim_apply _ h w _ _ fun a => by match a with | ⟨0, _⟩ => rfl | ⟨1, _⟩ => rfl

/-- The columns of segment `t`, and its four-column segments. -/
def col (t : Fin 256) (j : Fin 16) : Fin 4096 := ⟨16 * t.val + j.val, by omega⟩
def four (t : Fin 256) (g : Fin 4) : Fin 1024 := ⟨4 * t.val + g.val, by omega⟩

theorem flat16 (r : Fin 64) (t : Fin 256) (j : Fin 16) :
    (S64x4096.rowMajor (ix2 r (col t j))).val = (S64x256x16.rowMajor (ix3 r t j)).val := by
  rw [Shape.rowMajor_val_two, Shape.rowMajor_val_three]
  show r.val * 4096 + (16 * t.val + j.val) = (r.val * 256 + t.val) * 16 + j.val
  ring
theorem flat4 (r : Fin 64) (t : Fin 256) (g q : Fin 4) :
    (S64x4096.rowMajor (ix2 r (col t (sg g q)))).val = (S64x1024x4.rowMajor (ix3 r (four t g) q)).val := by
  rw [Shape.rowMajor_val_two, Shape.rowMajor_val_three]
  show r.val * 4096 + (16 * t.val + (4 * g.val + q.val)) = (r.val * 1024 + (4 * t.val + g.val)) * 4 + q.val
  ring
theorem flat1 {b : ℕ} (r : Fin 64) (t : Fin b) :
    ((⟨2, ![64, b]⟩ : Shape).rowMajor (ix2 r t)).val = ((⟨3, ![64, b, 1]⟩ : Shape).rowMajor (ix3 r t 0)).val := by
  rw [Shape.rowMajor_val_two, Shape.rowMajor_val_three]
  show r.val * b + t.val = (r.val * b + t.val) * 1 + 0
  ring

theorem sg_of (j : Fin 16) : sg (gOf j) (qOf j) = j := by
  apply Fin.ext
  simp only [sg, gOf, qOf]
  omega

theorem iota_val : ∀ q : Fin 16, (BitVec.ofNat 32 q.val).toInt = q.val := by decide

/-! ### A level's pull at one segment -/

/-- The derivative the reference computes of one level's term, before it is spread over the segment's columns. -/
theorem At.pull {s : Shape} {v n ρ ρ' μ σ one two two' half : FVec Ideal s .f32} {i : s.Idx} {x y m : ℝ}
    (hv : At v i x) (hn : At n i y) (hμ : At μ i m) (h0 : ρ i ≠ (0 : EReal)) (hρ : ρ' i = ρ i)
    (h1 : At one i (-1)) (h2 : At two i 2) (h2' : At two' i 2) (hh : At half i (1 / 2)) :
    At (Host.divf (mulf (Host.divf (Host.negf one) (mulf two (mulf (addf (Host.absf σ) half) (addf (Host.absf σ) half))))
      (mulf two' (subf (Host.divf (subf v n) ρ) μ))) ρ') i (Exact.pull (ivE (σ i)) x y (inv (ρ i)) m) := by
  have hd : mulf two (mulf (addf (Host.absf σ) half) (addf (Host.absf σ) half)) i = ((2 : ℝ) : EReal) * (devE (σ i) * devE (σ i)) := by
    show two i * ((max (σ i) (-(σ i)) + half i) * (max (σ i) (-(σ i)) + half i)) = _
    rw [show two i = _ from h2, show half i = _ from hh]
    rfl
  have hq := h1.neg.hdivE (w := mulf two (mulf (addf (Host.absf σ) half) (addf (Host.absf σ) half))) (by rw [hd]; exact two_dev2_ne _)
  rw [hd, inv_two_dev2] at hq
  have h := (hq.mul (h2'.mul (((hv.sub hn).hdivE h0).sub hμ))).hdivE (w := ρ') (by rw [hρ]; exact h0)
  rw [hρ] at h
  exact h.of_eq (by unfold Exact.pull; ring)

/-! ### One step -/

/-- The state at the columns of segment `t` of row `r`: the columns `e`, and the numbers of the segment. -/
structure StateAt (s : State Ideal) (r : Fin 64) (t : Fin 256) (S : Seg) (e : Fin 16 → ℝ) : Prop where
  ex : ∀ j, At s.main_v0_14 (ix2 r (col t j)) (e j)
  i1 : ∀ j, ivE (s.main_v0_0 (ix2 r (col t j))) = S.i1 j
  m1 : ∀ j, At s.main_v0_1 (ix2 r (col t j)) (S.m1 j)
  h : At s.main_v0_2 (ix2 r 1) (S.h - 1 / 2)
  n0 : At s.main_v0_2 (ix2 r 0) S.n0
  n4 : At s.main_v0_3 (ix2 r 0) S.n4
  s4 : s.main_v0_3 (ix2 r 1) + ((1 / 2 : ℝ) : EReal) ≠ 0
  r4 : inv (s.main_v0_3 (ix2 r 1) + ((1 / 2 : ℝ) : EReal)) = S.r4
  i4s : ∀ g, ivE (s.main_v0_4 (ix2 r (four t g))) = S.i4s g
  m4s : ∀ g, At s.main_v0_5 (ix2 r (four t g)) (S.m4s g)
  i4m : ∀ g, ivE (s.main_v0_6 (ix2 r (four t g))) = S.i4m g
  m4m : ∀ g, At s.main_v0_7 (ix2 r (four t g)) (S.m4m g)
  n16 : At s.main_v0_8 (ix2 r 0) S.n16
  s16 : s.main_v0_8 (ix2 r 1) + ((1 / 2 : ℝ) : EReal) ≠ 0
  r16 : inv (s.main_v0_8 (ix2 r 1) + ((1 / 2 : ℝ) : EReal)) = S.r16
  i16s : ivE (s.main_v0_9 (ix2 r t)) = S.i16s
  m16s : At s.main_v0_10 (ix2 r t) S.m16s
  i16m : ivE (s.main_v0_11 (ix2 r t)) = S.i16m
  m16m : At s.main_v0_12 (ix2 r t) S.m16m

section Step

variable {s : State Ideal} {r : Fin 64} {t : Fin 256} {S : Seg} {e : Fin 16 → ℝ} (H : StateAt s r t S e) (n : ℕ)

include H

theorem at_b30 : At (b30 n s) (ix2 r 0) S.h :=
  (At.add (H.h.read (slice1 _ _ r)) (At.bc0 (fun _ => At.const whalf _) _ _)).of_eq (by ring)

theorem at_b35 (j : Fin 16) : At (b35 n s) (ix2 r (col t j)) (un S e j) :=
  ((H.ex j).mul ((at_b30 H n).read (bcast_row _ _ r _))).add (At.read (H.n0.read (slice0 _ _ r)) (bcast_row _ _ r _))

/-! Four columns. -/

theorem at_b36 (g q : Fin 4) : At (b36 n s) (ix3 r (four t g) q) (un S e (sg g q)) :=
  (at_b35 H n (sg g q)).cast _ _ (flat4 r t g q)

omit H in
theorem at_b37 (q : Fin 4) : At (b37 n s) (ix1 q) (q.val : ℝ) := by
  show (((BitVec.ofNat 32 q.val).toInt : ℝ) : EReal) = _
  rw [iota_val ⟨q.val, by omega⟩]
  push_cast
  rfl
omit H in
theorem at_b41 (k : S_.Idx) : At (b41 n s) k (3 / 2) :=
  ((red1 reducesTo_S4_S_d0 h_S_ (fun _ => At.const w0 _) (at_b37 n) k).hdiv (At.const w4 k) (by norm_num)).of_eq (by
    rw [Fin.sum_univ_four]; norm_num)
omit H in
theorem at_b49 (q : Fin 4) : At (b49 n s) (ix1 q) (x4 q) := (at_b37 n q).sub (At.bc0 (at_b41 n) _ _)
omit H in
theorem at_b61 (k : S_.Idx) : At (b61 n s) k 5 :=
  (red1 reducesTo_S4_S_d0 h_S_ (fun _ => At.const w0 _) (fun q => (at_b49 n q).mul (at_b49 n q)) k).of_eq sum_x4_sq
omit H in
theorem at_x4 (w : FVec Ideal S1x1x4 .f32) (hw : w = b50 n s) (u : Fin 1024) (q : Fin 4) :
    At (broadcastInDim S64x1024x4 ![0, 1, 2] bcast_S1x1x4_S64x1024x4_0_1_2 w) (ix3 r u q) (x4 q) := by
  subst hw
  exact At.bcast (k := ix3 0 0 q) (At.bcast (k := ix1 q) (at_b49 n q) _ _ _ fun a => by match a with | ⟨0, _⟩ => rfl) _ _ _
    fun a => by match a with | ⟨0, _⟩ => rfl | ⟨1, _⟩ => rfl | ⟨2, _⟩ => rfl

theorem at_b47 (g : Fin 4) : At (b47 n s) (ix3 r (four t g) 0) (mean4 (un S e) g) :=
  (At.bcast (k := ix2 r (four t g)) (red3 reducesTo_S64x1024x4_S64x1024_d2 h_S_ (fun _ => At.const w0 _) (at_b36 H n g)) _ _ _
    fun a => by match a with | ⟨0, _⟩ => rfl | ⟨1, _⟩ => rfl).hdiv (At.bc0 (fun _ => At.const w4 _) _ _) (by norm_num)
theorem at_b54 (g q : Fin 4) : At (b54 n s) (ix3 r (four t g) q) (x4 q * (un S e (sg g q) - mean4 (un S e) g)) :=
  (at_x4 n _ rfl _ q).mul ((at_b36 H n g q).sub (At.bcast (k := ix3 r (four t g) 0) (at_b47 H n g) _ _ _
    fun a => by match a with | ⟨0, _⟩ => rfl | ⟨1, _⟩ => rfl | ⟨2, _⟩ => rfl))
theorem at_b63 (g : Fin 4) : At (b63 n s) (ix2 r (four t g)) (slope4 (un S e) g) :=
  (red3 reducesTo_S64x1024x4_S64x1024_d2 h_S_ (fun _ => At.const w0 _) (at_b54 H n g)).hdiv (At.bc0 (at_b61 n) _ _) (by norm_num)
theorem at_b106 (g : Fin 4) : At (b106 n s) (ix2 r (four t g)) (mean4 (un S e) g) :=
  (red3 reducesTo_S64x1024x4_S64x1024_d2 h_S_ (fun _ => At.const w0 _) (at_b36 H n g)).hdiv (At.bc0 (fun _ => At.const w4 _) _ _) (by norm_num)

omit H in
/-- The scale of the four-column segments. -/
theorem b71_apply (u : Fin 1024) : b71 n s (ix2 r u) = s.main_v0_3 (ix2 r 1) + ((1 / 2 : ℝ) : EReal) := by
  refine (bcast_row _ _ r u).trans ?_
  show extractStridedSlice S64x1 ![0, 1] s.main_v0_3 slices_S64x2_S64x1_0_1 (ix2 r 0) + Ideal.ofBits .f32 0x3F000000#32 = _
  rw [slice1, whalf]

theorem at_b314 (g : Fin 4) : At (b314 n s) (ix2 r (four t g)) (pull (S.i4s g) (slope4 (un S e) g) S.n4 S.r4 (S.m4s g) / 5) := by
  have h := At.pull (v := b63 n s) (n := b65 n s) (ρ := b71 n s) (ρ' := b311 n s) (μ := s.main_v0_5) (σ := s.main_v0_4)
    (one := b307 n s) (two := b93 n s) (two' := b89 n s) (half := b75 n s) (at_b63 H n g)
    (At.read (H.n4.read (slice0 _ _ r)) (bcast_row _ _ r _)) (H.m4s g) (by rw [b71_apply]; exact H.s4) rfl
    (At.bc0 (fun k => (At.const w1 k).neg) _ _) (At.bc0 (fun _ => At.const w2 _) _ _) (At.bc0 (fun _ => At.const w2 _) _ _)
    (At.bc0 (fun _ => At.const whalf _) _ _)
  rw [b71_apply, H.r4, H.i4s] at h
  exact At.hdiv (v := b312 n s) h (At.bc0 (at_b61 n) _ _) (by norm_num)

theorem at_b301 (g : Fin 4) : At (b301 n s) (ix2 r (four t g)) (pull (S.i4m g) (mean4 (un S e) g) S.n4 S.r4 (S.m4m g) / 4) := by
  have h := At.pull (v := b106 n s) (n := b108 n s) (ρ := b71 n s) (ρ' := b297 n s) (μ := s.main_v0_7) (σ := s.main_v0_6)
    (one := b293 n s) (two := b136 n s) (two' := b132 n s) (half := b118 n s) (at_b106 H n g)
    (At.read (H.n4.read (slice0 _ _ r)) (bcast_row _ _ r _)) (H.m4m g) (by rw [b71_apply]; exact H.s4) rfl
    (At.bc0 (fun k => (At.const w1 k).neg) _ _) (At.bc0 (fun _ => At.const w2 _) _ _) (At.bc0 (fun _ => At.const w2 _) _ _)
    (At.bc0 (fun _ => At.const whalf _) _ _)
  rw [b71_apply, H.r4, H.i4m] at h
  exact At.hdiv (v := b298 n s) h (At.bc0 (fun _ => At.const w4 _) _ _) (by norm_num)

theorem at_b317 (g q : Fin 4) : At (b317 n s) (ix3 r (four t g) q) (x4 q * (pull (S.i4s g) (slope4 (un S e) g) S.n4 S.r4 (S.m4s g) / 5)) :=
  (at_x4 n _ rfl _ q).mul (At.bcast (k := ix2 r (four t g)) (at_b314 H n g) _ _ _ fun a => by match a with | ⟨0, _⟩ => rfl | ⟨1, _⟩ => rfl)

/-- What the mean takes off the slope's gradient is nothing: the abscissae are centred. -/
theorem at_b326 (g : Fin 4) : At (b326 n s) (ix2 r (four t g)) 0 := by
  have h : At (b324 n s) (ix3 r (four t g) 0) 0 :=
    (At.hdiv (At.cast (red3 reducesTo_S64x1024x4_S64x1024_d2 h_S_ (fun _ => At.const w0 _) (fun q => (at_b317 H n g q).neg)) _ _ (flat1 r _))
      (At.bc0 (fun _ => At.const w4 _) _ _) (by norm_num)).of_eq (by
        simp only [Finset.sum_neg_distrib, ← Finset.sum_mul, sum_x4]; norm_num)
  refine (red3 (f := fun _ => 0) reducesTo_S64x1024x1_S64x1024_d2 h_S_ (fun _ => At.const w0 _) fun q => ?_).of_eq (by simp)
  rw [Subsingleton.elim q 0]
  exact h

theorem at_b328 (g q : Fin 4) : At (b328 n s) (ix3 r (four t g) q) (x4 q * (pull (S.i4s g) (slope4 (un S e) g) S.n4 S.r4 (S.m4s g) / 5)) :=
  ((at_b317 H n g q).add (At.bcast (k := ix2 r (four t g)) (at_b326 H n g) _ _ _ fun a => by match a with | ⟨0, _⟩ => rfl | ⟨1, _⟩ => rfl)).of_eq
    (add_zero _)

theorem at_b329 (j : Fin 16) : At (b329 n s) (ix2 r (col t j))
    (x4 (qOf j) * (pull (S.i4s (gOf j)) (slope4 (un S e) (gOf j)) S.n4 S.r4 (S.m4s (gOf j)) / 5)) := by
  have h := flat4 r t (gOf j) (qOf j)
  rw [sg_of] at h
  exact (at_b328 H n (gOf j) (qOf j)).cast _ _ h.symm

theorem at_b303 (j : Fin 16) : At (b303 n s) (ix2 r (col t j)) (pull (S.i4m (gOf j)) (mean4 (un S e) (gOf j)) S.n4 S.r4 (S.m4m (gOf j)) / 4) := by
  have h := flat4 r t (gOf j) (qOf j)
  rw [sg_of] at h
  exact (At.bcast (k := ix2 r (four t (gOf j))) (at_b301 H n (gOf j)) _ _ (ix3 r (four t (gOf j)) (qOf j))
    fun a => by match a with | ⟨0, _⟩ => rfl | ⟨1, _⟩ => rfl).cast _ _ h.symm

/-! Sixteen columns. -/

theorem at_b144 (j : Fin 16) : At (b144 n s) (ix3 r t j) (un S e j) := (at_b35 H n j).cast _ _ (flat16 r t j)

omit H in
theorem at_b145 (q : Fin 16) : At (b145 n s) (ix1 q) (q.val : ℝ) := by
  show (((BitVec.ofNat 32 q.val).toInt : ℝ) : EReal) = _
  rw [iota_val]
  push_cast
  rfl
omit H in
theorem at_b149 (k : S_.Idx) : At (b149 n s) k (15 / 2) :=
  ((red1 reducesTo_S16_S_d0 h_S_ (fun _ => At.const w0 _) (at_b145 n) k).hdiv (At.const w16 k) (by norm_num)).of_eq (by
    simp [Fin.sum_univ_succ]; norm_num)
omit H in
theorem at_b157 (q : Fin 16) : At (b157 n s) (ix1 q) (x16 q) := (at_b145 n q).sub (At.bc0 (at_b149 n) _ _)
omit H in
theorem at_b169 (k : S_.Idx) : At (b169 n s) k 340 :=
  (red1 reducesTo_S16_S_d0 h_S_ (fun _ => At.const w0 _) (fun q => (at_b157 n q).mul (at_b157 n q)) k).of_eq sum_x16_sq
omit H in
theorem at_x16 (w : FVec Ideal S1x1x16 .f32) (hw : w = b158 n s) (u : Fin 256) (q : Fin 16) :
    At (broadcastInDim S64x256x16 ![0, 1, 2] bcast_S1x1x16_S64x256x16_0_1_2 w) (ix3 r u q) (x16 q) := by
  subst hw
  exact At.bcast (k := ix3 0 0 q) (At.bcast (k := ix1 q) (at_b157 n q) _ _ _ fun a => by match a with | ⟨0, _⟩ => rfl) _ _ _
    fun a => by match a with | ⟨0, _⟩ => rfl | ⟨1, _⟩ => rfl | ⟨2, _⟩ => rfl

theorem at_b155 : At (b155 n s) (ix3 r t 0) (mean16 (un S e)) :=
  (At.bcast (k := ix2 r t) (red3 reducesTo_S64x256x16_S64x256_d2 h_S_ (fun _ => At.const w0 _) (at_b144 H n)) _ _ _
    fun a => by match a with | ⟨0, _⟩ => rfl | ⟨1, _⟩ => rfl).hdiv (At.bc0 (fun _ => At.const w16 _) _ _) (by norm_num)
theorem at_b162 (q : Fin 16) : At (b162 n s) (ix3 r t q) (x16 q * (un S e q - mean16 (un S e))) :=
  (at_x16 n _ rfl _ q).mul ((at_b144 H n q).sub (At.bcast (k := ix3 r t 0) (at_b155 H n) _ _ _
    fun a => by match a with | ⟨0, _⟩ => rfl | ⟨1, _⟩ => rfl | ⟨2, _⟩ => rfl))
theorem at_b171 : At (b171 n s) (ix2 r t) (slope16 (un S e)) :=
  (red3 reducesTo_S64x256x16_S64x256_d2 h_S_ (fun _ => At.const w0 _) (at_b162 H n)).hdiv (At.bc0 (at_b169 n) _ _) (by norm_num)
theorem at_b214 : At (b214 n s) (ix2 r t) (mean16 (un S e)) :=
  (red3 reducesTo_S64x256x16_S64x256_d2 h_S_ (fun _ => At.const w0 _) (at_b144 H n)).hdiv (At.bc0 (fun _ => At.const w16 _) _ _) (by norm_num)

omit H in
/-- The scale of the sixteen-column segments. -/
theorem b179_apply (u : Fin 256) : b179 n s (ix2 r u) = s.main_v0_8 (ix2 r 1) + ((1 / 2 : ℝ) : EReal) := by
  refine (bcast_row _ _ r u).trans ?_
  show extractStridedSlice S64x1 ![0, 1] s.main_v0_8 slices_S64x2_S64x1_0_1 (ix2 r 0) + Ideal.ofBits .f32 0x3F000000#32 = _
  rw [slice1, whalf]

theorem at_b274 : At (b274 n s) (ix2 r t) (pull S.i16s (slope16 (un S e)) S.n16 S.r16 S.m16s / 340) := by
  have h := At.pull (v := b171 n s) (n := b173 n s) (ρ := b179 n s) (ρ' := b271 n s) (μ := s.main_v0_10) (σ := s.main_v0_9)
    (one := b267 n s) (two := b201 n s) (two' := b197 n s) (half := b183 n s) (at_b171 H n)
    (At.read (H.n16.read (slice0 _ _ r)) (bcast_row _ _ r _)) H.m16s (by rw [b179_apply]; exact H.s16) rfl
    (At.bc0 (fun k => (At.const w1 k).neg) _ _) (At.bc0 (fun _ => At.const w2 _) _ _) (At.bc0 (fun _ => At.const w2 _) _ _)
    (At.bc0 (fun _ => At.const whalf _) _ _)
  rw [b179_apply, H.r16, H.i16s] at h
  exact At.hdiv (v := b272 n s) h (At.bc0 (at_b169 n) _ _) (by norm_num)

theorem at_b262 : At (b262 n s) (ix2 r t) (pull S.i16m (mean16 (un S e)) S.n16 S.r16 S.m16m / 16) := by
  have h := At.pull (v := b214 n s) (n := b216 n s) (ρ := b179 n s) (ρ' := b258 n s) (μ := s.main_v0_12) (σ := s.main_v0_11)
    (one := b254 n s) (two := b244 n s) (two' := b240 n s) (half := b226 n s) (at_b214 H n)
    (At.read (H.n16.read (slice0 _ _ r)) (bcast_row _ _ r _)) H.m16m (by rw [b179_apply]; exact H.s16) rfl
    (At.bc0 (fun k => (At.const w1 k).neg) _ _) (At.bc0 (fun _ => At.const w2 _) _ _) (At.bc0 (fun _ => At.const w2 _) _ _)
    (At.bc0 (fun _ => At.const whalf _) _ _)
  rw [b179_apply, H.r16, H.i16m] at h
  exact At.hdiv (v := b259 n s) h (At.bc0 (fun _ => At.const w16 _) _ _) (by norm_num)

theorem at_b277 (q : Fin 16) : At (b277 n s) (ix3 r t q) (x16 q * (pull S.i16s (slope16 (un S e)) S.n16 S.r16 S.m16s / 340)) :=
  (at_x16 n _ rfl _ q).mul (At.bcast (k := ix2 r t) (at_b274 H n) _ _ _ fun a => by match a with | ⟨0, _⟩ => rfl | ⟨1, _⟩ => rfl)

theorem at_b286 : At (b286 n s) (ix2 r t) 0 := by
  have h : At (b284 n s) (ix3 r t 0) 0 :=
    (At.hdiv (At.cast (red3 reducesTo_S64x256x16_S64x256_d2 h_S_ (fun _ => At.const w0 _) (fun q => (at_b277 H n q).neg)) _ _ (flat1 r _))
      (At.bc0 (fun _ => At.const w16 _) _ _) (by norm_num)).of_eq (by
        simp only [Finset.sum_neg_distrib, ← Finset.sum_mul, sum_x16]; norm_num)
  refine (red3 (f := fun _ => 0) reducesTo_S64x256x1_S64x256_d2 h_S_ (fun _ => At.const w0 _) fun q => ?_).of_eq (by simp)
  rw [Subsingleton.elim q 0]
  exact h

theorem at_b289 (j : Fin 16) : At (b289 n s) (ix2 r (col t j)) (x16 j * (pull S.i16s (slope16 (un S e)) S.n16 S.r16 S.m16s / 340)) :=
  (((at_b277 H n j).add (At.bcast (k := ix2 r t) (at_b286 H n) _ _ _ fun a => by match a with | ⟨0, _⟩ => rfl | ⟨1, _⟩ => rfl)).of_eq
    (add_zero _)).cast _ _ (flat16 r t j).symm

theorem at_b264 (j : Fin 16) : At (b264 n s) (ix2 r (col t j)) (pull S.i16m (mean16 (un S e)) S.n16 S.r16 S.m16m / 16) :=
  (At.bcast (k := ix2 r t) (at_b262 H n) _ _ (ix3 r t j) fun a => by match a with | ⟨0, _⟩ => rfl | ⟨1, _⟩ => rfl).cast _ _ (flat16 r t j).symm

/-! The columns themselves, and the step. -/

theorem at_b337 (j : Fin 16) : At (b337 n s) (ix2 r (col t j)) (1 / 2 * S.i1 j) := by
  have hd : b21 n s (ix2 r (col t j)) = ((2 : ℝ) : EReal) * (devE (s.main_v0_0 (ix2 r (col t j))) * devE (s.main_v0_0 (ix2 r (col t j)))) := by
    show Ideal.ofBits .f32 0x40000000#32 * ((max (s.main_v0_0 (ix2 r (col t j))) (-(s.main_v0_0 (ix2 r (col t j)))) + Ideal.ofBits .f32 0x3F000000#32) *
      (max (s.main_v0_0 (ix2 r (col t j))) (-(s.main_v0_0 (ix2 r (col t j)))) + Ideal.ofBits .f32 0x3F000000#32)) = _
    rw [w2, whalf]
    rfl
  have h1 : At (b335 n s) (ix2 r (col t j)) (-1) := At.bc0 (fun k => (At.const w1 k).neg) _ _
  have h := h1.neg.hdivE (w := b21 n s) (by rw [hd]; exact two_dev2_ne _)
  rw [hd, inv_two_dev2, H.i1 j] at h
  exact h.of_eq (by ring)

/-- The reference's step, at a column of the segment. -/
theorem at_b343 (j : Fin 16) : At (b343 n s) (ix2 r (col t j)) (stepE S e j) := by
  have hx : At (b17 n s) (ix2 r (col t j)) (2 * (e j - S.m1 j)) := (At.bc0 (fun _ => At.const w2 _) _ _).mul ((H.ex j).sub (H.m1 j))
  have hg := ((((at_b264 H n j).add (at_b289 H n j)).add (at_b303 H n j)).add (at_b329 H n j)).mul
    (At.read (at_b30 H n) (bcast_row _ bcast_S64x1_S64x4096_0_1 r (col t j)))
  have h := (H.ex j).sub ((At.bc0 (fun _ => At.const wlr _) bcast_S_S64x4096 (ix2 r (col t j))).mul (hg.add ((at_b337 H n j).mul hx)))
  exact At.of_eq h (by unfold stepE grad; ring)

/-- The next state, at the segment. -/
theorem at_next : StateAt (step n s) r t S (stepE S e) :=
  { H with ex := fun j => at_b343 H n j }

end Step

/-- The states of the loop, at a segment. -/
theorem at_state {s : State Ideal} {r : Fin 64} {t : Fin 256} {S : Seg} {e : Fin 16 → ℝ} (H : StateAt s r t S e) :
    ∀ n : ℕ, StateAt (RefFrame.state s n) r t S ((stepE S)^[n] e)
  | 0 => H
  | n + 1 => by
    rw [Function.iterate_succ_apply']
    exact at_next (at_state H n) n

end Cert.Proof.Exact

end
-- ==== Proof.Tame.lean ====
/-
  What the precondition says, element by element: the means and the norms' offsets are finite, so is the first norm's
  scale, and the two other scales are not at minus a half.
-/
module

public import proofs.«01_k».proof.Proof.RefReal
public import proofs.«01_k».proof.Proof.Gen.Pre_tame
public import Idealize.ShloMosaic.Lib.ReduceAll
public import Idealize.ShloMosaic.Lib.Affine

@[expose] public section

noncomputable section

namespace Cert.Proof.Exact

open Idealize.ShloMosaic Cert.Pre_tame Cert.Pre_tame.Gen

theorem finite_of {s : Shape} {a w : FVec Ideal s .f32} {i : s.Idx} (hw : w i = (⊤ : EReal)) (h : cmpf .olt (Host.absf a) w i = 1#1) :
    At a i (a i : EReal).toReal := by
  have h' : Ideal.cmp .olt (max (a i : EReal) (-(a i : EReal))) (w i) = 1#1 := h
  rw [hw, Ideal.cmp] at h'
  have hlt : max (a i : EReal) (-(a i : EReal)) < ⊤ := by
    by_contra hn
    simp [hn] at h'
  rw [max_lt_iff] at hlt
  refine (EReal.coe_toReal hlt.1.ne ?_).symm
  intro hb
  rw [hb] at hlt
  simp at hlt

theorem ne_of {s : Shape} {a w : FVec Ideal s .f32} {i : s.Idx} (hw : w i = (0 : EReal)) (h : cmpf .une a w i = 1#1) : a i ≠ (0 : EReal) := by
  have h' : Ideal.cmp .une (a i : EReal) (w i) = 1#1 := h
  rw [hw, Ideal.cmp] at h'
  by_contra hn
  simp [hn] at h'

/-- The precondition's conjuncts over the ten arrays it reads. -/
structure Tame (a0 : FVec Ideal S64x4096 .f32) (a2 a4 : FVec Ideal S64x1024 .f32) (a6 a8 : FVec Ideal S64x256 .f32)
    (a10 a11 a12 : FVec Ideal S64x2 .f32) : Prop where
  m1 : ∀ i, At a0 i (a0 i : EReal).toReal
  m4s : ∀ i, At a2 i (a2 i : EReal).toReal
  m4m : ∀ i, At a4 i (a4 i : EReal).toReal
  m16s : ∀ i, At a6 i (a6 i : EReal).toReal
  m16m : ∀ i, At a8 i (a8 i : EReal).toReal
  n1 : ∀ i, At a10 i (a10 i : EReal).toReal
  n4 : ∀ r, At a11 (ix2 r 0) (a11 (ix2 r 0) : EReal).toReal
  n16 : ∀ r, At a12 (ix2 r 0) (a12 (ix2 r 0) : EReal).toReal
  s4 : ∀ r, a11 (ix2 r 1) + ((1 / 2 : ℝ) : EReal) ≠ 0
  s16 : ∀ r, a12 (ix2 r 1) + ((1 / 2 : ℝ) : EReal) ≠ 0

/-- A column of a two-column array, as the precondition takes it. -/
theorem pick0 (x : FVec Ideal S64x2 .f32) (r : Fin 64) :
    shapeCast S64 (extractStridedSlice S64x1 ![0, 0] x slices_S64x2_S64x1_0_0) shapeCasts_S64x1_S64 (ix1 r) = x (ix2 r 0) :=
  (shapeCast_apply _ shapeCasts_S64x1_S64 (ix1 r) (ix2 r 0) (by
    rw [Shape.rowMajor_val_one, Shape.rowMajor_val_two]; show r.val * 1 + 0 = r.val; ring)).trans (slice0 x _ r)
theorem pick1 (x : FVec Ideal S64x2 .f32) (r : Fin 64) :
    shapeCast S64 (extractStridedSlice S64x1 ![0, 1] x slices_S64x2_S64x1_0_1) shapeCasts_S64x1_S64 (ix1 r) = x (ix2 r 1) :=
  (shapeCast_apply _ shapeCasts_S64x1_S64 (ix1 r) (ix2 r 0) (by
    rw [Shape.rowMajor_val_one, Shape.rowMajor_val_two]; show r.val * 1 + 0 = r.val; ring)).trans (slice1 x _ r)

instance : Subsingleton S_.Idx := ⟨fun a b => funext fun i => i.elim0⟩

theorem tame_of (a0 a1 : FVec Ideal S64x4096 .f32) (a2 a3 a4 a5 : FVec Ideal S64x1024 .f32) (a6 a7 a8 a9 : FVec Ideal S64x256 .f32)
    (a10 a11 a12 : FVec Ideal S64x2 .f32) (h : fn (F := Ideal) a0 a1 a2 a3 a4 a5 a6 a7 a8 a9 a10 a11 a12 = fun _ => 1#1) :
    Tame a0 a2 a4 a6 a8 a10 a11 a12 := by
  have e := congrFun h (fun i => i.elim0)
  unfold fn fn_part1 fn_part2 fn_part3 at e
  obtain ⟨e, h16⟩ := IntOp.andi_eq_one.1 e
  obtain ⟨e, h4⟩ := IntOp.andi_eq_one.1 e
  obtain ⟨e, g16⟩ := IntOp.andi_eq_one.1 e
  obtain ⟨e, g4⟩ := IntOp.andi_eq_one.1 e
  obtain ⟨e, g1⟩ := IntOp.andi_eq_one.1 e
  obtain ⟨e, f8⟩ := IntOp.andi_eq_one.1 e
  obtain ⟨e, f6⟩ := IntOp.andi_eq_one.1 e
  obtain ⟨e, f4⟩ := IntOp.andi_eq_one.1 e
  obtain ⟨f0, f2⟩ := IntOp.andi_eq_one.1 e
  have half : ∀ x : EReal, x + Ideal.ofBits .f32 0x3F000000#32 ≠ 0 → x + ((1 / 2 : ℝ) : EReal) ≠ 0 := fun x hx => by rwa [whalf] at hx
  exact
    { m1 := fun i => finite_of wtop (Host.reduce_andi_all _ _ _ _ _ f0 i)
      m4s := fun i => finite_of wtop (Host.reduce_andi_all _ _ _ _ _ f2 i)
      m4m := fun i => finite_of wtop (Host.reduce_andi_all _ _ _ _ _ f4 i)
      m16s := fun i => finite_of wtop (Host.reduce_andi_all _ _ _ _ _ f6 i)
      m16m := fun i => finite_of wtop (Host.reduce_andi_all _ _ _ _ _ f8 i)
      n1 := fun i => finite_of wtop (Host.reduce_andi_all _ _ _ _ _ g1 i)
      n4 := fun r => by
        have := finite_of wtop (Host.reduce_andi_all _ _ _ _ _ g4 (ix1 r))
        unfold At at this
        rwa [pick0] at this
      n16 := fun r => by
        have := finite_of wtop (Host.reduce_andi_all _ _ _ _ _ g16 (ix1 r))
        unfold At at this
        rwa [pick0] at this
      s4 := fun r => half _ (by
        have := ne_of (w0.trans EReal.coe_zero) (Host.reduce_andi_all _ _ _ _ _ h4 (ix1 r))
        have e := pick1 a11 r
        rw [← e]
        exact this)
      s16 := fun r => half _ (by
        have := ne_of (w0.trans EReal.coe_zero) (Host.reduce_andi_all _ _ _ _ _ h16 (ix1 r))
        have e := pick1 a12 r
        rw [← e]
        exact this) }

end Cert.Proof.Exact

end
-- ==== Proof.Algebra.lean ====
/-
  The two results over the extended reals: the kernel's arrays, row by row, are the reference's.
-/
module

public import proofs.«01_k».proof.Proof.Launch
public import proofs.«01_k».proof.Proof.KernelReal
public import proofs.«01_k».proof.Proof.Tame
public import proofs.«01_k».proof.Proof.Gen.ReferenceIdeal.StepRun

@[expose] public section

noncomputable section

namespace Cert.Proof.Algebra

open Idealize.ShloMosaic Idealize.SL.Sem Cert.KernelIdeal Cert.KernelIdeal.Gen Cert.Proof.Tile Cert.Proof.Exact
open Cert.Proof.Spec (at1 col16 col4 col1 norm)

variable (m : (ℓ : Loc nD τ sig) → Buf (Elt Ideal) ℓ) (d : Dev nD)

/-! ### The norms' array -/

/-- The norms' three arrays, and the six norms of each row: three pairs side by side. -/
abbrev pairs (a10 a11 a12 : FVec Ideal S64x2 .f32) : List ((s : Shape) × (s.Idx → Ideal .f32)) := [⟨S64x2, a10⟩, ⟨S64x2, a11⟩, ⟨S64x2, a12⟩]
def six (a10 a11 a12 : FVec Ideal S64x2 .f32) : FVec Ideal S64x6 .f32 := concatenate S64x6 1 (pairs a10 a11 a12) concatenates_S64x2_S64x2_S64x2_S64x6_d1

/-- The array of norms the call reads: sixteen copies of each of a row's six. -/
def norms (a10 a11 a12 : FVec Ideal S64x2 .f32) : FVec Ideal S64x96 .f32 :=
  shapeCast S64x96 (broadcastInDim S64x6x16 ![0, 1] bcast_S64x6_S64x6x16_0_1 (six a10 a11 a12)) shapeCasts_S64x6x16_S64x96

theorem V3_norms : V3 m d (dv main_v2)
    = norms (m ((SparseCore.T d).loc main_arg10)) (m ((SparseCore.T d).loc main_arg11)) (m ((SparseCore.T d).loc main_arg12)) := by
  have h2 := StableHlo.reshape_result (Val := Elt Ideal) main_v1 main_v2 (rfl : (.f32 : EltTy) = .f32) shapeCasts_S64x6x16_S64x96 (by decide) (by decide)
    (op1.result (op0.result (V0 m d)))
  have h1 : (op1 (F := Ideal)).result (op0.result (V0 m d)) (dv main_v1) = _ := StableHlo.unary_result main_v0 main_v1 _ _ _ _
  have h0 : (op0 (F := Ideal)).result (V0 m d) (dv main_v0) = _ := StableHlo.nary_result _ main_v0 _ _ _ _
  refine h2.trans ?_
  rw [h1, h0]
  rfl

variable (a10 a11 a12 : FVec Ideal S64x2 .f32) (r : Fin 64)

theorem norms_apply (k : Fin 6) (l : Fin 16) : norms a10 a11 a12 (ix2 r ⟨16 * k.val + l.val, by omega⟩) = six a10 a11 a12 (ix2 r k) := by
  refine (shapeCast_apply _ shapeCasts_S64x6x16_S64x96 _ (ix3 r k l) ?_).trans
    (broadcastInDim_apply _ bcast_S64x6_S64x6x16_0_1 _ _ (ix2 r k) fun a => by match a with | ⟨0, _⟩ => rfl | ⟨1, _⟩ => rfl)
  rw [Shape.rowMajor_val_two, Shape.rowMajor_val_three]
  show (r.val * 6 + k.val) * 16 + l.val = r.val * 96 + (16 * k.val + l.val)
  ring

/-- Pair `p` of the six norms of a row is its pair of array `p`. -/
theorem cat0 (k : Fin 2) : six a10 a11 a12 (ix2 r ⟨k.val, by omega⟩) = a10 (ix2 r k) :=
  concatenate_apply_piece (t := S64x6) 1 (pairs a10 a11 a12) concatenates_S64x2_S64x2_S64x2_S64x6_d1 (ix2 r ⟨k.val, by omega⟩) 0 (show 0 < 3 by decide) S64x2 a10 rfl rfl 0 rfl (ix2 r k)
    (fun b hb => by match b with | ⟨0, _⟩ => rfl | ⟨1, _⟩ => exact absurd rfl hb) (Nat.zero_add _)
theorem cat1 (k : Fin 2) : six a10 a11 a12 (ix2 r ⟨2 + k.val, by omega⟩) = a11 (ix2 r k) :=
  concatenate_apply_piece (t := S64x6) 1 (pairs a10 a11 a12) concatenates_S64x2_S64x2_S64x2_S64x6_d1 (ix2 r ⟨2 + k.val, by omega⟩) 1 (show 1 < 3 by decide) S64x2 a11 rfl rfl 2 rfl (ix2 r k)
    (fun b hb => by match b with | ⟨0, _⟩ => rfl | ⟨1, _⟩ => exact absurd rfl hb) rfl
theorem cat2 (k : Fin 2) : six a10 a11 a12 (ix2 r ⟨4 + k.val, by omega⟩) = a12 (ix2 r k) :=
  concatenate_apply_piece (t := S64x6) 1 (pairs a10 a11 a12) concatenates_S64x2_S64x2_S64x2_S64x6_d1 (ix2 r ⟨4 + k.val, by omega⟩) 2 (show 2 < 3 by decide) S64x2 a12 rfl rfl 4 rfl (ix2 r k)
    (fun b hb => by match b with | ⟨0, _⟩ => rfl | ⟨1, _⟩ => exact absurd rfl hb) rfl

/-! ### Indices of a row -/

theorem rix_at1 {N : ℕ} (hN : 0 < N) (p : Fin N) {n : ℕ} (h : n = p.val) : (rix r (at1 hN n) : (⟨2, ![64, N]⟩ : Shape).Idx) = ix2 r p := by
  subst h
  refine funext fun a => Fin.ext ?_
  match a with
  | ⟨0, _⟩ => rfl
  | ⟨1, _⟩ => exact Nat.mod_eq_of_lt p.isLt

/-! ### A segment's numbers -/

/-- The numbers of segment `t` of row `r`, of the reference's arrays. -/
def seg (s : Cert.ReferenceIdeal.Step.State Ideal) (r : Fin 64) (t : Fin 256) : Seg where
  m1 j := (s.main_v0_1 (ix2 r (col t j)) : EReal).toReal
  i1 j := ivE (s.main_v0_0 (ix2 r (col t j)))
  m4s g := (s.main_v0_5 (ix2 r (four t g)) : EReal).toReal
  i4s g := ivE (s.main_v0_4 (ix2 r (four t g)))
  m4m g := (s.main_v0_7 (ix2 r (four t g)) : EReal).toReal
  i4m g := ivE (s.main_v0_6 (ix2 r (four t g)))
  m16s := (s.main_v0_10 (ix2 r t) : EReal).toReal
  i16s := ivE (s.main_v0_9 (ix2 r t))
  m16m := (s.main_v0_12 (ix2 r t) : EReal).toReal
  i16m := ivE (s.main_v0_11 (ix2 r t))
  n0 := (s.main_v0_2 (ix2 r 0) : EReal).toReal
  h := (s.main_v0_2 (ix2 r 1) : EReal).toReal + 1 / 2
  n4 := (s.main_v0_3 (ix2 r 0) : EReal).toReal
  r4 := inv (s.main_v0_3 (ix2 r 1) + ((1 / 2 : ℝ) : EReal))
  n16 := (s.main_v0_8 (ix2 r 0) : EReal).toReal
  r16 := inv (s.main_v0_8 (ix2 r 1) + ((1 / 2 : ℝ) : EReal))

/-- A state of tame arrays. -/
abbrev TameS (s : Cert.ReferenceIdeal.Step.State Ideal) : Prop :=
  Tame s.main_v0_1 s.main_v0_5 s.main_v0_7 s.main_v0_10 s.main_v0_12 s.main_v0_2 s.main_v0_3 s.main_v0_8

theorem stateAt {s : Cert.ReferenceIdeal.Step.State Ideal} (H : TameS s) (hs : s.main_v0_14 = s.main_v0_1) (r : Fin 64) (t : Fin 256) :
    StateAt s r t (seg s r t) (seg s r t).m1 where
  ex _ := by rw [hs]; exact H.m1 _
  i1 _ := rfl
  m1 _ := H.m1 _
  h := (H.n1 _).of_eq (by simp [seg])
  n0 := H.n1 _
  n4 := H.n4 r
  s4 := H.s4 r
  r4 := rfl
  i4s _ := rfl
  m4s _ := H.m4s _
  i4m _ := rfl
  m4m _ := H.m4m _
  n16 := H.n16 r
  s16 := H.s16 r
  r16 := rfl
  i16s := rfl
  m16s := H.m16s _
  i16m := rfl
  m16m := H.m16m _

/-! ### A row of the kernel's operands -/

/-- The reference's arrays, where it is given the kernel's arguments. -/
abbrev start : Cert.ReferenceIdeal.Step.State Ideal :=
  Cert.ReferenceIdeal.Step.init (m ((SparseCore.T d).loc main_arg0)) (m ((SparseCore.T d).loc main_arg1)) (m ((SparseCore.T d).loc main_arg10))
    (m ((SparseCore.T d).loc main_arg11)) (m ((SparseCore.T d).loc main_arg3)) (m ((SparseCore.T d).loc main_arg2))
    (m ((SparseCore.T d).loc main_arg5)) (m ((SparseCore.T d).loc main_arg4)) (m ((SparseCore.T d).loc main_arg12))
    (m ((SparseCore.T d).loc main_arg7)) (m ((SparseCore.T d).loc main_arg6)) (m ((SparseCore.T d).loc main_arg9))
    (m ((SparseCore.T d).loc main_arg8))

/-- Lane `l` of chunk `c`, as a segment of the row. -/
def segNo (c l : Fin 16) : Fin 256 := ⟨16 * c.val + l.val, by omega⟩

section Row

variable (c l : Fin 16)

theorem col16_eq (x : FVec Ideal S64x4096 .f32) (j : Fin 16) :
    col16 (fun p => x (rix r p)) c j.val (ix1 l) = x (ix2 r (col (segNo c l) j)) :=
  congrArg x (rix_at1 r _ (col (segNo c l) j) (by show 256 * c.val + 16 * l.val + j.val = 16 * (16 * c.val + l.val) + j.val; ring))
theorem col4_eq (x : FVec Ideal S64x1024 .f32) (g : Fin 4) :
    col4 (fun p => x (rix r p)) c g.val (ix1 l) = x (ix2 r (four (segNo c l) g)) :=
  congrArg x (rix_at1 r _ (four (segNo c l) g) (by show 64 * c.val + 4 * l.val + g.val = 4 * (16 * c.val + l.val) + g.val; ring))
theorem col1_eq (x : FVec Ideal S64x256 .f32) : col1 (fun p => x (rix r p)) c (ix1 l) = x (ix2 r (segNo c l)) :=
  congrArg x (rix_at1 r _ (segNo c l) rfl)
theorem norm_eq (k : Fin 6) : norm (rowOf tileArgs (opd m d) r).nb k.val (ix1 l)
    = six (m ((SparseCore.T d).loc main_arg10)) (m ((SparseCore.T d).loc main_arg11)) (m ((SparseCore.T d).loc main_arg12)) (ix2 r k) := by
  refine Eq.trans ?_ (norms_apply _ _ _ r k l)
  rw [← V3_norms]
  exact congrArg (V3 m d (dv main_v2) : FVec Ideal S64x96 .f32) (rix_at1 r _ ⟨16 * k.val + l.val, by omega⟩ rfl)

/-- Row `r` of the operands, at a segment. -/
theorem rowAt (H : TameS (start m d)) : RowAt (rowOf tileArgs (opd m d) r) c.val (ix1 l) (seg (start m d) r (segNo c l)) where
  m1 j := (H.m1 _).read (col16_eq r c l _ j)
  i1 j := congrArg ivE (col16_eq r c l _ j)
  m4s g := (H.m4s _).read (col4_eq r c l _ g)
  i4s g := congrArg ivE (col4_eq r c l _ g)
  m4m g := (H.m4m _).read (col4_eq r c l _ g)
  i4m g := congrArg ivE (col4_eq r c l _ g)
  m16s := (H.m16s _).read (col1_eq r c l _)
  i16s := congrArg ivE (col1_eq r c l _)
  m16m := (H.m16m _).read (col1_eq r c l _)
  i16m := congrArg ivE (col1_eq r c l _)
  n0 := (H.n1 _).read ((norm_eq m d r l 0).trans (cat0 _ _ _ r 0))
  h := ((H.n1 _).read ((norm_eq m d r l 1).trans (cat0 _ _ _ r 1))).add (At.kf whalf _)
  n4 := (H.n4 r).read ((norm_eq m d r l 2).trans (cat1 _ _ _ r 0))
  s4 e := H.s4 r ((congrArg (· + ((1 / 2 : ℝ) : EReal)) ((norm_eq m d r l 3).trans (cat1 _ _ _ r 1))).symm.trans e)
  r4 := congrArg (fun x : EReal => inv (x + ((1 / 2 : ℝ) : EReal))) ((norm_eq m d r l 3).trans (cat1 _ _ _ r 1))
  n16 := (H.n16 r).read ((norm_eq m d r l 4).trans (cat2 _ _ _ r 0))
  s16 e := H.s16 r ((congrArg (· + ((1 / 2 : ℝ) : EReal)) ((norm_eq m d r l 5).trans (cat2 _ _ _ r 1))).symm.trans e)
  r16 := congrArg (fun x : EReal => inv (x + ((1 / 2 : ℝ) : EReal))) ((norm_eq m d r l 5).trans (cat2 _ _ _ r 1))

end Row

theorem walk_iter (S : Seg) : ∀ n : ℕ, walk S n = (stepE S)^[n] S.m1
  | 0 => rfl
  | n + 1 => by rw [Function.iterate_succ_apply', ← walk_iter S n]; rfl

/-! ### The results -/

/-- The first result: the kernel's ten pairs of steps on the displacements are the reference's twenty on the columns. -/
theorem ex_eq (H : TameS (start m d)) : exAll (opd m d) = (RefFrame.state (start m d) 20).main_v0_14 := by
  have key : ∀ (r : Fin 64) (p : Fin 4096), exAll (opd m d) (ix2 r p) = (RefFrame.state (start m d) 20).main_v0_14 (ix2 r p) := by
    intro r p
    have hc : p.val / 256 < 16 := by omega
    have hl : p.val % 256 / 16 < 16 := by omega
    have hj : p.val % 16 < 16 := by omega
    have hp : p = col (segNo ⟨_, hc⟩ ⟨_, hl⟩) ⟨_, hj⟩ := Fin.ext (by
      show p.val = 16 * (16 * (p.val / 256) + p.val % 256 / 16) + p.val % 16
      omega)
    have hk := at_ex (rowAt m d r ⟨_, hc⟩ ⟨_, hl⟩ H) ⟨_, hj⟩
    have hr := (at_state (stateAt H rfl r (segNo ⟨_, hc⟩ ⟨_, hl⟩)) 20).ex ⟨_, hj⟩
    rw [← walk_iter, show (20 : ℕ) = 2 * 10 from rfl, walk_eq, ← hp] at hr
    refine Eq.trans ?_ (Eq.trans hk hr.symm)
    show Spec.exAt _ (p.val / 256) _ (Spec.lane (p.val % 256 / 16)) = _
    have hlane : Spec.lane (p.val % 256 / 16) = ix1 ⟨_, hl⟩ := funext fun a => Fin.ext (by
      match a with | ⟨0, _⟩ => exact Nat.mod_eq_of_lt hl)
    rw [hlane]
    rfl
  funext x
  have hx : x = ix2 (x 0) (x 1) := funext fun a => by match a with | ⟨0, _⟩ => rfl | ⟨1, _⟩ => rfl
  rw [hx]
  exact key _ _

/-- The second result: half more than a raw deviation's size. -/
theorem sd_eq (s : Cert.ReferenceIdeal.Step.State Ideal) :
    sdAll (opd m d) = Cert.ReferenceIdeal.Step.R_main_v3 s (m ((SparseCore.T d).loc main_arg1)) := by
  have key : ∀ (r : Fin 64) (p : Fin 4096), sdAll (opd m d) (ix2 r p)
      = Cert.ReferenceIdeal.Step.R_main_v3 s (m ((SparseCore.T d).loc main_arg1)) (ix2 r p) := by
    intro r p
    have hc : p.val / 256 < 16 := by omega
    have hl : p.val % 256 / 16 < 16 := by omega
    have hj : p.val % 16 < 16 := by omega
    have hp : p = col (segNo ⟨_, hc⟩ ⟨_, hl⟩) ⟨_, hj⟩ := Fin.ext (by
      show p.val = 16 * (16 * (p.val / 256) + p.val % 256 / 16) + p.val % 16
      omega)
    show Spec.dev (col16 (rowOf tileArgs (opd m d) r).s1 (p.val / 256) (p.val % 16)) (Spec.lane (p.val % 256 / 16)) = _
    have hlane : Spec.lane (p.val % 256 / 16) = ix1 ⟨_, hl⟩ := funext fun a => Fin.ext (by
      match a with | ⟨0, _⟩ => exact Nat.mod_eq_of_lt hl)
    have h := col16_eq r ⟨_, hc⟩ ⟨_, hl⟩ (m ((SparseCore.T d).loc main_arg1)) ⟨_, hj⟩
    rw [← hp] at h
    rw [hlane, dev_apply]
    refine (congrArg devE h).trans ?_
    let x1 : S64x4096.Idx → EReal := m ((SparseCore.T d).loc main_arg1)
    exact (congrArg (fun h : EReal => max (x1 (ix2 r p)) (-(x1 (ix2 r p))) + h) whalf).symm
  funext x
  have hx : x = ix2 (x 0) (x 1) := funext fun a => by match a with | ⟨0, _⟩ => rfl | ⟨1, _⟩ => rfl
  rw [hx]
  exact key _ _

/-- From equal tame arguments the kernel's idealised form and the reference end with equal results, and with their arguments
    as they were. -/
theorem algebraic : Cert.algebraic_KernelIdeal_ReferenceIdeal_pre_tame := by
  intro m g m' g' hpre hargs
  have tame : ∀ c, TameS (start m c) := fun c => tame_of _ _ _ _ _ _ _ _ _ _ _ _ _ (hpre c)
  have hstart : ∀ c, Cert.ReferenceIdeal.StepRun.initState m' c = start m c := by
    intro c
    obtain ⟨h0, h1, h2, h3, h4, h5, h6, h7, h8, h9, h10, h11, h12⟩ := hargs c
    have h := congr (congr (congr (congr (congr (congr (congr (congr (congr (congr (congr (congr (congrArg Cert.ReferenceIdeal.Step.init h0) h1) h10) h11)
      h3) h2) h5) h4) h12) h7) h6) h9) h8
    exact h
  refine ⟨fun c => exAll (opd m c), fun c => sdAll (opd m c), ?_, ?_⟩
  · refine (θ_run Cert.KernelIdeal.defs _ _).mono (fun _ h c => ?_) (run_main (F := Ideal) m g)
    obtain ⟨h0, h1, h2, h3, h4, h5, h6, h7, h8, h9, h10, h11, h12, h13, h14⟩ := h.1 c
    exact ⟨h13, h14, h0, h1, h2, h3, h4, h5, h6, h7, h8, h9, h10, h11, h12⟩
  · refine (θ_run Cert.ReferenceIdeal.defs _ _).mono (fun _ h c => ?_) (Cert.ReferenceIdeal.StepRun.run_iter (F := Ideal) m' g'
      (fun c => RefFrame.state (Cert.ReferenceIdeal.StepRun.initState m' c)) (fun _ => rfl) (fun _ _ => rfl))
    obtain ⟨hex, hsd, hrest⟩ := h c
    refine ⟨hex.trans ?_, hsd.trans ?_, hrest⟩
    · show (RefFrame.state (Cert.ReferenceIdeal.StepRun.initState m' c) 20).main_v0_14 = _
      rw [hstart c]
      exact (ex_eq m c (tame c)).symm
    · rw [(hargs c).2.1]
      exact (sd_eq m c _).symm

end Cert.Proof.Algebra

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.StepRun
public import proofs.«01_k».proof.Proof.Gen.Pre_tame
public import proofs.«01_k».proof.Proof.Frames
public import proofs.«01_k».proof.Proof.RefFrame
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tame.Gen.facts,
  Frames.frame_Kernel, Frames.frame_KernelIdeal, fun m g _ => Frames.frame_KernelIdeal m g trivial,
  RefFrame.frame_ReferenceIdeal, fun m g _ => RefFrame.frame_ReferenceIdeal m g trivial, Frames.preserves, Algebra.algebraic⟩

end Cert.Proof

end
